-- ==== Defs.lean ====
def Pre_Kernel [hPre_fits : Cert.Pre_fits.Facts] (m : (ℓ : Loc Cert.Kernel.nD Cert.Kernel.τ Cert.Kernel.sig) → Buf (Elt Bits) ℓ) : Prop :=
  ∀ c : Dev Cert.Kernel.nD,
    (Cert.Pre_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_fits : Cert.Pre_fits.Facts] (m : (ℓ : Loc Cert.KernelIdeal.nD Cert.KernelIdeal.τ Cert.KernelIdeal.sig) → Buf (Elt Ideal) ℓ) : Prop :=
  ∀ c : Dev Cert.KernelIdeal.nD,
    (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_needs [hPre_needs : Cert.Pre_needs.Facts] (m : (ℓ : Loc Cert.KernelIdeal.nD Cert.KernelIdeal.τ Cert.KernelIdeal.sig) → Buf (Elt Ideal) ℓ) : Prop :=
  ∀ c : Dev Cert.KernelIdeal.nD,
    (Cert.Pre_needs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_needs [hPre_needs : Cert.Pre_needs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_needs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_fits : Cert.Pre_fits.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_needs [hKernelIdeal : Cert.KernelIdeal.Facts] [hPre_needs : Cert.Pre_needs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_needs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_needs [hReferenceIdeal : Cert.ReferenceIdeal.Facts] [hPre_needs : Cert.Pre_needs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_needs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_needs [hKernelIdeal : Cert.KernelIdeal.Facts] [hReferenceIdeal : Cert.ReferenceIdeal.Facts] [hPre_needs : Cert.Pre_needs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_needs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_fits : Cert.Pre_fits.Facts) (hPre_needs : Cert.Pre_needs.Facts),
    quiescent_Kernel (hKernel := hKernel) (hPre_fits := hPre_fits)
    ∧ quiescent_KernelIdeal (hKernelIdeal := hKernelIdeal) (hPre_fits := hPre_fits)
    ∧ quiescent_KernelIdeal_pre_needs (hKernelIdeal := hKernelIdeal) (hPre_needs := hPre_needs)
    ∧ quiescent_ReferenceIdeal (hReferenceIdeal := hReferenceIdeal)
    ∧ quiescent_ReferenceIdeal_pre_needs (hReferenceIdeal := hReferenceIdeal) (hPre_needs := hPre_needs)
    ∧ preserves_Kernel_KernelIdeal
    ∧ algebraic_KernelIdeal_ReferenceIdeal_pre_needs (hKernelIdeal := hKernelIdeal) (hReferenceIdeal := hReferenceIdeal) (hPre_needs := hPre_needs)
-- ==== Pre_fits.lean ====
abbrev S8x1024x64x64 : Shape := ⟨4, ![8, 1024, 64, 64]⟩
abbrev S8x16384x64x64 : Shape := ⟨4, ![8, 16384, 64, 64]⟩
abbrev S8x64x64 : Shape := ⟨3, ![8, 64, 64]⟩
abbrev S8x16384x64 : Shape := ⟨3, ![8, 16384, 64]⟩
abbrev S8 : Shape := ⟨1, ![8]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S8x1024x64x64 .bf16) (main_arg1 : FVec F S8x1024x64x64 .bf16) (main_arg2 : FVec F S8x1024x64x64 .bf16) (main_arg3 : FVec F S8x16384x64x64 .fp8e4m3) (main_arg4 : FVec F S8x16384x64x64 .fp8e4m3) (main_arg5 : FVec F S8x64x64 .f32) (main_arg6 : FVec F S8x16384x64 .f32) (main_arg7 : IVec S8 32) : IVec S_ 1 :=
  let main_c : IVec S_ 32 := constantI S_ 32 16384#32
  let main_v0 : IVec S8 32 := broadcastInDim S8 ![] bcast_S_S8 main_c
  let main_v1 : IVec S8 1 := cmpi .sle main_arg7 main_v0
  let main_c_0 : IVec S_ 1 := constantI S_ 1 1#1
  let main_v2 : IVec S_ 1 := (fun x v => Host.reduce IntOp.andi x v reducesTo_S8_S_d0 h_S_) main_v1 main_c_0
  main_v2
-- ==== Pre_needs.lean ====
abbrev S8x1024x64x64 : Shape := ⟨4, ![8, 1024, 64, 64]⟩
abbrev S8x16384x64x64 : Shape := ⟨4, ![8, 16384, 64, 64]⟩
abbrev S8x64x64 : Shape := ⟨3, ![8, 64, 64]⟩
abbrev S8x16384x64 : Shape := ⟨3, ![8, 16384, 64]⟩
abbrev S8 : Shape := ⟨1, ![8]⟩
abbrev S_ : Shape := ⟨0, ![]⟩

class Facts : Prop where
  bitsLt_bf16_f32 : FTy.bits .bf16 < FTy.bits .f32
  bcast_S_S8x1024x64x64 : S_.BroadcastsInDim S8x1024x64x64 (![] : Fin 0 → Fin S8x1024x64x64.rank)
  reducesTo_S8x1024x64x64_S_d0_1_2_3 : S8x1024x64x64.ReducesTo [0, 1, 2, 3] S_
  h_S_ : 0 < S_.numel
  bcast_S_S8 : S_.BroadcastsInDim S8 (![] : Fin 0 → Fin S8.rank)
  reducesTo_S8_S_d0 : S8.ReducesTo [0] S_

variable [Facts]

def fn_part1 {F : FTy → Type} [FloatOps F] (main_arg7 : IVec S8 32) (main_v16 : IVec S_ 1) (main_c_4 : IVec S_ 32) : IVec S_ 1 :=
  let main_v17 : IVec S8 32 := broadcastInDim S8 ![] bcast_S_S8 main_c_4
  let main_v18 : IVec S8 1 := cmpi .sle main_arg7 main_v17
  let main_c_5 : IVec S_ 1 := constantI S_ 1 1#1
  let main_v19 : IVec S_ 1 := (fun x v => Host.reduce IntOp.andi x v reducesTo_S8_S_d0 h_S_) main_v18 main_c_5
  let main_v20 : IVec S_ 1 := andi main_v16 main_v19
  main_v20

def fn {F : FTy → Type} [FloatOps F] (main_arg0 : FVec F S8x1024x64x64 .bf16) (main_arg1 : FVec F S8x1024x64x64 .bf16) (main_arg2 : FVec F S8x1024x64x64 .bf16) (main_arg3 : FVec F S8x16384x64x64 .fp8e4m3) (main_arg4 : FVec F S8x16384x64x64 .fp8e4m3) (main_arg5 : FVec F S8x64x64 .f32) (main_arg6 : FVec F S8x16384x64 .f32) (main_arg7 : IVec S8 32) : IVec S_ 1 :=
  let main_v0 : FVec F S8x1024x64x64 .f32 := (extf .f32 · bitsLt_bf16_f32) main_arg0
  let main_v1 : FVec F S8x1024x64x64 .f32 := Host.absf main_v0
  let main_cst : FVec F S_ .f32 := constant S_ .f32 0x7F7F0000#32
  let main_v2 : FVec F S8x1024x64x64 .f32 := broadcastInDim S8x1024x64x64 ![] bcast_S_S8x1024x64x64 main_cst
  let main_v3 : IVec S8x1024x64x64 1 := cmpf .ole main_v1 main_v2
  let main_c : IVec S_ 1 := constantI S_ 1 1#1
  let main_v4 : IVec S_ 1 := (fun x v => Host.reduce IntOp.andi x v reducesTo_S8x1024x64x64_S_d0_1_2_3 h_S_) main_v3 main_c
  let main_v5 : FVec F S8x1024x64x64 .f32 := (extf .f32 · bitsLt_bf16_f32) main_arg1
  let main_v6 : FVec F S8x1024x64x64 .f32 := Host.absf main_v5
  let main_cst_0 : FVec F S_ .f32 := constant S_ .f32 0x7F7F0000#32
  let main_v7 : FVec F S8x1024x64x64 .f32 := broadcastInDim S8x1024x64x64 ![] bcast_S_S8x1024x64x64 main_cst_0
  let main_v8 : IVec S8x1024x64x64 1 := cmpf .ole main_v6 main_v7
  let main_c_1 : IVec S_ 1 := constantI S_ 1 1#1
  let main_v9 : IVec S_ 1 := (fun x v => Host.reduce IntOp.andi x v reducesTo_S8x1024x64x64_S_d0_1_2_3 h_S_) main_v8 main_c_1
  let main_v10 : IVec S_ 1 := andi main_v4 main_v9
  let main_v11 : FVec F S8x1024x64x64 .f32 := (extf .f32 · bitsLt_bf16_f32) main_arg2
  let main_v12 : FVec F S8x1024x64x64 .f32 := Host.absf main_v11
  let main_cst_2 : FVec F S_ .f32 := constant S_ .f32 0x7F7F0000#32
  let main_v13 : FVec F S8x1024x64x64 .f32 := broadcastInDim S8x1024x64x64 ![] bcast_S_S8x1024x64x64 main_cst_2
  let main_v14 : IVec S8x1024x64x64 1 := cmpf .ole main_v12 main_v13
  let main_c_3 : IVec S_ 1 := constantI S_ 1 1#1
  let main_v15 : IVec S_ 1 := (fun x v => Host.reduce IntOp.andi x v reducesTo_S8x1024x64x64_S_d0_1_2_3 h_S_) main_v14 main_c_3
  let main_v16 : IVec S_ 1 := andi main_v10 main_v15
  let main_c_4 : IVec S_ 32 := constantI S_ 32 16384#32
  fn_part1 (F := F) main_arg7 main_v16 main_c_4
-- ==== Kernel.lean ====
abbrev S8x1024x64x64 : Shape := ⟨4, ![8, 1024, 64, 64]⟩
abbrev S8x16384x64x64 : Shape := ⟨4, ![8, 16384, 64, 64]⟩
abbrev S8x64x64 : Shape := ⟨3, ![8, 64, 64]⟩
abbrev S8x16384x64 : Shape := ⟨3, ![8, 16384, 64]⟩
abbrev S8 : Shape := ⟨1, ![8]⟩
abbrev S8x64x64x1024 : Shape := ⟨4, ![8, 64, 64, 1024]⟩
abbrev S8x64x64x16384 : Shape := ⟨4, ![8, 64, 64, 16384]⟩
abbrev S8x64x16384 : Shape := ⟨3, ![8, 64, 16384]⟩
abbrev S8x1024x4096 : Shape := ⟨3, ![8, 1024, 4096]⟩
abbrev S8x64x1024 : Shape := ⟨3, ![8, 64, 1024]⟩
abbrev S1x2x64x1024 : Shape := ⟨4, ![1, 2, 64, 1024]⟩
abbrev S1x2x64x16384 : Shape := ⟨4, ![1, 2, 64, 16384]⟩
abbrev S1x8x64 : Shape := ⟨3, ![1, 8, 64]⟩
abbrev S1x8x16384 : Shape := ⟨3, ![1, 8, 16384]⟩
abbrev S1x1024x128 : Shape := ⟨3, ![1, 1024, 128]⟩
abbrev S1x8x1024 : Shape := ⟨3, ![1, 8, 1024]⟩
abbrev S64x1024 : Shape := ⟨2, ![64, 1024]⟩
abbrev S1x1024 : Shape := ⟨2, ![1, 1024]⟩
abbrev S1 : Shape := ⟨1, ![1]⟩
abbrev S1x1x64x1024 : Shape := ⟨4, ![1, 1, 64, 1024]⟩
abbrev S1024 : Shape := ⟨1, ![1024]⟩
abbrev S64 : Shape := ⟨1, ![64]⟩
abbrev S64x1 : Shape := ⟨2, ![64, 1]⟩
abbrev S1x1x1024 : Shape := ⟨3, ![1, 1, 1024]⟩
abbrev S64x64 : Shape := ⟨2, ![64, 64]⟩
abbrev S1x64 : Shape := ⟨2, ![1, 64]⟩
abbrev S1x1x64 : Shape := ⟨3, ![1, 1, 64]⟩
abbrev S1x1x64x512 : Shape := ⟨4, ![1, 1, 64, 512]⟩
abbrev S64x512 : Shape := ⟨2, ![64, 512]⟩
abbrev S1x1x512 : Shape := ⟨3, ![1, 1, 512]⟩
abbrev S1x512 : Shape := ⟨2, ![1, 512]⟩
abbrev S512x1024 : Shape := ⟨2, ![512, 1024]⟩
abbrev S512x1 : Shape := ⟨2, ![512, 1]⟩
abbrev S64x256 : Shape := ⟨2, ![64, 256]⟩
abbrev S256x1024 : Shape := ⟨2, ![256, 1024]⟩
abbrev S64x768 : Shape := ⟨2, ![64, 768]⟩
abbrev S256x768 : Shape := ⟨2, ![256, 768]⟩
abbrev S1x768 : Shape := ⟨2, ![1, 768]⟩
abbrev S768 : Shape := ⟨1, ![768]⟩
abbrev S256x512 : Shape := ⟨2, ![256, 512]⟩
abbrev S512 : Shape := ⟨1, ![512]⟩
abbrev S256x256 : Shape := ⟨2, ![256, 256]⟩
abbrev S1x256 : Shape := ⟨2, ![1, 256]⟩
abbrev S256 : Shape := ⟨1, ![256]⟩
abbrev S1024x64 : Shape := ⟨2, ![1024, 64]⟩
abbrev S1x1024x64 : Shape := ⟨3, ![1, 1024, 64]⟩

abbrev nBuf : Space → Nat
  | .hbm => 20
  | .vmem => 34
  | .smem => 1
  | _ => 0

abbrev bufTy : (tb : Table) → Fin (tcTables nBuf tb) → BufTy
  | .hbm, ⟨0, _⟩ => ⟨S8x1024x64x64, .bf16⟩
  | .hbm, ⟨1, _⟩ => ⟨S8x1024x64x64, .bf16⟩
  | .hbm, ⟨2, _⟩ => ⟨S8x1024x64x64, .bf16⟩
  | .hbm, ⟨3, _⟩ => ⟨S8x16384x64x64, .fp8e4m3⟩
  | .hbm, ⟨4, _⟩ => ⟨S8x16384x64x64, .fp8e4m3⟩
  | .hbm, ⟨5, _⟩ => ⟨S8x64x64, .f32⟩
  | .hbm, ⟨6, _⟩ => ⟨S8x16384x64, .f32⟩
  | .hbm, ⟨7, _⟩ => ⟨S8x64x64x1024, .bf16⟩
  | .hbm, ⟨8, _⟩ => ⟨S8x64x64x1024, .bf16⟩
  | .hbm, ⟨9, _⟩ => ⟨S8x64x64x1024, .bf16⟩
  | .hbm, ⟨10, _⟩ => ⟨S8x64x64x16384, .fp8e4m3⟩
  | .hbm, ⟨11, _⟩ => ⟨S8x64x64x16384, .fp8e4m3⟩
  | .hbm, ⟨12, _⟩ => ⟨S8x64x16384, .f32⟩
  | .hbm, ⟨13, _⟩ => ⟨S8x1024x4096, .bf16⟩
  | .hbm, ⟨14, _⟩ => ⟨S8x64x64x1024, .fp8e4m3⟩
  | .hbm, ⟨15, _⟩ => ⟨S8x64x1024, .f32⟩
  | .hbm, ⟨16, _⟩ => ⟨S8x64x64x1024, .fp8e4m3⟩
  | .hbm, ⟨17, _⟩ => ⟨S8x64x64, .f32⟩
  | .hbm, ⟨18, _⟩ => ⟨S8x64x64x1024, .fp8e4m3⟩
  | .hbm, ⟨19, _⟩ => ⟨S8x64x1024, .f32⟩
  | .local _ .vmem, ⟨0, _⟩ => ⟨S1x2x64x1024, .bf16⟩
  | .local _ .vmem, ⟨1, _⟩ => ⟨S1x2x64x1024, .bf16⟩
  | .local _ .vmem, ⟨2, _⟩ => ⟨S1x2x64x1024, .bf16⟩
  | .local _ .vmem, ⟨3, _⟩ => ⟨S1x2x64x1024, .bf16⟩
  | .local _ .vmem, ⟨4, _⟩ => ⟨S1x2x64x1024, .bf16⟩
  | .local _ .vmem, ⟨5, _⟩ => ⟨S1x2x64x1024, .bf16⟩
  | .local _ .vmem, ⟨6, _⟩ => ⟨S1x2x64x16384, .fp8e4m3⟩
  | .local _ .vmem, ⟨7, _⟩ => ⟨S1x2x64x16384, .fp8e4m3⟩
  | .local _ .vmem, ⟨8, _⟩ => ⟨S1x2x64x16384, .fp8e4m3⟩
  | .local _ .vmem, ⟨9, _⟩ => ⟨S1x2x64x16384, .fp8e4m3⟩
  | .local _ .vmem, ⟨10, _⟩ => ⟨S1x8x64, .f32⟩
  | .local _ .vmem, ⟨11, _⟩ => ⟨S1x8x64, .f32⟩
  | .local _ .vmem, ⟨12, _⟩ => ⟨S1x8x16384, .f32⟩
  | .local _ .vmem, ⟨13, _⟩ => ⟨S1x8x16384, .f32⟩
  | .local _ .vmem, ⟨14, _⟩ => ⟨S1x1024x128, .bf16⟩
  | .local _ .vmem, ⟨15, _⟩ => ⟨S1x1024x128, .bf16⟩
  | .local _ .vmem, ⟨16, _⟩ => ⟨S1x2x64x1024, .fp8e4m3⟩
  | .local _ .vmem, ⟨17, _⟩ => ⟨S1x2x64x1024, .fp8e4m3⟩
  | .local _ .vmem, ⟨18, _⟩ => ⟨S1x8x1024, .f32⟩
  | .local _ .vmem, ⟨19, _⟩ => ⟨S1x8x1024, .f32⟩
  | .local _ .vmem, ⟨20, _⟩ => ⟨S1x2x64x1024, .fp8e4m3⟩
  | .local _ .vmem, ⟨21, _⟩ => ⟨S1x2x64x1024, .fp8e4m3⟩
  | .local _ .vmem, ⟨22, _⟩ => ⟨S1x8x64, .f32⟩
  | .local _ .vmem, ⟨23, _⟩ => ⟨S1x8x64, .f32⟩
  | .local _ .vmem, ⟨24, _⟩ => ⟨S1x2x64x1024, .fp8e4m3⟩
  | .local _ .vmem, ⟨25, _⟩ => ⟨S1x2x64x1024, .fp8e4m3⟩
  | .local _ .vmem, ⟨26, _⟩ => ⟨S1x8x1024, .f32⟩
  | .local _ .vmem, ⟨27, _⟩ => ⟨S1x8x1024, .f32⟩
  | .local _ .vmem, ⟨28, _⟩ => ⟨S64x1024, .bf16⟩
  | .local _ .vmem, ⟨29, _⟩ => ⟨S64x1024, .bf16⟩
  | .local _ .vmem, ⟨30, _⟩ => ⟨S64x1024, .bf16⟩
  | .local _ .vmem, ⟨31, _⟩ => ⟨S64x1024, .f32⟩
  | .local _ .vmem, ⟨32, _⟩ => ⟨S1x1024, .f32⟩
  | .local _ .vmem, ⟨33, _⟩ => ⟨S1x1024, .f32⟩
  | .local _ .smem, ⟨0, _⟩ => ⟨S8, .i32⟩
  | _, _ => ⟨S8x1024x64x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev main_v6_6 : Ref sig .tc := ⟨.hbm, 19, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 32], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 3 → Nat :=
  let c0_105 : Index := 0#32
  let arg1 : BitVec 32 := BitVec.ofNat 32 (i 1).val
  let c2_i32 : BitVec 32 := 2#32
  let v2 : BitVec 32 := Scalar.muli arg1 c2_i32
  let c0_i32 : BitVec 32 := 0#32
  let v3 : BitVec 32 := Scalar.addi v2 c0_i32
  let c8_i32 : BitVec 32 := 8#32
  let c0_i32_0 : BitVec 32 := 0#32
  let v4 : BitVec 1 := Scalar.cmpi .eq c8_i32 c0_i32_0
  let c1_i32 : BitVec 32 := 1#32
  let v5 : BitVec 32 := Scalar.select v4 c1_i32 c8_i32
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let v293 : Index := Scalar.indexCast v13
  let c0_106 : Index := 0#32
  ![0, v293.toNat, 0]
def k0_off3 (i : grid0.Coords) : Fin 3 → Nat :=
  let c0_111 : Index := 0#32
  let arg1 : BitVec 32 := BitVec.ofNat 32 (i 1).val
  let c2_i32 : BitVec 32 := 2#32
  let v2 : BitVec 32 := Scalar.muli arg1 c2_i32
  let c0_i32 : BitVec 32 := 0#32
  let v3 : BitVec 32 := Scalar.addi v2 c0_i32
  let c8_i32 : BitVec 32 := 8#32
  let c0_i32_0 : BitVec 32 := 0#32
  let v4 : BitVec 1 := Scalar.cmpi .eq c8_i32 c0_i32_0
  let c1_i32 : BitVec 32 := 1#32
  let v5 : BitVec 32 := Scalar.select v4 c1_i32 c8_i32
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let v310 : Index := Scalar.indexCast v13
  let c0_112 : Index := 0#32
  ![0, v310.toNat, 0]
@[reducible] def k0_t1_loop (v1 : BitVec 32) : Scf.Loop 32 :=
  let c0_i32_141 : BitVec 32 := 0#32
  let c512_i32 : BitVec 32 := 512#32
  let v362 : BitVec 32 := Scalar.addi v1 c512_i32
  let c1_i32_133 : BitVec 32 := 1#32
  let v363 : BitVec 32 := Scalar.subi v362 c1_i32_133
  let c0_i32_135 : BitVec 32 := 0#32
  let v365 : BitVec 1 := Scalar.cmpi .sgt v363 c0_i32_135
  let v366 : BitVec 32 := Scalar.extui v365
  let c0_i32_136 : BitVec 32 := 0#32
  let v367 : BitVec 1 := Scalar.cmpi .slt v363 c0_i32_136
  let v368 : BitVec 32 := Scalar.extui v367
  let v369 : BitVec 32 := Scalar.subi v366 v368
  let c512_i32_134 : BitVec 32 := 512#32
  let c0_i32_137 : BitVec 32 := 0#32
  let v370 : BitVec 1 := Scalar.cmpi .sgt c512_i32_134 c0_i32_137
  let v371 : BitVec 32 := Scalar.extui v370
  let c0_i32_138 : BitVec 32 := 0#32
  let v372 : BitVec 1 := Scalar.cmpi .slt c512_i32_134 c0_i32_138
  let v373 : BitVec 32 := Scalar.extui v372
  let v374 : BitVec 32 := Scalar.subi v371 v373
  let v375 : BitVec 1 := Scalar.cmpi .ne v369 v374
  let v376 : BitVec 32 := Scalar.remsi v363 c512_i32_134
  let c0_i32_139 : BitVec 32 := 0#32
  let v377 : BitVec 1 := Scalar.cmpi .ne v376 c0_i32_139
  let v378 : BitVec 1 := Scalar.andi v375 v377
  let v364 : BitVec 32 := Scalar.divsi v363 c512_i32_134
  let c1_i32_140 : BitVec 32 := 1#32
  let v379 : BitVec 32 := Scalar.subi v364 c1_i32_140
  let v380 : BitVec 32 := Scalar.select v378 v379 v364
  let v381 : BitVec 32 := Scalar.subi v380 c0_i32_141
  let c1_i32_143 : BitVec 32 := 1#32
  let v383 : BitVec 32 := Scalar.divsi v381 c1_i32_143
  let v384 : BitVec 32 := Scalar.muli v383 c1_i32_143
  let v385 : BitVec 32 := Scalar.addi c0_i32_141 v384
  let c1_i32_144 : BitVec 32 := 1#32
  ⟨c0_i32_141, v385, c1_i32_144⟩

def k0_mult1 (v1 : BitVec 32) (k0_t1 : Fin (k0_t1_loop v1).trips) : BitVec 32 :=
  let c0_i32_141 : BitVec 32 := 0#32
  let c1_i32_144 : BitVec 32 := 1#32
  let arg23 : BitVec 32 := Scf.iv c0_i32_141 c1_i32_144 k0_t1
  let c512_i32_500 : BitVec 32 := 512#32
  let v1096 : BitVec 32 := Scalar.muli arg23 c512_i32_500
  v1096
def k0_off4 (v1 : BitVec 32) (k0_t1 : Fin (k0_t1_loop v1).trips) : Fin 4 → Nat :=
  let c0_501 : Index := 0#32
  let c0_502 : Index := 0#32
  let c0_503 : Index := 0#32
  let c0_i32_141 : BitVec 32 := 0#32
  let c1_i32_144 : BitVec 32 := 1#32
  let arg23 : BitVec 32 := Scf.iv c0_i32_141 c1_i32_144 k0_t1
  let c512_i32_500 : BitVec 32 := 512#32
  let v1096 : BitVec 32 := Scalar.muli arg23 c512_i32_500
  let v1097 : BitVec 32 := v1096
  let v1098 : Index := Scalar.indexCast v1097
  ![0, 0, 0, v1098.toNat]
def k0_off5 (i : grid0.Coords) (v1 : BitVec 32) (k0_t1 : Fin (k0_t1_loop v1).trips) : Fin 3 → Nat :=
  let c0_507 : Index := 0#32
  let arg1 : BitVec 32 := BitVec.ofNat 32 (i 1).val
  let c2_i32 : BitVec 32 := 2#32
  let v2 : BitVec 32 := Scalar.muli arg1 c2_i32
  let c0_i32 : BitVec 32 := 0#32
  let v3 : BitVec 32 := Scalar.addi v2 c0_i32
  let c8_i32 : BitVec 32 := 8#32
  let c0_i32_0 : BitVec 32 := 0#32
  let v4 : BitVec 1 := Scalar.cmpi .eq c8_i32 c0_i32_0
  let c1_i32 : BitVec 32 := 1#32
  let v5 : BitVec 32 := Scalar.select v4 c1_i32 c8_i32
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let v1108 : Index := Scalar.indexCast v13
  let c0_i32_141 : BitVec 32 := 0#32
  let c1_i32_144 : BitVec 32 := 1#32
  let arg23 : BitVec 32 := Scf.iv c0_i32_141 c1_i32_144 k0_t1
  let c512_i32_500 : BitVec 32 := 512#32
  let v1096 : BitVec 32 := Scalar.muli arg23 c512_i32_500
  let v1097 : BitVec 32 := v1096
  let v1109 : Index := Scalar.indexCast v1097
  ![0, v1108.toNat, v1109.toNat]
@[reducible] def k0_t2_loop (v1 : BitVec 32) : Scf.Loop 32 :=
  let c0_i32_141 : BitVec 32 := 0#32
  let c512_i32 : BitVec 32 := 512#32
  let v362 : BitVec 32 := Scalar.addi v1 c512_i32
  let c1_i32_133 : BitVec 32 := 1#32
  let v363 : BitVec 32 := Scalar.subi v362 c1_i32_133
  let c0_i32_135 : BitVec 32 := 0#32
  let v365 : BitVec 1 := Scalar.cmpi .sgt v363 c0_i32_135
  let v366 : BitVec 32 := Scalar.extui v365
  let c0_i32_136 : BitVec 32 := 0#32
  let v367 : BitVec 1 := Scalar.cmpi .slt v363 c0_i32_136
  let v368 : BitVec 32 := Scalar.extui v367
  let v369 : BitVec 32 := Scalar.subi v366 v368
  let c512_i32_134 : BitVec 32 := 512#32
  let c0_i32_137 : BitVec 32 := 0#32
  let v370 : BitVec 1 := Scalar.cmpi .sgt c512_i32_134 c0_i32_137
  let v371 : BitVec 32 := Scalar.extui v370
  let c0_i32_138 : BitVec 32 := 0#32
  let v372 : BitVec 1 := Scalar.cmpi .slt c512_i32_134 c0_i32_138
  let v373 : BitVec 32 := Scalar.extui v372
  let v374 : BitVec 32 := Scalar.subi v371 v373
  let v375 : BitVec 1 := Scalar.cmpi .ne v369 v374
  let v376 : BitVec 32 := Scalar.remsi v363 c512_i32_134
  let c0_i32_139 : BitVec 32 := 0#32
  let v377 : BitVec 1 := Scalar.cmpi .ne v376 c0_i32_139
  let v378 : BitVec 1 := Scalar.andi v375 v377
  let v364 : BitVec 32 := Scalar.divsi v363 c512_i32_134
  let c1_i32_140 : BitVec 32 := 1#32
  let v379 : BitVec 32 := Scalar.subi v364 c1_i32_140
  let v380 : BitVec 32 := Scalar.select v378 v379 v364
  let v381 : BitVec 32 := Scalar.subi v380 c0_i32_141
  let c1_i32_143 : BitVec 32 := 1#32
  let v383 : BitVec 32 := Scalar.divsi v381 c1_i32_143
  let v384 : BitVec 32 := Scalar.muli v383 c1_i32_143
  let v385 : BitVec 32 := Scalar.addi c0_i32_141 v384
  let v382 : BitVec 32 := Scalar.addi c0_i32_141 v381
  let c1_i32_145 : BitVec 32 := 1#32
  ⟨v385, v382, c1_i32_145⟩
def k0_mult2 (v1 : BitVec 32) (k0_t2 : Fin (k0_t2_loop v1).trips) : BitVec 32 :=
  let c0_i32_141 : BitVec 32 := 0#32
  let c512_i32 : BitVec 32 := 512#32
  let v362 : BitVec 32 := Scalar.addi v1 c512_i32
  let c1_i32_133 : BitVec 32 := 1#32
  let v363 : BitVec 32 := Scalar.subi v362 c1_i32_133
  let c0_i32_135 : BitVec 32 := 0#32
  let v365 : BitVec 1 := Scalar.cmpi .sgt v363 c0_i32_135
  let v366 : BitVec 32 := Scalar.extui v365
  let c0_i32_136 : BitVec 32 := 0#32
  let v367 : BitVec 1 := Scalar.cmpi .slt v363 c0_i32_136
  let v368 : BitVec 32 := Scalar.extui v367
  let v369 : BitVec 32 := Scalar.subi v366 v368
  let c512_i32_134 : BitVec 32 := 512#32
  let c0_i32_137 : BitVec 32 := 0#32
  let v370 : BitVec 1 := Scalar.cmpi .sgt c512_i32_134 c0_i32_137
  let v371 : BitVec 32 := Scalar.extui v370
  let c0_i32_138 : BitVec 32 := 0#32
  let v372 : BitVec 1 := Scalar.cmpi .slt c512_i32_134 c0_i32_138
  let v373 : BitVec 32 := Scalar.extui v372
  let v374 : BitVec 32 := Scalar.subi v371 v373
  let v375 : BitVec 1 := Scalar.cmpi .ne v369 v374
  let v376 : BitVec 32 := Scalar.remsi v363 c512_i32_134
  let c0_i32_139 : BitVec 32 := 0#32
  let v377 : BitVec 1 := Scalar.cmpi .ne v376 c0_i32_139
  let v378 : BitVec 1 := Scalar.andi v375 v377
  let v364 : BitVec 32 := Scalar.divsi v363 c512_i32_134
  let c1_i32_140 : BitVec 32 := 1#32
  let v379 : BitVec 32 := Scalar.subi v364 c1_i32_140
  let v380 : BitVec 32 := Scalar.select v378 v379 v364
  let v381 : BitVec 32 := Scalar.subi v380 c0_i32_141
  let c1_i32_143 : BitVec 32 := 1#32
  let v383 : BitVec 32 := Scalar.divsi v381 c1_i32_143
  let v384 : BitVec 32 := Scalar.muli v383 c1_i32_143
  let v385 : BitVec 32 := Scalar.addi c0_i32_141 v384
  let c1_i32_145 : BitVec 32 := 1#32
  let arg23 : BitVec 32 := Scf.iv v385 c1_i32_145 k0_t2
  let c512_i32_500 : BitVec 32 := 512#32
  let v1096 : BitVec 32 := Scalar.muli arg23 c512_i32_500
  v1096
def k0_off6 (v1 : BitVec 32) (k0_t2 : Fin (k0_t2_loop v1).trips) : Fin 4 → Nat :=
  let c0_501 : Index := 0#32
  let c0_502 : Index := 0#32
  let c0_503 : Index := 0#32
  let c0_i32_141 : BitVec 32 := 0#32
  let c512_i32 : BitVec 32 := 512#32
  let v362 : BitVec 32 := Scalar.addi v1 c512_i32
  let c1_i32_133 : BitVec 32 := 1#32
  let v363 : BitVec 32 := Scalar.subi v362 c1_i32_133
  let c0_i32_135 : BitVec 32 := 0#32
  let v365 : BitVec 1 := Scalar.cmpi .sgt v363 c0_i32_135
  let v366 : BitVec 32 := Scalar.extui v365
  let c0_i32_136 : BitVec 32 := 0#32
  let v367 : BitVec 1 := Scalar.cmpi .slt v363 c0_i32_136
  let v368 : BitVec 32 := Scalar.extui v367
  let v369 : BitVec 32 := Scalar.subi v366 v368
  let c512_i32_134 : BitVec 32 := 512#32
  let c0_i32_137 : BitVec 32 := 0#32
  let v370 : BitVec 1 := Scalar.cmpi .sgt c512_i32_134 c0_i32_137
  let v371 : BitVec 32 := Scalar.extui v370
  let c0_i32_138 : BitVec 32 := 0#32
  let v372 : BitVec 1 := Scalar.cmpi .slt c512_i32_134 c0_i32_138
  let v373 : BitVec 32 := Scalar.extui v372
  let v374 : BitVec 32 := Scalar.subi v371 v373
  let v375 : BitVec 1 := Scalar.cmpi .ne v369 v374
  let v376 : BitVec 32 := Scalar.remsi v363 c512_i32_134
  let c0_i32_139 : BitVec 32 := 0#32
  let v377 : BitVec 1 := Scalar.cmpi .ne v376 c0_i32_139
  let v378 : BitVec 1 := Scalar.andi v375 v377
  let v364 : BitVec 32 := Scalar.divsi v363 c512_i32_134
  let c1_i32_140 : BitVec 32 := 1#32
  let v379 : BitVec 32 := Scalar.subi v364 c1_i32_140
  let v380 : BitVec 32 := Scalar.select v378 v379 v364
  let v381 : BitVec 32 := Scalar.subi v380 c0_i32_141
  let c1_i32_143 : BitVec 32 := 1#32
  let v383 : BitVec 32 := Scalar.divsi v381 c1_i32_143
  let v384 : BitVec 32 := Scalar.muli v383 c1_i32_143
  let v385 : BitVec 32 := Scalar.addi c0_i32_141 v384
  let c1_i32_145 : BitVec 32 := 1#32
  let arg23 : BitVec 32 := Scf.iv v385 c1_i32_145 k0_t2
  let c512_i32_500 : BitVec 32 := 512#32
  let v1096 : BitVec 32 := Scalar.muli arg23 c512_i32_500
  let v1097 : BitVec 32 := v1096
  let v1098 : Index := Scalar.indexCast v1097
  ![0, 0, 0, v1098.toNat]
def k0_off7 (i : grid0.Coords) (v1 : BitVec 32) (k0_t2 : Fin (k0_t2_loop v1).trips) : Fin 3 → Nat :=
  let c0_507 : Index := 0#32
  let arg1 : BitVec 32 := BitVec.ofNat 32 (i 1).val
  let c2_i32 : BitVec 32 := 2#32
  let v2 : BitVec 32 := Scalar.muli arg1 c2_i32
  let c0_i32 : BitVec 32 := 0#32
  let v3 : BitVec 32 := Scalar.addi v2 c0_i32
  let c8_i32 : BitVec 32 := 8#32
  let c0_i32_0 : BitVec 32 := 0#32
  let v4 : BitVec 1 := Scalar.cmpi .eq c8_i32 c0_i32_0
  let c1_i32 : BitVec 32 := 1#32
  let v5 : BitVec 32 := Scalar.select v4 c1_i32 c8_i32
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let v1108 : Index := Scalar.indexCast v13
  let c0_i32_141 : BitVec 32 := 0#32
  let c512_i32 : BitVec 32 := 512#32
  let v362 : BitVec 32 := Scalar.addi v1 c512_i32
  let c1_i32_133 : BitVec 32 := 1#32
  let v363 : BitVec 32 := Scalar.subi v362 c1_i32_133
  let c0_i32_135 : BitVec 32 := 0#32
  let v365 : BitVec 1 := Scalar.cmpi .sgt v363 c0_i32_135
  let v366 : BitVec 32 := Scalar.extui v365
  let c0_i32_136 : BitVec 32 := 0#32
  let v367 : BitVec 1 := Scalar.cmpi .slt v363 c0_i32_136
  let v368 : BitVec 32 := Scalar.extui v367
  let v369 : BitVec 32 := Scalar.subi v366 v368
  let c512_i32_134 : BitVec 32 := 512#32
  let c0_i32_137 : BitVec 32 := 0#32
  let v370 : BitVec 1 := Scalar.cmpi .sgt c512_i32_134 c0_i32_137
  let v371 : BitVec 32 := Scalar.extui v370
  let c0_i32_138 : BitVec 32 := 0#32
  let v372 : BitVec 1 := Scalar.cmpi .slt c512_i32_134 c0_i32_138
  let v373 : BitVec 32 := Scalar.extui v372
  let v374 : BitVec 32 := Scalar.subi v371 v373
  let v375 : BitVec 1 := Scalar.cmpi .ne v369 v374
  let v376 : BitVec 32 := Scalar.remsi v363 c512_i32_134
  let c0_i32_139 : BitVec 32 := 0#32
  let v377 : BitVec 1 := Scalar.cmpi .ne v376 c0_i32_139
  let v378 : BitVec 1 := Scalar.andi v375 v377
  let v364 : BitVec 32 := Scalar.divsi v363 c512_i32_134
  let c1_i32_140 : BitVec 32 := 1#32
  let v379 : BitVec 32 := Scalar.subi v364 c1_i32_140
  let v380 : BitVec 32 := Scalar.select v378 v379 v364
  let v381 : BitVec 32 := Scalar.subi v380 c0_i32_141
  let c1_i32_143 : BitVec 32 := 1#32
  let v383 : BitVec 32 := Scalar.divsi v381 c1_i32_143
  let v384 : BitVec 32 := Scalar.muli v383 c1_i32_143
  let v385 : BitVec 32 := Scalar.addi c0_i32_141 v384
  let c1_i32_145 : BitVec 32 := 1#32
  let arg23 : BitVec 32 := Scf.iv v385 c1_i32_145 k0_t2
  let c512_i32_500 : BitVec 32 := 512#32
  let v1096 : BitVec 32 := Scalar.muli arg23 c512_i32_500
  let v1097 : BitVec 32 := v1096
  let v1109 : Index := Scalar.indexCast v1097
  ![0, v1108.toNat, v1109.toNat]
def k0_off8 (i : grid0.Coords) : Fin 3 → Nat :=
  let c0_360 : Index := 0#32
  let arg1 : BitVec 32 := BitVec.ofNat 32 (i 1).val
  let c2_i32_242 : BitVec 32 := 2#32
  let v549 : BitVec 32 := Scalar.muli arg1 c2_i32_242
  let c1_i32_243 : BitVec 32 := 1#32
  let v550 : BitVec 32 := Scalar.addi v549 c1_i32_243
  let c8_i32_244 : BitVec 32 := 8#32
  let c0_i32_245 : BitVec 32 := 0#32
  let v551 : BitVec 1 := Scalar.cmpi .eq c8_i32_244 c0_i32_245
  let c1_i32_246 : BitVec 32 := 1#32
  let v552 : BitVec 32 := Scalar.select v551 c1_i32_246 c8_i32_244
  let v553 : BitVec 32 := Scalar.remsi v550 v552
  let c0_i32_248 : BitVec 32 := 0#32
  let v555 : BitVec 1 := Scalar.cmpi .slt v553 c0_i32_248
  let c0_i32_249 : BitVec 32 := 0#32
  let v556 : BitVec 1 := Scalar.cmpi .slt v552 c0_i32_249
  let v557 : BitVec 1 := Scalar.xori v555 v556
  let c0_i32_247 : BitVec 32 := 0#32
  let v554 : BitVec 1 := Scalar.cmpi .ne v553 c0_i32_247
  let v558 : BitVec 1 := Scalar.andi v557 v554
  let v559 : BitVec 32 := Scalar.addi v553 v552
  let v560 : BitVec 32 := Scalar.select v558 v559 v553
  let v840 : Index := Scalar.indexCast v560
  let c0_361 : Index := 0#32
  ![0, v840.toNat, 0]
def k0_off9 (i : grid0.Coords) : Fin 3 → Nat :=
  let c0_366 : Index := 0#32
  let arg1 : BitVec 32 := BitVec.ofNat 32 (i 1).val
  let c2_i32_242 : BitVec 32 := 2#32
  let v549 : BitVec 32 := Scalar.muli arg1 c2_i32_242
  let c1_i32_243 : BitVec 32 := 1#32
  let v550 : BitVec 32 := Scalar.addi v549 c1_i32_243
  let c8_i32_244 : BitVec 32 := 8#32
  let c0_i32_245 : BitVec 32 := 0#32
  let v551 : BitVec 1 := Scalar.cmpi .eq c8_i32_244 c0_i32_245
  let c1_i32_246 : BitVec 32 := 1#32
  let v552 : BitVec 32 := Scalar.select v551 c1_i32_246 c8_i32_244
  let v553 : BitVec 32 := Scalar.remsi v550 v552
  let c0_i32_248 : BitVec 32 := 0#32
  let v555 : BitVec 1 := Scalar.cmpi .slt v553 c0_i32_248
  let c0_i32_249 : BitVec 32 := 0#32
  let v556 : BitVec 1 := Scalar.cmpi .slt v552 c0_i32_249
  let v557 : BitVec 1 := Scalar.xori v555 v556
  let c0_i32_247 : BitVec 32 := 0#32
  let v554 : BitVec 1 := Scalar.cmpi .ne v553 c0_i32_247
  let v558 : BitVec 1 := Scalar.andi v557 v554
  let v559 : BitVec 32 := Scalar.addi v553 v552
  let v560 : BitVec 32 := Scalar.select v558 v559 v553
  let v857 : Index := Scalar.indexCast v560
  let c0_367 : Index := 0#32
  ![0, v857.toNat, 0]
@[reducible] def k0_t3_loop (v1 : BitVec 32) : Scf.Loop 32 :=
  let c0_i32_397 : BitVec 32 := 0#32
  let c512_i32_388 : BitVec 32 := 512#32
  let v909 : BitVec 32 := Scalar.addi v1 c512_i32_388
  let c1_i32_389 : BitVec 32 := 1#32
  let v910 : BitVec 32 := Scalar.subi v909 c1_i32_389
  let c0_i32_391 : BitVec 32 := 0#32
  let v912 : BitVec 1 := Scalar.cmpi .sgt v910 c0_i32_391
  let v913 : BitVec 32 := Scalar.extui v912
  let c0_i32_392 : BitVec 32 := 0#32
  let v914 : BitVec 1 := Scalar.cmpi .slt v910 c0_i32_392
  let v915 : BitVec 32 := Scalar.extui v914
  let v916 : BitVec 32 := Scalar.subi v913 v915
  let c512_i32_390 : BitVec 32 := 512#32
  let c0_i32_393 : BitVec 32 := 0#32
  let v917 : BitVec 1 := Scalar.cmpi .sgt c512_i32_390 c0_i32_393
  let v918 : BitVec 32 := Scalar.extui v917
  let c0_i32_394 : BitVec 32 := 0#32
  let v919 : BitVec 1 := Scalar.cmpi .slt c512_i32_390 c0_i32_394
  let v920 : BitVec 32 := Scalar.extui v919
  let v921 : BitVec 32 := Scalar.subi v918 v920
  let v922 : BitVec 1 := Scalar.cmpi .ne v916 v921
  let v923 : BitVec 32 := Scalar.remsi v910 c512_i32_390
  let c0_i32_395 : BitVec 32 := 0#32
  let v924 : BitVec 1 := Scalar.cmpi .ne v923 c0_i32_395
  let v925 : BitVec 1 := Scalar.andi v922 v924
  let v911 : BitVec 32 := Scalar.divsi v910 c512_i32_390
  let c1_i32_396 : BitVec 32 := 1#32
  let v926 : BitVec 32 := Scalar.subi v911 c1_i32_396
  let v927 : BitVec 32 := Scalar.select v925 v926 v911
  let v928 : BitVec 32 := Scalar.subi v927 c0_i32_397
  let c1_i32_399 : BitVec 32 := 1#32
  let v930 : BitVec 32 := Scalar.divsi v928 c1_i32_399
  let v931 : BitVec 32 := Scalar.muli v930 c1_i32_399
  let v932 : BitVec 32 := Scalar.addi c0_i32_397 v931
  let c1_i32_400 : BitVec 32 := 1#32
  ⟨c0_i32_397, v932, c1_i32_400⟩
def k0_mult3 (v1 : BitVec 32) (k0_t3 : Fin (k0_t3_loop v1).trips) : BitVec 32 :=
  let c0_i32_397 : BitVec 32 := 0#32
  let c1_i32_400 : BitVec 32 := 1#32
  let arg23 : BitVec 32 := Scf.iv c0_i32_397 c1_i32_400 k0_t3
  let c512_i32_500 : BitVec 32 := 512#32
  let v1096 : BitVec 32 := Scalar.muli arg23 c512_i32_500
  v1096
def k0_off10 (v1 : BitVec 32) (k0_t3 : Fin (k0_t3_loop v1).trips) : Fin 4 → Nat :=
  let c0_501 : Index := 0#32
  let c1_502 : Index := 1#32
  let c0_503 : Index := 0#32
  let c0_i32_397 : BitVec 32 := 0#32
  let c1_i32_400 : BitVec 32 := 1#32
  let arg23 : BitVec 32 := Scf.iv c0_i32_397 c1_i32_400 k0_t3
  let c512_i32_500 : BitVec 32 := 512#32
  let v1096 : BitVec 32 := Scalar.muli arg23 c512_i32_500
  let v1097 : BitVec 32 := v1096
  let v1098 : Index := Scalar.indexCast v1097
  ![0, 1, 0, v1098.toNat]
def k0_off11 (i : grid0.Coords) (v1 : BitVec 32) (k0_t3 : Fin (k0_t3_loop v1).trips) : Fin 3 → Nat :=
  let c0_507 : Index := 0#32
  let arg1 : BitVec 32 := BitVec.ofNat 32 (i 1).val
  let c2_i32_242 : BitVec 32 := 2#32
  let v549 : BitVec 32 := Scalar.muli arg1 c2_i32_242
  let c1_i32_243 : BitVec 32 := 1#32
  let v550 : BitVec 32 := Scalar.addi v549 c1_i32_243
  let c8_i32_244 : BitVec 32 := 8#32
  let c0_i32_245 : BitVec 32 := 0#32
  let v551 : BitVec 1 := Scalar.cmpi .eq c8_i32_244 c0_i32_245
  let c1_i32_246 : BitVec 32 := 1#32
  let v552 : BitVec 32 := Scalar.select v551 c1_i32_246 c8_i32_244
  let v553 : BitVec 32 := Scalar.remsi v550 v552
  let c0_i32_248 : BitVec 32 := 0#32
  let v555 : BitVec 1 := Scalar.cmpi .slt v553 c0_i32_248
  let c0_i32_249 : BitVec 32 := 0#32
  let v556 : BitVec 1 := Scalar.cmpi .slt v552 c0_i32_249
  let v557 : BitVec 1 := Scalar.xori v555 v556
  let c0_i32_247 : BitVec 32 := 0#32
  let v554 : BitVec 1 := Scalar.cmpi .ne v553 c0_i32_247
  let v558 : BitVec 1 := Scalar.andi v557 v554
  let v559 : BitVec 32 := Scalar.addi v553 v552
  let v560 : BitVec 32 := Scalar.select v558 v559 v553
  let v1108 : Index := Scalar.indexCast v560
  let c0_i32_397 : BitVec 32 := 0#32
  let c1_i32_400 : BitVec 32 := 1#32
  let arg23 : BitVec 32 := Scf.iv c0_i32_397 c1_i32_400 k0_t3
  let c512_i32_500 : BitVec 32 := 512#32
  let v1096 : BitVec 32 := Scalar.muli arg23 c512_i32_500
  let v1097 : BitVec 32 := v1096
  let v1109 : Index := Scalar.indexCast v1097
  ![0, v1108.toNat, v1109.toNat]
@[reducible] def k0_t4_loop (v1 : BitVec 32) : Scf.Loop 32 :=
  let c0_i32_397 : BitVec 32 := 0#32
  let c512_i32_388 : BitVec 32 := 512#32
  let v909 : BitVec 32 := Scalar.addi v1 c512_i32_388
  let c1_i32_389 : BitVec 32 := 1#32
  let v910 : BitVec 32 := Scalar.subi v909 c1_i32_389
  let c0_i32_391 : BitVec 32 := 0#32
  let v912 : BitVec 1 := Scalar.cmpi .sgt v910 c0_i32_391
  let v913 : BitVec 32 := Scalar.extui v912
  let c0_i32_392 : BitVec 32 := 0#32
  let v914 : BitVec 1 := Scalar.cmpi .slt v910 c0_i32_392
  let v915 : BitVec 32 := Scalar.extui v914
  let v916 : BitVec 32 := Scalar.subi v913 v915
  let c512_i32_390 : BitVec 32 := 512#32
  let c0_i32_393 : BitVec 32 := 0#32
  let v917 : BitVec 1 := Scalar.cmpi .sgt c512_i32_390 c0_i32_393
  let v918 : BitVec 32 := Scalar.extui v917
  let c0_i32_394 : BitVec 32 := 0#32
  let v919 : BitVec 1 := Scalar.cmpi .slt c512_i32_390 c0_i32_394
  let v920 : BitVec 32 := Scalar.extui v919
  let v921 : BitVec 32 := Scalar.subi v918 v920
  let v922 : BitVec 1 := Scalar.cmpi .ne v916 v921
  let v923 : BitVec 32 := Scalar.remsi v910 c512_i32_390
  let c0_i32_395 : BitVec 32 := 0#32
  let v924 : BitVec 1 := Scalar.cmpi .ne v923 c0_i32_395
  let v925 : BitVec 1 := Scalar.andi v922 v924
  let v911 : BitVec 32 := Scalar.divsi v910 c512_i32_390
  let c1_i32_396 : BitVec 32 := 1#32
  let v926 : BitVec 32 := Scalar.subi v911 c1_i32_396
  let v927 : BitVec 32 := Scalar.select v925 v926 v911
  let v928 : BitVec 32 := Scalar.subi v927 c0_i32_397
  let c1_i32_399 : BitVec 32 := 1#32
  let v930 : BitVec 32 := Scalar.divsi v928 c1_i32_399
  let v931 : BitVec 32 := Scalar.muli v930 c1_i32_399
  let v932 : BitVec 32 := Scalar.addi c0_i32_397 v931
  let v929 : BitVec 32 := Scalar.addi c0_i32_397 v928
  let c1_i32_401 : BitVec 32 := 1#32
  ⟨v932, v929, c1_i32_401⟩
def k0_mult4 (v1 : BitVec 32) (k0_t4 : Fin (k0_t4_loop v1).trips) : BitVec 32 :=
  let c0_i32_397 : BitVec 32 := 0#32
  let c512_i32_388 : BitVec 32 := 512#32
  let v909 : BitVec 32 := Scalar.addi v1 c512_i32_388
  let c1_i32_389 : BitVec 32 := 1#32
  let v910 : BitVec 32 := Scalar.subi v909 c1_i32_389
  let c0_i32_391 : BitVec 32 := 0#32
  let v912 : BitVec 1 := Scalar.cmpi .sgt v910 c0_i32_391
  let v913 : BitVec 32 := Scalar.extui v912
  let c0_i32_392 : BitVec 32 := 0#32
  let v914 : BitVec 1 := Scalar.cmpi .slt v910 c0_i32_392
  let v915 : BitVec 32 := Scalar.extui v914
  let v916 : BitVec 32 := Scalar.subi v913 v915
  let c512_i32_390 : BitVec 32 := 512#32
  let c0_i32_393 : BitVec 32 := 0#32
  let v917 : BitVec 1 := Scalar.cmpi .sgt c512_i32_390 c0_i32_393
  let v918 : BitVec 32 := Scalar.extui v917
  let c0_i32_394 : BitVec 32 := 0#32
  let v919 : BitVec 1 := Scalar.cmpi .slt c512_i32_390 c0_i32_394
  let v920 : BitVec 32 := Scalar.extui v919
  let v921 : BitVec 32 := Scalar.subi v918 v920
  let v922 : BitVec 1 := Scalar.cmpi .ne v916 v921
  let v923 : BitVec 32 := Scalar.remsi v910 c512_i32_390
  let c0_i32_395 : BitVec 32 := 0#32
  let v924 : BitVec 1 := Scalar.cmpi .ne v923 c0_i32_395
  let v925 : BitVec 1 := Scalar.andi v922 v924
  let v911 : BitVec 32 := Scalar.divsi v910 c512_i32_390
  let c1_i32_396 : BitVec 32 := 1#32
  let v926 : BitVec 32 := Scalar.subi v911 c1_i32_396
  let v927 : BitVec 32 := Scalar.select v925 v926 v911
  let v928 : BitVec 32 := Scalar.subi v927 c0_i32_397
  let c1_i32_399 : BitVec 32 := 1#32
  let v930 : BitVec 32 := Scalar.divsi v928 c1_i32_399
  let v931 : BitVec 32 := Scalar.muli v930 c1_i32_399
  let v932 : BitVec 32 := Scalar.addi c0_i32_397 v931
  let c1_i32_401 : BitVec 32 := 1#32
  let arg23 : BitVec 32 := Scf.iv v932 c1_i32_401 k0_t4
  let c512_i32_500 : BitVec 32 := 512#32
  let v1096 : BitVec 32 := Scalar.muli arg23 c512_i32_500
  v1096
def k0_off12 (v1 : BitVec 32) (k0_t4 : Fin (k0_t4_loop v1).trips) : Fin 4 → Nat :=
  let c0_501 : Index := 0#32
  let c1_502 : Index := 1#32
  let c0_503 : Index := 0#32
  let c0_i32_397 : BitVec 32 := 0#32
  let c512_i32_388 : BitVec 32 := 512#32
  let v909 : BitVec 32 := Scalar.addi v1 c512_i32_388
  let c1_i32_389 : BitVec 32 := 1#32
  let v910 : BitVec 32 := Scalar.subi v909 c1_i32_389
  let c0_i32_391 : BitVec 32 := 0#32
  let v912 : BitVec 1 := Scalar.cmpi .sgt v910 c0_i32_391
  let v913 : BitVec 32 := Scalar.extui v912
  let c0_i32_392 : BitVec 32 := 0#32
  let v914 : BitVec 1 := Scalar.cmpi .slt v910 c0_i32_392
  let v915 : BitVec 32 := Scalar.extui v914
  let v916 : BitVec 32 := Scalar.subi v913 v915
  let c512_i32_390 : BitVec 32 := 512#32
  let c0_i32_393 : BitVec 32 := 0#32
  let v917 : BitVec 1 := Scalar.cmpi .sgt c512_i32_390 c0_i32_393
  let v918 : BitVec 32 := Scalar.extui v917
  let c0_i32_394 : BitVec 32 := 0#32
  let v919 : BitVec 1 := Scalar.cmpi .slt c512_i32_390 c0_i32_394
  let v920 : BitVec 32 := Scalar.extui v919
  let v921 : BitVec 32 := Scalar.subi v918 v920
  let v922 : BitVec 1 := Scalar.cmpi .ne v916 v921
  let v923 : BitVec 32 := Scalar.remsi v910 c512_i32_390
  let c0_i32_395 : BitVec 32 := 0#32
  let v924 : BitVec 1 := Scalar.cmpi .ne v923 c0_i32_395
  let v925 : BitVec 1 := Scalar.andi v922 v924
  let v911 : BitVec 32 := Scalar.divsi v910 c512_i32_390
  let c1_i32_396 : BitVec 32 := 1#32
  let v926 : BitVec 32 := Scalar.subi v911 c1_i32_396
  let v927 : BitVec 32 := Scalar.select v925 v926 v911
  let v928 : BitVec 32 := Scalar.subi v927 c0_i32_397
  let c1_i32_399 : BitVec 32 := 1#32
  let v930 : BitVec 32 := Scalar.divsi v928 c1_i32_399
  let v931 : BitVec 32 := Scalar.muli v930 c1_i32_399
  let v932 : BitVec 32 := Scalar.addi c0_i32_397 v931
  let c1_i32_401 : BitVec 32 := 1#32
  let arg23 : BitVec 32 := Scf.iv v932 c1_i32_401 k0_t4
  let c512_i32_500 : BitVec 32 := 512#32
  let v1096 : BitVec 32 := Scalar.muli arg23 c512_i32_500
  let v1097 : BitVec 32 := v1096
  let v1098 : Index := Scalar.indexCast v1097
  ![0, 1, 0, v1098.toNat]
def k0_off13 (i : grid0.Coords) (v1 : BitVec 32) (k0_t4 : Fin (k0_t4_loop v1).trips) : Fin 3 → Nat :=
  let c0_507 : Index := 0#32
  let arg1 : BitVec 32 := BitVec.ofNat 32 (i 1).val
  let c2_i32_242 : BitVec 32 := 2#32
  let v549 : BitVec 32 := Scalar.muli arg1 c2_i32_242
  let c1_i32_243 : BitVec 32 := 1#32
  let v550 : BitVec 32 := Scalar.addi v549 c1_i32_243
  let c8_i32_244 : BitVec 32 := 8#32
  let c0_i32_245 : BitVec 32 := 0#32
  let v551 : BitVec 1 := Scalar.cmpi .eq c8_i32_244 c0_i32_245
  let c1_i32_246 : BitVec 32 := 1#32
  let v552 : BitVec 32 := Scalar.select v551 c1_i32_246 c8_i32_244
  let v553 : BitVec 32 := Scalar.remsi v550 v552
  let c0_i32_248 : BitVec 32 := 0#32
  let v555 : BitVec 1 := Scalar.cmpi .slt v553 c0_i32_248
  let c0_i32_249 : BitVec 32 := 0#32
  let v556 : BitVec 1 := Scalar.cmpi .slt v552 c0_i32_249
  let v557 : BitVec 1 := Scalar.xori v555 v556
  let c0_i32_247 : BitVec 32 := 0#32
  let v554 : BitVec 1 := Scalar.cmpi .ne v553 c0_i32_247
  let v558 : BitVec 1 := Scalar.andi v557 v554
  let v559 : BitVec 32 := Scalar.addi v553 v552
  let v560 : BitVec 32 := Scalar.select v558 v559 v553
  let v1108 : Index := Scalar.indexCast v560
  let c0_i32_397 : BitVec 32 := 0#32
  let c512_i32_388 : BitVec 32 := 512#32
  let v909 : BitVec 32 := Scalar.addi v1 c512_i32_388
  let c1_i32_389 : BitVec 32 := 1#32
  let v910 : BitVec 32 := Scalar.subi v909 c1_i32_389
  let c0_i32_391 : BitVec 32 := 0#32
  let v912 : BitVec 1 := Scalar.cmpi .sgt v910 c0_i32_391
  let v913 : BitVec 32 := Scalar.extui v912
  let c0_i32_392 : BitVec 32 := 0#32
  let v914 : BitVec 1 := Scalar.cmpi .slt v910 c0_i32_392
  let v915 : BitVec 32 := Scalar.extui v914
  let v916 : BitVec 32 := Scalar.subi v913 v915
  let c512_i32_390 : BitVec 32 := 512#32
  let c0_i32_393 : BitVec 32 := 0#32
  let v917 : BitVec 1 := Scalar.cmpi .sgt c512_i32_390 c0_i32_393
  let v918 : BitVec 32 := Scalar.extui v917
  let c0_i32_394 : BitVec 32 := 0#32
  let v919 : BitVec 1 := Scalar.cmpi .slt c512_i32_390 c0_i32_394
  let v920 : BitVec 32 := Scalar.extui v919
  let v921 : BitVec 32 := Scalar.subi v918 v920
  let v922 : BitVec 1 := Scalar.cmpi .ne v916 v921
  let v923 : BitVec 32 := Scalar.remsi v910 c512_i32_390
  let c0_i32_395 : BitVec 32 := 0#32
  let v924 : BitVec 1 := Scalar.cmpi .ne v923 c0_i32_395
  let v925 : BitVec 1 := Scalar.andi v922 v924
  let v911 : BitVec 32 := Scalar.divsi v910 c512_i32_390
  let c1_i32_396 : BitVec 32 := 1#32
  let v926 : BitVec 32 := Scalar.subi v911 c1_i32_396
  let v927 : BitVec 32 := Scalar.select v925 v926 v911
  let v928 : BitVec 32 := Scalar.subi v927 c0_i32_397
  let c1_i32_399 : BitVec 32 := 1#32
  let v930 : BitVec 32 := Scalar.divsi v928 c1_i32_399
  let v931 : BitVec 32 := Scalar.muli v930 c1_i32_399
  let v932 : BitVec 32 := Scalar.addi c0_i32_397 v931
  let c1_i32_401 : BitVec 32 := 1#32
  let arg23 : BitVec 32 := Scf.iv v932 c1_i32_401 k0_t4
  let c512_i32_500 : BitVec 32 := 512#32
  let v1096 : BitVec 32 := Scalar.muli arg23 c512_i32_500
  let v1097 : BitVec 32 := v1096
  let v1109 : Index := Scalar.indexCast v1097
  ![0, v1108.toNat, v1109.toNat]

def k0_chk1 (i : grid0.Coords) (v1 : BitVec 32) : Prop :=
  ((k0_t1_loop v1).OK) ∧
  (∀ k0_t1 : Fin (k0_t1_loop v1).trips, 512 ∣ (k0_mult1 v1 k0_t1).toNat) ∧
  (∀ k0_t1 : Fin (k0_t1_loop v1).trips, ∀ a, (k0_off4 v1 k0_t1) a + S1x1x64x512.size a ≤ S1x2x64x16384.size a) ∧
  (∀ k0_t1 : Fin (k0_t1_loop v1).trips, ∀ a, (k0_off5 i v1 k0_t1) a + S1x1x512.size a ≤ S1x8x16384.size a) ∧
  ((k0_t2_loop v1).OK) ∧
  (∀ k0_t2 : Fin (k0_t2_loop v1).trips, 512 ∣ (k0_mult2 v1 k0_t2).toNat) ∧
  (∀ k0_t2 : Fin (k0_t2_loop v1).trips, ∀ a, (k0_off6 v1 k0_t2) a + S1x1x64x512.size a ≤ S1x2x64x16384.size a) ∧
  (∀ k0_t2 : Fin (k0_t2_loop v1).trips, ∀ a, (k0_off7 i v1 k0_t2) a + S1x1x512.size a ≤ S1x8x16384.size a) ∧
  ((k0_t3_loop v1).OK) ∧
  (∀ k0_t3 : Fin (k0_t3_loop v1).trips, 512 ∣ (k0_mult3 v1 k0_t3).toNat) ∧
  (∀ k0_t3 : Fin (k0_t3_loop v1).trips, ∀ a, (k0_off10 v1 k0_t3) a + S1x1x64x512.size a ≤ S1x2x64x16384.size a) ∧
  (∀ k0_t3 : Fin (k0_t3_loop v1).trips, ∀ a, (k0_off11 i v1 k0_t3) a + S1x1x512.size a ≤ S1x8x16384.size a) ∧
  ((k0_t4_loop v1).OK) ∧
  (∀ k0_t4 : Fin (k0_t4_loop v1).trips, 512 ∣ (k0_mult4 v1 k0_t4).toNat) ∧
  (∀ k0_t4 : Fin (k0_t4_loop v1).trips, ∀ a, (k0_off12 v1 k0_t4) a + S1x1x64x512.size a ≤ S1x2x64x16384.size a) ∧
  (∀ k0_t4 : Fin (k0_t4_loop v1).trips, ∀ a, (k0_off13 i v1 k0_t4) a + S1x1x512.size a ≤ S1x8x16384.size a)
theorem k0_t1_ok : ∀ (i : grid0.Coords) (v1 : BitVec 32) (k0_hw1 : k0_chk1 i v1), (k0_t1_loop v1).OK := fun i v1 k0_hw1 => k0_hw1.1
theorem k0_mult1_dvd : ∀ (i : grid0.Coords) (v1 : BitVec 32) (k0_hw1 : k0_chk1 i v1) (k0_t1 : Fin (k0_t1_loop v1).trips), 512 ∣ (k0_mult1 v1 k0_t1).toNat := fun i v1 k0_hw1 k0_t1 => k0_hw1.2.1 k0_t1
theorem k0_off4_inb : ∀ (i : grid0.Coords) (v1 : BitVec 32) (k0_hw1 : k0_chk1 i v1) (k0_t1 : Fin (k0_t1_loop v1).trips), ∀ a, (k0_off4 v1 k0_t1) a + S1x1x64x512.size a ≤ S1x2x64x16384.size a := fun i v1 k0_hw1 k0_t1 => k0_hw1.2.2.1 k0_t1
theorem k0_off5_inb : ∀ (i : grid0.Coords) (v1 : BitVec 32) (k0_hw1 : k0_chk1 i v1) (k0_t1 : Fin (k0_t1_loop v1).trips), ∀ a, (k0_off5 i v1 k0_t1) a + S1x1x512.size a ≤ S1x8x16384.size a := fun i v1 k0_hw1 k0_t1 => k0_hw1.2.2.2.1 k0_t1
theorem k0_t2_ok : ∀ (i : grid0.Coords) (v1 : BitVec 32) (k0_hw1 : k0_chk1 i v1), (k0_t2_loop v1).OK := fun i v1 k0_hw1 => k0_hw1.2.2.2.2.1
theorem k0_mult2_dvd : ∀ (i : grid0.Coords) (v1 : BitVec 32) (k0_hw1 : k0_chk1 i v1) (k0_t2 : Fin (k0_t2_loop v1).trips), 512 ∣ (k0_mult2 v1 k0_t2).toNat := fun i v1 k0_hw1 k0_t2 => k0_hw1.2.2.2.2.2.1 k0_t2
theorem k0_off6_inb : ∀ (i : grid0.Coords) (v1 : BitVec 32) (k0_hw1 : k0_chk1 i v1) (k0_t2 : Fin (k0_t2_loop v1).trips), ∀ a, (k0_off6 v1 k0_t2) a + S1x1x64x512.size a ≤ S1x2x64x16384.size a := fun i v1 k0_hw1 k0_t2 => k0_hw1.2.2.2.2.2.2.1 k0_t2
theorem k0_off7_inb : ∀ (i : grid0.Coords) (v1 : BitVec 32) (k0_hw1 : k0_chk1 i v1) (k0_t2 : Fin (k0_t2_loop v1).trips), ∀ a, (k0_off7 i v1 k0_t2) a + S1x1x512.size a ≤ S1x8x16384.size a := fun i v1 k0_hw1 k0_t2 => k0_hw1.2.2.2.2.2.2.2.1 k0_t2
theorem k0_t3_ok : ∀ (i : grid0.Coords) (v1 : BitVec 32) (k0_hw1 : k0_chk1 i v1), (k0_t3_loop v1).OK := fun i v1 k0_hw1 => k0_hw1.2.2.2.2.2.2.2.2.1
theorem k0_mult3_dvd : ∀ (i : grid0.Coords) (v1 : BitVec 32) (k0_hw1 : k0_chk1 i v1) (k0_t3 : Fin (k0_t3_loop v1).trips), 512 ∣ (k0_mult3 v1 k0_t3).toNat := fun i v1 k0_hw1 k0_t3 => k0_hw1.2.2.2.2.2.2.2.2.2.1 k0_t3
theorem k0_off10_inb : ∀ (i : grid0.Coords) (v1 : BitVec 32) (k0_hw1 : k0_chk1 i v1) (k0_t3 : Fin (k0_t3_loop v1).trips), ∀ a, (k0_off10 v1 k0_t3) a + S1x1x64x512.size a ≤ S1x2x64x16384.size a := fun i v1 k0_hw1 k0_t3 => k0_hw1.2.2.2.2.2.2.2.2.2.2.1 k0_t3
theorem k0_off11_inb : ∀ (i : grid0.Coords) (v1 : BitVec 32) (k0_hw1 : k0_chk1 i v1) (k0_t3 : Fin (k0_t3_loop v1).trips), ∀ a, (k0_off11 i v1 k0_t3) a + S1x1x512.size a ≤ S1x8x16384.size a := fun i v1 k0_hw1 k0_t3 => k0_hw1.2.2.2.2.2.2.2.2.2.2.2.1 k0_t3
theorem k0_t4_ok : ∀ (i : grid0.Coords) (v1 : BitVec 32) (k0_hw1 : k0_chk1 i v1), (k0_t4_loop v1).OK := fun i v1 k0_hw1 => k0_hw1.2.2.2.2.2.2.2.2.2.2.2.2.1
theorem k0_mult4_dvd : ∀ (i : grid0.Coords) (v1 : BitVec 32) (k0_hw1 : k0_chk1 i v1) (k0_t4 : Fin (k0_t4_loop v1).trips), 512 ∣ (k0_mult4 v1 k0_t4).toNat := fun i v1 k0_hw1 k0_t4 => k0_hw1.2.2.2.2.2.2.2.2.2.2.2.2.2.1 k0_t4
theorem k0_off12_inb : ∀ (i : grid0.Coords) (v1 : BitVec 32) (k0_hw1 : k0_chk1 i v1) (k0_t4 : Fin (k0_t4_loop v1).trips), ∀ a, (k0_off12 v1 k0_t4) a + S1x1x64x512.size a ≤ S1x2x64x16384.size a := fun i v1 k0_hw1 k0_t4 => k0_hw1.2.2.2.2.2.2.2.2.2.2.2.2.2.2.1 k0_t4
theorem k0_off13_inb : ∀ (i : grid0.Coords) (v1 : BitVec 32) (k0_hw1 : k0_chk1 i v1) (k0_t4 : Fin (k0_t4_loop v1).trips), ∀ a, (k0_off13 i v1 k0_t4) a + S1x1x512.size a ≤ S1x8x16384.size a := fun i v1 k0_hw1 k0_t4 => k0_hw1.2.2.2.2.2.2.2.2.2.2.2.2.2.2.2 k0_t4

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![arg0.toNat, v17.toNat, c0_i32_4.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![arg0.toNat, v17.toNat, c0_i32_4.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![arg0.toNat, v17.toNat, c0_i32_4.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![arg0.toNat, v17.toNat, c0_i32_4.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![arg0.toNat, v17.toNat, c0_i32_4.toNat]

abbrev stage0_0 : Fin 2 → Memref sig .tc .vmem S1x2x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x64x16384 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x64x16384 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x64x1024 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x64x1024 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x64x1024 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x1024x64x64 : Shape := ⟨4, ![8, 1024, 64, 64]⟩
abbrev S8x16384x64x64 : Shape := ⟨4, ![8, 16384, 64, 64]⟩
abbrev S8x64x64 : Shape := ⟨3, ![8, 64, 64]⟩
abbrev S8x16384x64 : Shape := ⟨3, ![8, 16384, 64]⟩
abbrev S8 : Shape := ⟨1, ![8]⟩
abbrev S_ : Shape := ⟨0, ![]⟩
abbrev S8x1024x64 : Shape := ⟨3, ![8, 1024, 64]⟩
abbrev S8x1024x64x1 : Shape := ⟨4, ![8, 1024, 64, 1]⟩
abbrev S8x1x64x64 : Shape := ⟨4, ![8, 1, 64, 64]⟩
abbrev S8x16384x64x1 : Shape := ⟨4, ![8, 16384, 64, 1]⟩
abbrev S8x64x1024x16384 : Shape := ⟨4, ![8, 64, 1024, 16384]⟩
abbrev S8x64x1024x1024 : Shape := ⟨4, ![8, 64, 1024, 1024]⟩
abbrev S16384 : Shape := ⟨1, ![16384]⟩
abbrev S1x16384 : Shape := ⟨2, ![1, 16384]⟩
abbrev S8x1 : Shape := ⟨2, ![8, 1]⟩
abbrev S8x16384 : Shape := ⟨2, ![8, 16384]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S8x1x1x16384 : Shape := ⟨4, ![8, 1, 1, 16384]⟩
abbrev S1x1x1024x1024 : Shape := ⟨4, ![1, 1, 1024, 1024]⟩
abbrev S8x64x1024 : Shape := ⟨3, ![8, 64, 1024]⟩
abbrev S8x64x1024x1 : Shape := ⟨4, ![8, 64, 1024, 1]⟩
abbrev S8x64x1024x64 : Shape := ⟨4, ![8, 64, 1024, 64]⟩
abbrev S8x1024x4096 : Shape := ⟨3, ![8, 1024, 4096]⟩

abbrev nBuf : Space → Nat
  | .hbm => 231
  | .vmem => 10
  | .smem => 0
  | _ => 0

abbrev hbmTy0_0 (i : Nat) : BufTy := match i % 128 with
  | 0 => ⟨S8x1024x64x64, .bf16⟩
  | 1 => ⟨S8x1024x64x64, .bf16⟩
  | 2 => ⟨S8x1024x64x64, .bf16⟩
  | 3 => ⟨S8x16384x64x64, .fp8e4m3⟩
  | 4 => ⟨S8x16384x64x64, .fp8e4m3⟩
  | 5 => ⟨S8x64x64, .f32⟩
  | 6 => ⟨S8x16384x64, .f32⟩
  | 7 => ⟨S8, .i32⟩
  | 8 => ⟨S8x1024x64x64, .f32⟩
  | 9 => ⟨S8x1024x64x64, .f32⟩
  | 10 => ⟨S_, .f32⟩
  | 11 => ⟨S8x1024x64, .f32⟩
  | 12 => ⟨S8x1024x64x1, .f32⟩
  | 13 => ⟨S_, .f32⟩
  | 14 => ⟨S8x1024x64x1, .f32⟩
  | 15 => ⟨S8x1024x64x1, .f32⟩
  | 16 => ⟨S8x1024x64x1, .f32⟩
  | 17 => ⟨S_, .f32⟩
  | 18 => ⟨S_, .f32⟩
  | 19 => ⟨S8x1024x64x1, .f32⟩
  | 20 => ⟨S8x1024x64x1, .f32⟩
  | 21 => ⟨S8x1024x64x1, .f32⟩
  | 22 => ⟨S_, .f32⟩
  | 23 => ⟨S8x1024x64x1, .f32⟩
  | 24 => ⟨S8x1024x64x1, .f32⟩
  | 25 => ⟨S_, .f32⟩
  | 26 => ⟨S8x1024x64x1, .f32⟩
  | 27 => ⟨S8x1024x64x1, .f32⟩
  | 28 => ⟨S_, .f32⟩
  | 29 => ⟨S8x1024x64x1, .f32⟩
  | 30 => ⟨S8x1024x64x1, .i1⟩
  | 31 => ⟨S_, .f32⟩
  | 32 => ⟨S_, .f32⟩
  | 33 => ⟨S8x1024x64x1, .f32⟩
  | 34 => ⟨S8x1024x64x1, .f32⟩
  | 35 => ⟨S8x1024x64x1, .f32⟩
  | 36 => ⟨S_, .f32⟩
  | 37 => ⟨S8x1024x64x1, .f32⟩
  | 38 => ⟨S8x1024x64x1, .f32⟩
  | 39 => ⟨S8x1024x64x64, .f32⟩
  | 40 => ⟨S8x1024x64x64, .f32⟩
  | 41 => ⟨S_, .f32⟩
  | 42 => ⟨S_, .f32⟩
  | 43 => ⟨S_, .f32⟩
  | 44 => ⟨S8x1024x64x64, .f32⟩
  | 45 => ⟨S8x1024x64x64, .f32⟩
  | 46 => ⟨S_, .f32⟩
  | 47 => ⟨S8x1024x64x64, .f32⟩
  | 48 => ⟨S8x1024x64x64, .f32⟩
  | 49 => ⟨S8x1024x64x64, .fp8e4m3⟩
  | 50 => ⟨S_, .f32⟩
  | 51 => ⟨S8x1024x64x1, .f32⟩
  | 52 => ⟨S8x1024x64x1, .f32⟩
  | 53 => ⟨S8x1024x64, .f32⟩
  | 54 => ⟨S8x1024x64x64, .f32⟩
  | 55 => ⟨S8x1024x64x64, .f32⟩
  | 56 => ⟨S_, .f32⟩
  | 57 => ⟨S8x64x64, .f32⟩
  | 58 => ⟨S8x1x64x64, .f32⟩
  | 59 => ⟨S_, .f32⟩
  | 60 => ⟨S8x1x64x64, .f32⟩
  | 61 => ⟨S8x1x64x64, .f32⟩
  | 62 => ⟨S8x1x64x64, .f32⟩
  | 63 => ⟨S_, .f32⟩
  | 64 => ⟨S_, .f32⟩
  | 65 => ⟨S8x1x64x64, .f32⟩
  | 66 => ⟨S8x1x64x64, .f32⟩
  | 67 => ⟨S8x1x64x64, .f32⟩
  | 68 => ⟨S_, .f32⟩
  | 69 => ⟨S8x1x64x64, .f32⟩
  | 70 => ⟨S8x1x64x64, .f32⟩
  | 71 => ⟨S_, .f32⟩
  | 72 => ⟨S8x1x64x64, .f32⟩
  | 73 => ⟨S8x1x64x64, .f32⟩
  | 74 => ⟨S_, .f32⟩
  | 75 => ⟨S8x1x64x64, .f32⟩
  | 76 => ⟨S8x1x64x64, .i1⟩
  | 77 => ⟨S_, .f32⟩
  | 78 => ⟨S_, .f32⟩
  | 79 => ⟨S8x1x64x64, .f32⟩
  | 80 => ⟨S8x1x64x64, .f32⟩
  | 81 => ⟨S8x1x64x64, .f32⟩
  | 82 => ⟨S_, .f32⟩
  | 83 => ⟨S8x1x64x64, .f32⟩
  | 84 => ⟨S8x1x64x64, .f32⟩
  | 85 => ⟨S8x1024x64x64, .f32⟩
  | 86 => ⟨S8x1024x64x64, .f32⟩
  | 87 => ⟨S_, .f32⟩
  | 88 => ⟨S_, .f32⟩
  | 89 => ⟨S_, .f32⟩
  | 90 => ⟨S8x1024x64x64, .f32⟩
  | 91 => ⟨S8x1024x64x64, .f32⟩
  | 92 => ⟨S_, .f32⟩
  | 93 => ⟨S8x1024x64x64, .f32⟩
  | 94 => ⟨S8x1024x64x64, .f32⟩
  | 95 => ⟨S8x1024x64x64, .fp8e4m3⟩
  | 96 => ⟨S_, .f32⟩
  | 97 => ⟨S8x1x64x64, .f32⟩
  | 98 => ⟨S8x1x64x64, .f32⟩
  | 99 => ⟨S8x64x64, .f32⟩
  | 100 => ⟨S8x1024x64x64, .f32⟩
  | 101 => ⟨S8x1024x64x64, .f32⟩
  | 102 => ⟨S_, .f32⟩
  | 103 => ⟨S8x1024x64, .f32⟩
  | 104 => ⟨S8x1024x64x1, .f32⟩
  | 105 => ⟨S_, .f32⟩
  | 106 => ⟨S8x1024x64x1, .f32⟩
  | 107 => ⟨S8x1024x64x1, .f32⟩
  | 108 => ⟨S8x1024x64x1, .f32⟩
  | 109 => ⟨S_, .f32⟩
  | 110 => ⟨S_, .f32⟩
  | 111 => ⟨S8x1024x64x1, .f32⟩
  | 112 => ⟨S8x1024x64x1, .f32⟩
  | 113 => ⟨S8x1024x64x1, .f32⟩
  | 114 => ⟨S_, .f32⟩
  | 115 => ⟨S8x1024x64x1, .f32⟩
  | 116 => ⟨S8x1024x64x1, .f32⟩
  | 117 => ⟨S_, .f32⟩
  | 118 => ⟨S8x1024x64x1, .f32⟩
  | 119 => ⟨S8x1024x64x1, .f32⟩
  | 120 => ⟨S_, .f32⟩
  | 121 => ⟨S8x1024x64x1, .f32⟩
  | 122 => ⟨S8x1024x64x1, .i1⟩
  | 123 => ⟨S_, .f32⟩
  | 124 => ⟨S_, .f32⟩
  | 125 => ⟨S8x1024x64x1, .f32⟩
  | 126 => ⟨S8x1024x64x1, .f32⟩
  | 127 => ⟨S8x1024x64x1, .f32⟩
  | _ => ⟨S8x1024x64x64, .bf16⟩

abbrev hbmTy0_1 (i : Nat) : BufTy := match i % 128 with
  | 0 => ⟨S_, .f32⟩
  | 1 => ⟨S8x1024x64x1, .f32⟩
  | 2 => ⟨S8x1024x64x1, .f32⟩
  | 3 => ⟨S8x1024x64x64, .f32⟩
  | 4 => ⟨S8x1024x64x64, .f32⟩
  | 5 => ⟨S_, .f32⟩
  | 6 => ⟨S_, .f32⟩
  | 7 => ⟨S_, .f32⟩
  | 8 => ⟨S8x1024x64x64, .f32⟩
  | 9 => ⟨S8x1024x64x64, .f32⟩
  | 10 => ⟨S_, .f32⟩
  | 11 => ⟨S8x1024x64x64, .f32⟩
  | 12 => ⟨S8x1024x64x64, .f32⟩
  | 13 => ⟨S8x1024x64x64, .fp8e4m3⟩
  | 14 => ⟨S_, .f32⟩
  | 15 => ⟨S8x1024x64x1, .f32⟩
  | 16 => ⟨S8x1024x64x1, .f32⟩
  | 17 => ⟨S8x1024x64, .f32⟩
  | 18 => ⟨S8x1024x64x64, .bf16⟩
  | 19 => ⟨S8x1024x64x64, .bf16⟩
  | 20 => ⟨S8x1024x64x64, .bf16⟩
  | 21 => ⟨S8x16384x64x64, .bf16⟩
  | 22 => ⟨S8x16384x64x64, .bf16⟩
  | 23 => ⟨S_, .f32⟩
  | 24 => ⟨S8x1024x64, .f32⟩
  | 25 => ⟨S8x1024x64, .f32⟩
  | 26 => ⟨S8x1024x64, .bf16⟩
  | 27 => ⟨S8x1024x64x1, .bf16⟩
  | 28 => ⟨S8x1024x64x64, .bf16⟩
  | 29 => ⟨S8x1024x64x64, .bf16⟩
  | 30 => ⟨S8x64x64, .bf16⟩
  | 31 => ⟨S8x1x64x64, .bf16⟩
  | 32 => ⟨S8x1024x64x64, .bf16⟩
  | 33 => ⟨S8x1024x64x64, .bf16⟩
  | 34 => ⟨S8x1024x64, .bf16⟩
  | 35 => ⟨S8x1024x64x1, .bf16⟩
  | 36 => ⟨S8x1024x64x64, .bf16⟩
  | 37 => ⟨S8x1024x64x64, .bf16⟩
  | 38 => ⟨S8x64x64, .bf16⟩
  | 39 => ⟨S8x1x64x64, .bf16⟩
  | 40 => ⟨S8x16384x64x64, .bf16⟩
  | 41 => ⟨S8x16384x64x64, .bf16⟩
  | 42 => ⟨S8x16384x64, .bf16⟩
  | 43 => ⟨S8x16384x64x1, .bf16⟩
  | 44 => ⟨S8x16384x64x64, .bf16⟩
  | 45 => ⟨S8x16384x64x64, .bf16⟩
  | 46 => ⟨S8x64x1024x16384, .f32⟩
  | 47 => ⟨S8x64x1024x1024, .f32⟩
  | 48 => ⟨S16384, .i32⟩
  | 49 => ⟨S1x16384, .i32⟩
  | 50 => ⟨S8x1, .i32⟩
  | 51 => ⟨S8x16384, .i32⟩
  | 52 => ⟨S8x16384, .i32⟩
  | 53 => ⟨S8x16384, .i1⟩
  | 54 => ⟨S1024, .i32⟩
  | 55 => ⟨S1x1024, .i32⟩
  | 56 => ⟨S1024, .i32⟩
  | 57 => ⟨S1024x1, .i32⟩
  | 58 => ⟨S1024x1024, .i32⟩
  | 59 => ⟨S1024x1024, .i32⟩
  | 60 => ⟨S1024x1024, .i1⟩
  | 61 => ⟨S8x1x1x16384, .i1⟩
  | 62 => ⟨S_, .f32⟩
  | 63 => ⟨S_, .f32⟩
  | 64 => ⟨S8x64x1024x16384, .i1⟩
  | 65 => ⟨S8x64x1024x16384, .f32⟩
  | 66 => ⟨S8x64x1024x16384, .f32⟩
  | 67 => ⟨S1x1x1024x1024, .i1⟩
  | 68 => ⟨S_, .f32⟩
  | 69 => ⟨S_, .f32⟩
  | 70 => ⟨S8x64x1024x1024, .i1⟩
  | 71 => ⟨S8x64x1024x1024, .f32⟩
  | 72 => ⟨S8x64x1024x1024, .f32⟩
  | 73 => ⟨S_, .f32⟩
  | 74 => ⟨S8x64x1024, .f32⟩
  | 75 => ⟨S8x64x1024x1, .f32⟩
  | 76 => ⟨S_, .f32⟩
  | 77 => ⟨S8x64x1024, .f32⟩
  | 78 => ⟨S8x64x1024x1, .f32⟩
  | 79 => ⟨S8x64x1024x1, .f32⟩
  | 80 => ⟨S8x64x1024x16384, .f32⟩
  | 81 => ⟨S8x64x1024x16384, .f32⟩
  | 82 => ⟨S8x64x1024x16384, .f32⟩
  | 83 => ⟨S8x64x1024x1024, .f32⟩
  | 84 => ⟨S8x64x1024x1024, .f32⟩
  | 85 => ⟨S8x64x1024x1024, .f32⟩
  | 86 => ⟨S_, .f32⟩
  | 87 => ⟨S8x64x1024, .f32⟩
  | 88 => ⟨S8x64x1024x1, .f32⟩
  | 89 => ⟨S_, .f32⟩
  | 90 => ⟨S8x64x1024, .f32⟩
  | 91 => ⟨S8x64x1024x1, .f32⟩
  | 92 => ⟨S8x64x1024x1, .f32⟩
  | 93 => ⟨S8x64x1024x16384, .bf16⟩
  | 94 => ⟨S8x64x1024x64, .f32⟩
  | 95 => ⟨S8x64x1024x1024, .bf16⟩
  | 96 => ⟨S8x64x1024x64, .f32⟩
  | 97 => ⟨S8x64x1024x64, .f32⟩
  | 98 => ⟨S8x64x1024x64, .f32⟩
  | 99 => ⟨S8x64x1024x64, .f32⟩
  | 100 => ⟨S8x1024x64x64, .f32⟩
  | 101 => ⟨S8x1024x4096, .f32⟩
  | 102 => ⟨S8x1024x4096, .bf16⟩
  | _ => ⟨S8x1024x64x64, .bf16⟩

abbrev hbmTy (i : Nat) : BufTy := match i / 128 with
  | 0 => hbmTy0_0 i
  | 1 => hbmTy0_1 i
  | _ => ⟨S8x1024x64x64, .bf16⟩

abbrev bufTy : (tb : Table) → Fin (tcTables nBuf tb) → BufTy
  | .hbm, ⟨i, _⟩ => hbmTy i
  | .local _ .vmem, ⟨0, _⟩ => ⟨S8x1024x64x64, .fp8e4m3⟩
  | .local _ .vmem, ⟨1, _⟩ => ⟨S8x1024x64x64, .fp8e4m3⟩
  | .local _ .vmem, ⟨2, _⟩ => ⟨S8x1024x64x64, .fp8e4m3⟩
  | .local _ .vmem, ⟨3, _⟩ => ⟨S8x16384x64x64, .fp8e4m3⟩
  | .local _ .vmem, ⟨4, _⟩ => ⟨S8x16384x64x64, .fp8e4m3⟩
  | .local _ .vmem, ⟨5, _⟩ => ⟨S8x1024x64x64, .bf16⟩
  | .local _ .vmem, ⟨6, _⟩ => ⟨S8x1024x64x64, .bf16⟩
  | .local _ .vmem, ⟨7, _⟩ => ⟨S8x1024x64x64, .bf16⟩
  | .local _ .vmem, ⟨8, _⟩ => ⟨S8x16384x64x64, .bf16⟩
  | .local _ .vmem, ⟨9, _⟩ => ⟨S8x16384x64x64, .bf16⟩
  | _, _ => ⟨S8x1024x64x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_cst_8 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v23 : Ref sig .tc := ⟨.hbm, 48, rfl⟩
abbrev main_v24 : Ref sig .tc := ⟨.hbm, 49, rfl⟩
abbrev main_cst_9 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_10 : Ref sig .tc := ⟨.hbm, 56, rfl⟩
abbrev main_v30 : Ref sig .tc := ⟨.hbm, 57, rfl⟩
abbrev main_v31 : Ref sig .tc := ⟨.hbm, 58, rfl⟩
abbrev main_cst_11 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_12 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_13 : Ref sig .tc := ⟨.hbm, 68, rfl⟩
abbrev main_v39 : Ref sig .tc := ⟨.hbm, 69, rfl⟩
abbrev main_v40 : Ref sig .tc := ⟨.hbm, 70, rfl⟩
abbrev main_cst_14 : Ref sig .tc := ⟨.hbm, 71, rfl⟩
abbrev main_v41 : Ref sig .tc := ⟨.hbm, 72, rfl⟩
abbrev main_v42 : Ref sig .tc := ⟨.hbm, 73, rfl⟩
abbrev main_cst_15 : Ref sig .tc := ⟨.hbm, 74, rfl⟩
abbrev main_v43 : Ref sig .tc := ⟨.hbm, 75, rfl⟩
abbrev main_v44 : Ref sig .tc := ⟨.hbm, 76, rfl⟩
abbrev main_cst_16 : Ref sig .tc := ⟨.hbm, 77, rfl⟩
abbrev main_call2_v0 : Ref sig .tc := ⟨.hbm, 78, rfl⟩
abbrev main_call2_v1 : Ref sig .tc := ⟨.hbm, 79, rfl⟩
abbrev main_v45 : Ref sig .tc := ⟨.hbm, 80, rfl⟩
abbrev main_v46 : Ref sig .tc := ⟨.hbm, 81, rfl⟩
abbrev main_cst_17 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_18 : Ref sig .tc := ⟨.hbm, 87, rfl⟩
abbrev main_cst_19 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_v51 : Ref sig .tc := ⟨.hbm, 94, rfl⟩
abbrev main_v52 : Ref sig .tc := ⟨.hbm, 95, rfl⟩
abbrev main_cst_20 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_21 : Ref sig .tc := ⟨.hbm, 102, rfl⟩
abbrev main_v58 : Ref sig .tc := ⟨.hbm, 103, rfl⟩
abbrev main_v59 : Ref sig .tc := ⟨.hbm, 104, rfl⟩
abbrev main_cst_22 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_23 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_24 : Ref sig .tc := ⟨.hbm, 114, rfl⟩
abbrev main_v67 : Ref sig .tc := ⟨.hbm, 115, rfl⟩
abbrev main_v68 : Ref sig .tc := ⟨.hbm, 116, rfl⟩
abbrev main_cst_25 : Ref sig .tc := ⟨.hbm, 117, rfl⟩
abbrev main_v69 : Ref sig .tc := ⟨.hbm, 118, rfl⟩
abbrev main_v70 : Ref sig .tc := ⟨.hbm, 119, rfl⟩
abbrev main_cst_26 : Ref sig .tc := ⟨.hbm, 120, rfl⟩
abbrev main_v71 : Ref sig .tc := ⟨.hbm, 121, rfl⟩
abbrev main_v72 : Ref sig .tc := ⟨.hbm, 122, rfl⟩
abbrev main_cst_27 : Ref sig .tc := ⟨.hbm, 123, rfl⟩
abbrev main_call4_v0 : Ref sig .tc := ⟨.hbm, 124, rfl⟩
abbrev main_call4_v1 : Ref sig .tc := ⟨.hbm, 125, rfl⟩
abbrev main_v73 : Ref sig .tc := ⟨.hbm, 126, rfl⟩
abbrev main_v74 : Ref sig .tc := ⟨.hbm, 127, rfl⟩
abbrev main_cst_28 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_cst_29 : Ref sig .tc := ⟨.hbm, 133, rfl⟩
abbrev main_cst_30 : Ref sig .tc := ⟨.hbm, 134, rfl⟩
abbrev main_call5_v0 : Ref sig .tc := ⟨.hbm, 135, rfl⟩
abbrev main_call5_v1 : Ref sig .tc := ⟨.hbm, 136, rfl⟩
abbrev main_call5_v2 : Ref sig .tc := ⟨.hbm, 137, rfl⟩
abbrev main_call5_v3 : Ref sig .tc := ⟨.hbm, 138, rfl⟩
abbrev main_call5_v4 : Ref sig .tc := ⟨.hbm, 139, rfl⟩
abbrev main_v79 : Ref sig .tc := ⟨.hbm, 140, rfl⟩
abbrev main_v80 : Ref sig .tc := ⟨.hbm, 141, rfl⟩
abbrev main_cst_31 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84_0 : Ref sig .tc := ⟨.hbm, 146, rfl⟩
abbrev main_v84_1 : Ref sig .tc := ⟨.hbm, 147, rfl⟩
abbrev main_v84_2 : Ref sig .tc := ⟨.hbm, 148, rfl⟩
abbrev main_v84_3 : Ref sig .tc := ⟨.hbm, 149, rfl⟩
abbrev main_v84_4 : Ref sig .tc := ⟨.hbm, 150, rfl⟩
abbrev main_cst_32 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_cst_33 : Ref sig .tc := ⟨.hbm, 190, rfl⟩
abbrev main_call6_v0 : Ref sig .tc := ⟨.hbm, 191, rfl⟩
abbrev main_call6_v1 : Ref sig .tc := ⟨.hbm, 192, rfl⟩
abbrev main_call6_v2 : Ref sig .tc := ⟨.hbm, 193, rfl⟩
abbrev main_v123 : Ref sig .tc := ⟨.hbm, 194, rfl⟩
abbrev main_v124 : Ref sig .tc := ⟨.hbm, 195, rfl⟩
abbrev main_cst_34 : Ref sig .tc := ⟨.hbm, 196, rfl⟩
abbrev main_call7_v0 : Ref sig .tc := ⟨.hbm, 197, rfl⟩
abbrev main_call7_v1 : Ref sig .tc := ⟨.hbm, 198, rfl⟩
abbrev main_call7_v2 : Ref sig .tc := ⟨.hbm, 199, rfl⟩
abbrev main_v125 : Ref sig .tc := ⟨.hbm, 200, rfl⟩
abbrev main_cst_35 : Ref sig .tc := ⟨.hbm, 201, rfl⟩
abbrev main_v126 : Ref sig .tc := ⟨.hbm, 202, rfl⟩
abbrev main_v127 : Ref sig .tc := ⟨.hbm, 203, rfl⟩
abbrev main_cst_36 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_cst_37 : Ref sig .tc := ⟨.hbm, 214, rfl⟩
abbrev main_v137 : Ref sig .tc := ⟨.hbm, 215, rfl⟩
abbrev main_v138 : Ref sig .tc := ⟨.hbm, 216, rfl⟩
abbrev main_cst_38 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x1024x64x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x64x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x64x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x16384x64x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x16384x64x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024x64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024x64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024x64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x16384x64x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x16384x64x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Pre.lean ====
module

public import proofs.«01_k».proof.Pre_fits
public import Idealize.ShloMosaic.Lib.ReduceAll
public import Idealize.ShloMosaic.Lib.WordCmp
public import Idealize.ShloMosaic.Lib.Affine

@[expose] public section

/-! What the precondition `fits` says, element by element. -/

namespace Cert.Pre

open Idealize.ShloMosaic

theorem andi_one {a b : BitVec 1} (h : IntOp.andi a b = 1#1) : a = 1#1 ∧ b = 1#1 := by
  revert a b; decide

instance : Subsingleton Cert.Pre_fits.S_.Idx := ⟨fun a b => funext fun i => i.elim0⟩

/-- Under `fits` every cached length is at most 16384. -/
theorem fits_len {F : FTy → Type} [FloatOps F] [Cert.Pre_fits.Facts] {a0 a1 a2 a3 a4 a5 a6} {a7 : IVec Cert.Pre_fits.S8 32}
    (h : Cert.Pre_fits.fn (F := F) a0 a1 a2 a3 a4 a5 a6 a7 = fun _ => 1#1) (i : Cert.Pre_fits.S8.Idx) : (a7 i).toInt ≤ 16384 := by
  have h0 := congrFun h (fun i => i.elim0)
  unfold Cert.Pre_fits.fn at h0
  have h1 := Host.reduce_andi_all _ _ _ _ _ h0 i
  exact IntOp.cmpi_sle.1 h1

end Cert.Pre
-- ==== Proof.Needs.lean ====
module

public import proofs.«01_k».proof.Proof.Pre
public import proofs.«01_k».proof.Pre_needs
public import Idealize.ShloMosaic.Lib.ReduceAll
public import Idealize.ShloMosaic.Lib.WordCmp
public import Idealize.ShloMosaic.Lib.Affine
public import Idealize.ShloMosaic.PureOps.Ideal
public import Mathlib.Tactic.Linarith
public import Mathlib.Tactic.NormNum

@[expose] public section

/-! What the precondition `needs` says, element by element. -/

namespace Cert.Pre

open Idealize.ShloMosaic

instance : Subsingleton Cert.Pre_needs.S_.Idx := ⟨fun a b => funext fun i => i.elim0⟩

/-- Under `needs` every cached length is at most 16384. -/
theorem needs_len {F : FTy → Type} [FloatOps F] [Cert.Pre_needs.Facts] {a0 a1 a2 a3 a4 a5 a6} {a7 : IVec Cert.Pre_needs.S8 32}
    (h : Cert.Pre_needs.fn (F := F) a0 a1 a2 a3 a4 a5 a6 a7 = fun _ => 1#1) (i : Cert.Pre_needs.S8.Idx) : (a7 i).toInt ≤ 16384 := by
  have h0 := congrFun h (fun i => i.elim0)
  unfold Cert.Pre_needs.fn Cert.Pre_needs.fn_part1 at h0
  have h1 := Host.reduce_andi_all _ _ _ _ _ (andi_one h0).2 i
  exact IntOp.cmpi_sle.1 h1

theorem f32_bound : Ideal.ofBits .f32 0x7F7F0000#32 = ((255 * 2 ^ 120 : ℝ) : EReal) := by
  have e1 : ((0x7F7F0000#32 : BitVec 32).extractLsb' 31 1 == 1#1) = false := by decide
  have e2 : ((0x7F7F0000#32 : BitVec 32).extractLsb' 23 8).toNat = 254 := by decide
  have e3 : ((0x7F7F0000#32 : BitVec 32).extractLsb' 0 23).toNat = 8323072 := by decide
  show Ideal.ieee 8 23 (0x7F7F0000#32 : BitVec 32) = _
  unfold Ideal.ieee
  simp only [e1, e2, e3]
  norm_num

private theorem real_of_le {x : EReal} {b : ℝ} (h : max x (-x) ≤ (b : EReal)) : ∃ r : ℝ, x = r ∧ |r| ≤ b := by
  induction x using EReal.rec with
  | bot => simp at h
  | top => simp at h
  | coe r =>
    refine ⟨r, rfl, ?_⟩
    rw [← EReal.coe_neg, max_le_iff, EReal.coe_le_coe_iff, EReal.coe_le_coe_iff] at h
    exact abs_le.2 ⟨by linarith [h.2], h.1⟩

private theorem le_of_cmp {x y : EReal} (h : Ideal.cmp .ole x y = 1#1) : x ≤ y := by
  unfold Ideal.cmp at h
  by_contra hn
  simp [hn] at h

/-- Under `needs` every query, new key and new value is a real of absolute value at most the largest finite
    bf16. -/
theorem needs_fin [Cert.Pre_needs.Facts] {a0 a1 a2 a3 a4 a5 a6} {a7 : IVec Cert.Pre_needs.S8 32}
    (h : Cert.Pre_needs.fn (F := Ideal) a0 a1 a2 a3 a4 a5 a6 a7 = fun _ => 1#1) (i : Cert.Pre_needs.S8x1024x64x64.Idx) :
    (∃ r : ℝ, a0 i = (r : EReal) ∧ |r| ≤ 255 * 2 ^ 120) ∧ (∃ r : ℝ, a1 i = (r : EReal) ∧ |r| ≤ 255 * 2 ^ 120)
      ∧ (∃ r : ℝ, a2 i = (r : EReal) ∧ |r| ≤ 255 * 2 ^ 120) := by
  have h0 := congrFun h (fun i => i.elim0)
  unfold Cert.Pre_needs.fn Cert.Pre_needs.fn_part1 at h0
  have h1 := (andi_one h0).1
  have h2 := (andi_one h1).1
  have k0 := Host.reduce_andi_all _ _ _ _ _ (andi_one h2).1 i
  have k1 := Host.reduce_andi_all _ _ _ _ _ (andi_one h2).2 i
  have k2 := Host.reduce_andi_all _ _ _ _ _ (andi_one h1).2 i
  have g0 : max (a0 i : EReal) (-(a0 i)) ≤ Ideal.ofBits .f32 0x7F7F0000#32 := le_of_cmp k0
  have g1 : max (a1 i : EReal) (-(a1 i)) ≤ Ideal.ofBits .f32 0x7F7F0000#32 := le_of_cmp k1
  have g2 : max (a2 i : EReal) (-(a2 i)) ≤ Ideal.ofBits .f32 0x7F7F0000#32 := le_of_cmp k2
  rw [f32_bound] at g0 g1 g2
  exact ⟨real_of_le g0, real_of_le g1, real_of_le g2⟩

end Cert.Pre
-- ==== Proof.Kernel.Points.lean ====
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 1 (fun _ => rfl) (by decide)) (P := 1) (by decide) t).mpr (Nat.mod_one _) : ∀ t : Fin grid0.N, Pipeline.Window.fetchOf grid0 false cc0_transform_1 t = true)
/-- Window 2 (operand 3 (%2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 1 (fun _ => rfl) (by decide)) (P := 1) (by decide) t).mpr (Nat.mod_one _) : ∀ t : Fin grid0.N, Pipeline.Window.fetchOf grid0 false cc0_transform_2 t = true)
/-- Window 3 (operand 4 (%3)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 1 (by decide) (by decide) (Pipeline.Window.sep_of_coord cc0_transform_3 1 1 (fun _ => rfl) (by decide)) (P := 1) (by decide) t).mpr (Nat.mod_one _) : ∀ t : Fin grid0.N, Pipeline.Window.fetchOf grid0 false cc0_transform_3 t = true)
/-- Window 4 (operand 5 (%4)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 1 (by decide) (by decide) (Pipeline.Window.sep_of_coord cc0_transform_4 1 1 (fun _ => rfl) (by decide)) (P := 1) (by decide) t).mpr (Nat.mod_one _) : ∀ t : Fin grid0.N, Pipeline.Window.fetchOf grid0 false cc0_transform_4 t = true)
/-- Window 5 (operand 6 (%arg5)) is fetched at the points ≡ 0 (mod 4), at any contents of the tables (its index map reads none). -/
theorem fetch0_5 (a : (pcfg0 (F := F)).Adm) : ∀ t : Fin (cfg0 a).N, ((cfg0 a).win 5).fetch t = true ↔ t.val % 4 = 0 :=
  (by decide +kernel : ∀ t : Fin grid0.N, Pipeline.Window.fetchOf grid0 false cc0_transform_5 t = true ↔ t.val % 4 = 0)
/-- Window 6 (operand 7 (%5)) is fetched at the points ≡ 0 (mod 4), at any contents of the tables (its index map reads none). -/
theorem fetch0_6 (a : (pcfg0 (F := F)).Adm) : ∀ t : Fin (cfg0 a).N, ((cfg0 a).win 6).fetch t = true ↔ t.val % 4 = 0 :=
  (by decide +kernel : ∀ t : Fin grid0.N, Pipeline.Window.fetchOf grid0 false cc0_transform_6 t = true ↔ t.val % 4 = 0)
/-- Window 7 (result 0 (%6#0)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 2 (fun _ => rfl) (by decide)) (P := 1) (m := 0) (by decide) rfl t).mpr (Nat.mod_one _) : ∀ t : Fin grid0.N, Pipeline.Window.flushOf grid0 true cc0_transform_7 t = true)
/-- Window 8 (result 1 (%6#1)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 1 (fun _ => rfl) (by decide)) (P := 1) (m := 0) (by decide) rfl t).mpr (Nat.mod_one _) : ∀ t : Fin grid0.N, Pipeline.Window.flushOf grid0 true cc0_transform_8 t = true)
/-- Window 9 (result 2 (%6#2)) is written back at the points ≡ 3 (mod 4), at any contents of the tables (its index map reads none). -/
theorem flush0_9 (a : (pcfg0 (F := F)).Adm) : ∀ t : Fin (cfg0 a).N, ((cfg0 a).win 9).flush t = true ↔ t.val % 4 = 3 :=
  (by decide +kernel : ∀ t : Fin grid0.N, Pipeline.Window.flushOf grid0 true cc0_transform_9 t = true ↔ t.val % 4 = 3)
/-- Window 10 (result 3 (%6#3)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 1 (by decide) (by decide) (Pipeline.Window.sep_of_coord cc0_transform_10 1 1 (fun _ => rfl) (by decide)) (P := 1) (m := 0) (by decide) rfl t).mpr (Nat.mod_one _) : ∀ t : Fin grid0.N, Pipeline.Window.flushOf grid0 true cc0_transform_10 t = true)
/-- Window 11 (result 4 (%6#4)) is written back at the points ≡ 3 (mod 4), at any contents of the tables (its index map reads none). -/
theorem flush0_11 (a : (pcfg0 (F := F)).Adm) : ∀ t : Fin (cfg0 a).N, ((cfg0 a).win 11).flush t = true ↔ t.val % 4 = 3 :=
  (by decide +kernel : ∀ t : Fin grid0.N, Pipeline.Window.flushOf grid0 true cc0_transform_11 t = true ↔ t.val % 4 = 3)
/-- Window 12 (result 5 (%6#5)) is written back at every point, at any contents of the tables (its index map reads none). -/
theorem flush0_12 (a : (pcfg0 (F := F)).Adm) : ∀ t : Fin (cfg0 a).N, ((cfg0 a).win 12).flush t = true :=
  (fun t => (Pipeline.Window.flushOf_reads cc0_transform_12 reads0_12 hreads0_12 1 (by decide) (by decide) (Pipeline.Window.sep_of_coord cc0_transform_12 1 1 (fun _ => rfl) (by decide)) (P := 1) (m := 0) (by decide) rfl t).mpr (Nat.mod_one _) : ∀ t : Fin grid0.N, Pipeline.Window.flushOf grid0 true cc0_transform_12 t = true)
/-- Window 13 (result 6 (%6#6)) is written back at the points ≡ 3 (mod 4), at any contents of the tables (its index map reads none). -/
theorem flush0_13 (a : (pcfg0 (F := F)).Adm) : ∀ t : Fin (cfg0 a).N, ((cfg0 a).win 13).flush t = true ↔ t.val % 4 = 3 :=
  (by decide +kernel : ∀ t : Fin grid0.N, Pipeline.Window.flushOf grid0 true cc0_transform_13 t = true ↔ t.val % 4 = 3)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attend (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

end Cert.Kernel.Gen

end
-- ==== Proof.Kernel.Runs.lean ====
module

public import proofs.«01_k».proof.Proof.Gen.Kernel.Launch
public import proofs.«01_k».proof.Proof.Gen.Kernel.Skeleton
public import proofs.«01_k».proof.Proof.Gen.Kernel.Loops
public import proofs.«01_k».proof.Proof.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S8 .i32 := Memref.whole main_arg7
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      (Pipeline.RDat.FramePost.arr_in h c 5 rfl).trans ((hA c 5).trans (V_main_arg5 m c)),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x2x64x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2x64x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2x64x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2x64x16384 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x2x64x16384 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x8x64 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x8x16384 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1024x128 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x2x64x1024 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x8x1024 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x2x64x1024 .fp8e4m3 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x8x64 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x2x64x1024 .fp8e4m3 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x8x1024 .f32 := spec0_13.stage ((cfgM m hO).slots t 13)
abbrev hs0_13 (hO : Ok m) (t : Fin (cfgM m hO).N) : (ms0_13 m hO t).IsWhole := hstage0_13 (((cfgM m hO).slots t 13).cast nbuf0_13)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S64x1024 .bf16 := Memref.whole cc0_scratch0
abbrev scM0_1 : Memref sig .tc .vmem S64x1024 .bf16 := Memref.whole cc0_scratch1
abbrev scM0_2 : Memref sig .tc .vmem S64x1024 .bf16 := Memref.whole cc0_scratch2
abbrev scM0_3 : Memref sig .tc .vmem S64x1024 .f32 := Memref.whole cc0_scratch3
abbrev scM0_4 : Memref sig .tc .vmem S1x1024 .f32 := Memref.whole cc0_scratch4
abbrev scM0_5 : Memref sig .tc .vmem S1x1024 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Gen

end
-- ==== Proof.Kernel.Run.lean ====
module

public import proofs.«01_k».proof.Proof.Kernel.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1692000 in
/-- The body's triple: on whole staging memrefs — the inputs' at their contents,
    the FORGOTTEN outputs' (7, 8, 9, 10, 11, 12, 13) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg3 : Memref sig .tc .vmem S1x2x64x1024 .bf16) (harg3 : arg3.IsWhole) (arg4 : Memref sig .tc .vmem S1x2x64x1024 .bf16) (harg4 : arg4.IsWhole) (arg5 : Memref sig .tc .vmem S1x2x64x1024 .bf16) (harg5 : arg5.IsWhole) (arg6 : Memref sig .tc .vmem S1x2x64x16384 .fp8e4m3) (harg6 : arg6.IsWhole) (arg7 : Memref sig .tc .vmem S1x2x64x16384 .fp8e4m3) (harg7 : arg7.IsWhole) (arg8 : Memref sig .tc .vmem S1x8x64 .f32) (harg8 : arg8.IsWhole) (arg9 : Memref sig .tc .vmem S1x8x16384 .f32) (harg9 : arg9.IsWhole) (arg10 : Memref sig .tc .vmem S1x1024x128 .bf16) (harg10 : arg10.IsWhole) (arg11 : Memref sig .tc .vmem S1x2x64x1024 .fp8e4m3) (harg11 : arg11.IsWhole) (arg12 : Memref sig .tc .vmem S1x8x1024 .f32) (harg12 : arg12.IsWhole) (arg13 : Memref sig .tc .vmem S1x2x64x1024 .fp8e4m3) (harg13 : arg13.IsWhole) (arg14 : Memref sig .tc .vmem S1x8x64 .f32) (harg14 : arg14.IsWhole) (arg15 : Memref sig .tc .vmem S1x2x64x1024 .fp8e4m3) (harg15 : arg15.IsWhole) (arg16 : Memref sig .tc .vmem S1x8x1024 .f32) (harg16 : arg16.IsWhole) (arg17 : Memref sig .tc .vmem S64x1024 .bf16) (harg17 : arg17.IsWhole) (arg18 : Memref sig .tc .vmem S64x1024 .bf16) (harg18 : arg18.IsWhole) (arg19 : Memref sig .tc .vmem S64x1024 .bf16) (harg19 : arg19.IsWhole) (arg20 : Memref sig .tc .vmem S64x1024 .f32) (harg20 : arg20.IsWhole) (arg21 : Memref sig .tc .vmem S1x1024 .f32) (harg21 : arg21.IsWhole) (arg22 : Memref sig .tc .vmem S1x1024 .f32) (harg22 : arg22.IsWhole)
    (x0 : Vec F S1x2x64x1024 .bf16) (x1 : Vec F S1x2x64x1024 .bf16) (x2 : Vec F S1x2x64x1024 .bf16) (x3 : Vec F S1x2x64x16384 .fp8e4m3) (x4 : Vec F S1x2x64x16384 .fp8e4m3) (x5 : Vec F S1x8x64 .f32) (x6 : Vec F S1x8x16384 .f32) (xt0 : TbBuf0 (F := F) c tbM0_0) (k0_hw1 : k0_chk1 i (tbM0_0.view.readAt (Elt F) (Rect.unit (s := S8) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ tbPt0 c tbM0_0 xt0) -∗ K ⟨⟩))
          ⊢ wp frame (wpE (defs₀ (F := F)) Variants.none c none) E (cc0_attend i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_attend_eq_skeleton]; unfold cc0_attend_skel
    simp only [k0_part32_eq_skeleton]; unfold k0_part32_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexact HT0

end Cert.Kernel.Gen

end
-- ==== Proof.Kernel.Frame.lean ====
module

public import proofs.«01_k».proof.Proof.Kernel.Run
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7, 8, 9, 10, 11, 12, 13): nothing reads what the kernel leaves in them, so nothing
    of it is named (Lib/Pipeline/Dat.lean `Dat.toRForget`). -/
def forgets0 : Fin 14 → Bool := fun w => w.val == 7 || w.val == 8 || w.val == 9 || w.val == 10 || w.val == 11 || w.val == 12 || w.val == 13

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
    | ⟨12, h⟩ => Pipeline.Dat.unnamed (cfg := (cfgM m hO)) ⟨12, h⟩ t
    | ⟨13, h⟩ => Pipeline.Dat.unnamed (cfg := (cfgM m hO)) ⟨13, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d)
    ∗ (∃ d, owns (c : Thread nD τ) (ms0_13 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d)
    ∗ (∃ d, owns (c : Thread nD τ) (ms0_13 m hO t) fullShare d))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6]
  rw [show (dats m hO hH 0 c).Φ t.castSucc = iprop(Pipeline.ΦA spec0 c ∗ Pipeline.ΦT pre0 (tbl m) c) from rfl, PhiT0_eq, PhiA0_eq]
  iintro ⟨⟨⟨⟨HS0, HS1, HS2, HS3, HS4, HS5⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_A c (grid0.coords t) _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (Hyps.c0 hH c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HT0]; · iexact HT0
  iintro ⟨H0, H1, H2, H3, H4, H5, H6, H7, H8, H9, H10, H11, H12, H13, HS0, HS1, HS2, HS3, HS4, HS5, HT0⟩
  isplitl [HS0 HS1 HS2 HS3 HS4 HS5 Hg HT0]
  · isplitl [HS0 HS1 HS2 HS3 HS4 HS5 Hg]
    · isplitl [HS0 HS1 HS2 HS3 HS4 HS5]
      · isplitl [HS0]
        · iexact HS0
        isplitl [HS1]
        · iexact HS1
        isplitl [HS2]
        · iexact HS2
        isplitl [HS3]
        · iexact HS3
        isplitl [HS4]
        · iexact HS4
        iexact HS5
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 7, 8, 9, 10, 11, 12, 13) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (fun c => (dats m hO hH 0 c).toRForget forgets0) (A_eq m hO hH) (run_main m ρ hO hH)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.Kernel.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO hH) ((θ_run defs _ _).mono (fun _ h => h.2) (run_main_quiescent m ρ hO hH))

end Cert.Kernel.Gen

end
-- ==== Proof.Words.lean ====
module

public import Idealize.ShloMosaic.Lib.Affine
public import Idealize.ShloMosaic.PureOps

@[expose] public section

/-! The number of 512-wide blocks a row of `v` cached keys takes, as the kernel computes it on words. -/

namespace Cert.Words

open Idealize.ShloMosaic

/-- The word `⌊(v + 512 − 1) / 512⌋`, by a truncating division corrected for a negative dividend. -/
def blocks (v : BitVec 32) : BitVec 32 :=
  let x : BitVec 32 := Scalar.subi (Scalar.addi v 512#32) 1#32
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt 512#32 0#32)) (Scalar.extui (Scalar.cmpi .slt 512#32 0#32))))
      (Scalar.cmpi .ne (Scalar.remsi x 512#32) 0#32))
    (Scalar.subi (Scalar.divsi x 512#32) 1#32) (Scalar.divsi x 512#32)

private theorem lit (n : Nat) (h : n < 2 ^ 31) : Affine.IsInt (BitVec.ofNat 32 n) n := Affine.ofNat n ⟨rfl, h⟩

private theorem divsi_nonpos (x : BitVec 32) (h : x.toInt ≤ 0) :
    -(2 ^ 31 : Int) / 512 - 1 ≤ (Scalar.divsi x 512#32).toInt ∧ (Scalar.divsi x 512#32).toInt ≤ 0 := by
  have hc : ¬ IntOp.SDivCorner x 512#32 := by
    rintro (h0 | ⟨-, h1⟩)
    · exact absurd h0 (by decide)
    · exact absurd h1 (by decide)
  have e : (Scalar.divsi x 512#32).toInt = x.toInt.tdiv 512 := by
    rw [Scalar.divsi, IntOp.divsi, if_neg hc, BitVec.toInt_sdiv]
    have hr := Affine.word_range x
    have e5 : (512#32 : BitVec 32).toInt = 512 := by decide
    rw [e5]
    have h1 : x.toInt.tdiv 512 = -((-x.toInt) / 512) := by
      rw [← Int.neg_neg x.toInt, Int.neg_tdiv, Int.tdiv_eq_ediv_of_nonneg (by omega), Int.neg_neg]
    rw [h1]
    exact Int.bmod_eq_of_le (by omega) (by omega)
  have h1 : x.toInt.tdiv 512 = -((-x.toInt) / 512) := by
    rw [← Int.neg_neg x.toInt, Int.neg_tdiv, Int.tdiv_eq_ediv_of_nonneg (by omega), Int.neg_neg]
  have hr := Affine.word_range x
  omega

/-- For a word of at most 16384: the block count is `⌈v / 512⌉` when `v` is positive and otherwise not positive. -/
theorem blocks_spec (v : BitVec 32) (h : v.toInt ≤ 16384) :
    ∃ n : Int, Affine.IsInt (blocks v) n ∧ n.toNat = ((v.toInt + 511) / 512).toNat ∧ -(2 ^ 30) ≤ n ∧ n ≤ 32 := by
  have hr := Affine.word_range v
  have h512 : Affine.IsInt 512#32 512 := lit 512 (by omega)
  have h1 : Affine.IsInt 1#32 1 := lit 1 (by omega)
  have h0 : Affine.IsInt 0#32 0 := lit 0 (by omega)
  have hx : Affine.IsInt (Scalar.subi (Scalar.addi v 512#32) 1#32) (v.toInt + 511) :=
    Affine.subi (Affine.addi (e := v.toInt + 512) (Affine.word v) h512 (by omega)) h1 (by omega)
  unfold blocks
  by_cases hp : 0 ≤ v.toInt + 511
  · have hq := Affine.divsi (e := (v.toInt + 511) / 512) hx h512 (by omega)
    have hm := Affine.remsi (e := (v.toInt + 511) % 512) hx h512 (by omega)
    have g1 : Affine.IsInt (Scalar.extui (Scalar.cmpi .slt (Scalar.subi (Scalar.addi v 512#32) 1#32) 0#32)) 0 :=
      Affine.extui_fails (Affine.slt_fails hx h0 (by omega)) rfl
    have g2 : Affine.IsInt (Scalar.subi (Scalar.extui (Scalar.cmpi .sgt 512#32 0#32)) (Scalar.extui (Scalar.cmpi .slt 512#32 0#32))) 1 :=
      Affine.subi (Affine.extui_holds (Affine.sgt_holds h512 h0 (by omega)) rfl) (Affine.extui_fails (Affine.slt_fails h512 h0 (by omega)) rfl) (by omega)
    refine ⟨(v.toInt + 511) / 512, ?_, rfl, by omega, by omega⟩
    by_cases hz : v.toInt + 511 = 0
    · exact Affine.select_fails
        (Affine.andi_fails_right trivial (Affine.ne_fails hm h0 (by omega)))
        (Affine.subi (e := (v.toInt + 511) / 512 - 1) hq h1 (by omega)) hq rfl
    · exact Affine.select_fails
        (Affine.andi_fails_left (Affine.ne_fails (Affine.subi (e := 1) (Affine.extui_holds (Affine.sgt_holds hx h0 (by omega)) rfl) g1 (by omega)) g2 rfl) trivial)
        (Affine.subi (e := (v.toInt + 511) / 512 - 1) hq h1 (by omega)) hq rfl
  · have hxe : (Scalar.subi (Scalar.addi v 512#32) 1#32).toInt = v.toInt + 511 := Affine.unique (Affine.word _) hx
    have hd := divsi_nonpos _ (by rw [hxe]; omega)
    have hq := Affine.word (Scalar.divsi (Scalar.subi (Scalar.addi v 512#32) 1#32) 512#32)
    obtain ⟨n, hn, hlo, hhi⟩ := Affine.select_atom
      (c := Scalar.andi
      (Scalar.cmpi .ne
        (Scalar.subi (Scalar.extui (Scalar.cmpi .sgt (Scalar.subi (Scalar.addi v 512#32) 1#32) 0#32)) (Scalar.extui (Scalar.cmpi .slt (Scalar.subi (Scalar.addi v 512#32) 1#32) 0#32)))
        (Scalar.subi (Scalar.extui (Scalar.cmpi .sgt 512#32 0#32)) (Scalar.extui (Scalar.cmpi .slt 512#32 0#32))))
      (Scalar.cmpi .ne (Scalar.remsi (Scalar.subi (Scalar.addi v 512#32) 1#32) 512#32) 0#32)) trivial
      (Affine.subi (e := (Scalar.divsi (Scalar.subi (Scalar.addi v 512#32) 1#32) 512#32).toInt - 1) hq h1 (by omega)) hq
    refine ⟨n, hn, by omega, by omega, by omega⟩

/-- The first loop of a head: from 0 to the block count by 1. -/
def loopA (v : BitVec 32) : Scf.Loop 32 :=
  ⟨0#32, Scalar.addi 0#32 (Scalar.muli (Scalar.divsi (Scalar.subi (blocks v) 0#32) 1#32) 1#32), 1#32⟩

/-- The second loop of a head: what the first leaves over, which is nothing. -/
def loopB (v : BitVec 32) : Scf.Loop 32 :=
  ⟨Scalar.addi 0#32 (Scalar.muli (Scalar.divsi (Scalar.subi (blocks v) 0#32) 1#32) 1#32),
    Scalar.addi 0#32 (Scalar.subi (blocks v) 0#32), 1#32⟩

private theorem isInt_trips {lb ub st : BitVec 32} {eu : Int} (hlb : Affine.IsInt lb 0) (hub : Affine.IsInt ub eu) (hst : Affine.IsInt st 1) :
    Scf.trips lb ub st = eu.toNat := by
  rw [Scf.trips, Affine.unique (Affine.word lb) hlb, Affine.unique (Affine.word ub) hub, Affine.unique (Affine.word st) hst]
  congr 1; omega

theorem loops_spec (v : BitVec 32) (h : v.toInt ≤ 16384) :
    (loopA v).OK ∧ (loopA v).trips = ((v.toInt + 511) / 512).toNat ∧ (loopB v).OK ∧ (loopB v).trips = 0 := by
  obtain ⟨n, hn, hN, hlo, hhi⟩ := blocks_spec v h
  have h1 : Affine.IsInt 1#32 1 := lit 1 (by omega)
  have h0 : Affine.IsInt 0#32 0 := lit 0 (by omega)
  have hs : Affine.IsInt (Scalar.subi (blocks v) 0#32) n := Affine.subi hn h0 (by omega)
  have hA : Affine.IsInt (Scalar.addi 0#32 (Scalar.muli (Scalar.divsi (Scalar.subi (blocks v) 0#32) 1#32) 1#32)) n :=
    Affine.addi h0 (Affine.muli (e := n) (Affine.divsi_one (e := n) hs h1 ⟨rfl, rfl⟩) h1 (by omega)) (by omega)
  have hB : Affine.IsInt (Scalar.addi 0#32 (Scalar.subi (blocks v) 0#32)) n := Affine.addi h0 hs (by omega)
  refine ⟨Affine.ok h0 hA h1 (by omega), ?_, Affine.ok hA hB h1 (by omega), ?_⟩
  · have e := isInt_trips h0 hA h1
    exact e.trans (by omega)
  · exact Affine.trips_eq hA hB h1 0 (by omega)

/-- At trip `k` below 32 the loop reads from column `512·k`. -/
theorem column (k : Nat) (hk : k < 32) :
    Affine.IsInt (Scalar.muli (Scf.iv 0#32 1#32 k) 512#32) (512 * (k : Int)) := by
  have h1 : Affine.IsInt 1#32 1 := lit 1 (by omega)
  have h0 : Affine.IsInt 0#32 0 := lit 0 (by omega)
  have h512 : Affine.IsInt 512#32 512 := lit 512 (by omega)
  exact Affine.muli (Affine.iv (e := (k : Int)) h0 h1 k (by omega)) h512 (by omega)

/-- The row of the scales of head `2·i + h`, within its group of eight. -/
def row (i : Nat) (h : BitVec 32) : BitVec 32 :=
  let x : BitVec 32 := Scalar.addi (Scalar.muli (BitVec.ofNat 32 i) 2#32) h
  let y : BitVec 32 := Scalar.select (Scalar.cmpi .eq 8#32 0#32) 1#32 8#32
  let r : BitVec 32 := Scalar.remsi x y
  Scalar.select (Scalar.andi (Scalar.xori (Scalar.cmpi .slt r 0#32) (Scalar.cmpi .slt y 0#32)) (Scalar.cmpi .ne r 0#32))
    (Scalar.addi r y) r

theorem row_spec (i : Nat) (hi : i < 1000) (b : Nat) (hb : b < 2) :
    Affine.IsInt (row i (BitVec.ofNat 32 b)) ((2 * (i : Int) + b) % 8) := by
  have h2 : Affine.IsInt 2#32 2 := lit 2 (by omega)
  have h0 : Affine.IsInt 0#32 0 := lit 0 (by omega)
  have h1 : Affine.IsInt 1#32 1 := lit 1 (by omega)
  have h8 : Affine.IsInt 8#32 8 := lit 8 (by omega)
  have hb' := lit b (by omega)
  have hi' := lit i (by omega)
  have hx := Affine.addi (e := 2 * (i : Int) + b) (Affine.muli (e := 2 * (i : Int)) hi' h2 (by omega)) hb' (by omega)
  have hy := Affine.select_fails (e := 8) (Affine.eq_fails h8 h0 (by omega)) h1 h8 rfl
  have hr := Affine.remsi (e := (2 * (i : Int) + b) % 8) hx hy (by omega)
  exact Affine.select_fails (Affine.andi_fails_left (Affine.xori_ff (Affine.slt_fails hr h0 (by omega)) (Affine.slt_fails hy h0 (by omega))) trivial)
    (Affine.addi (e := (2 * (i : Int) + b) % 8 + 8) hr hy (by omega)) hr rfl

end Cert.Words
-- ==== Proof.Kernel.Check.lean ====
module

public import proofs.«01_k».proof.Proof.Words
public import proofs.«01_k».proof.Kernel
public import proofs.«01_k».proof.Proof.Gen.Kernel

@[expose] public section

/-! What the kernel asks of a row's cached length: it holds of every length of at most 16384. -/

namespace Cert.Kernel

open Idealize.ShloMosaic Cert.Kernel.Gen

theorem t1_eq (v : BitVec 32) : k0_t1_loop v = Cert.Words.loopA v := rfl
theorem t2_eq (v : BitVec 32) : k0_t2_loop v = Cert.Words.loopB v := rfl
theorem t3_eq (v : BitVec 32) : k0_t3_loop v = Cert.Words.loopA v := rfl
theorem t4_eq (v : BitVec 32) : k0_t4_loop v = Cert.Words.loopB v := rfl

theorem t1_trips (v : BitVec 32) (h : v.toInt ≤ 16384) : (k0_t1_loop v).trips = ((v.toInt + 511) / 512).toNat := (Cert.Words.loops_spec v h).2.1
theorem t2_trips (v : BitVec 32) (h : v.toInt ≤ 16384) : (k0_t2_loop v).trips = 0 := (Cert.Words.loops_spec v h).2.2.2
theorem t3_trips (v : BitVec 32) (h : v.toInt ≤ 16384) : (k0_t3_loop v).trips = ((v.toInt + 511) / 512).toNat := (Cert.Words.loops_spec v h).2.1
theorem t4_trips (v : BitVec 32) (h : v.toInt ≤ 16384) : (k0_t4_loop v).trips = 0 := (Cert.Words.loops_spec v h).2.2.2

private theorem lt32 {v : BitVec 32} (h : v.toInt ≤ 16384) {k : Nat} (hk : k < ((v.toInt + 511) / 512).toNat) : k < 32 := by omega

/-- The kernel's conditions on the length word, of every word of at most 16384. -/
theorem chk1_of (i : grid0.Coords) (v : BitVec 32) (h : v.toInt ≤ 16384) : k0_chk1 i v := by
  have hi : (i 1).val < 32 := (i 1).isLt
  have hL := Cert.Words.loops_spec v h
  have z : Affine.IsInt 0#32 0 := Affine.ofNat 0 (by omega)
  have o : Affine.IsInt 1#32 1 := Affine.ofNat 1 (by omega)
  refine ⟨hL.1, fun k => ?_, fun k => ?_, fun k => ?_, hL.2.2.1, fun k => ?_, fun k => ?_, fun k => ?_, hL.1, fun k => ?_, fun k => ?_, fun k => ?_, hL.2.2.1, fun k => ?_, fun k => ?_, fun k => ?_⟩
  · exact Affine.dvd_of (Cert.Words.column k (lt32 h (Nat.lt_of_lt_of_eq k.isLt (t1_trips v h)))) 512 (by omega)
  · have hk := lt32 h (Nat.lt_of_lt_of_eq k.isLt (t1_trips v h))
    exact Affine.inb_cons z (by omega) <| Affine.inb_cons z (by omega) <| Affine.inb_cons z (by omega) <|
      Affine.inb_cons (Cert.Words.column k hk) (by omega) <| Affine.inb_nil
  · have hk := lt32 h (Nat.lt_of_lt_of_eq k.isLt (t1_trips v h))
    exact Affine.inb_cons z (by omega) <| Affine.inb_cons (Cert.Words.row_spec (i 1).val (by omega) 0 (by omega)) (by omega) <|
      Affine.inb_cons (Cert.Words.column k hk) (by omega) <| Affine.inb_nil
  · exact absurd (Nat.lt_of_lt_of_eq k.isLt (t2_trips v h)) (Nat.not_lt_zero _)
  · exact absurd (Nat.lt_of_lt_of_eq k.isLt (t2_trips v h)) (Nat.not_lt_zero _)
  · exact absurd (Nat.lt_of_lt_of_eq k.isLt (t2_trips v h)) (Nat.not_lt_zero _)
  · exact Affine.dvd_of (Cert.Words.column k (lt32 h (Nat.lt_of_lt_of_eq k.isLt (t3_trips v h)))) 512 (by omega)
  · have hk := lt32 h (Nat.lt_of_lt_of_eq k.isLt (t3_trips v h))
    exact Affine.inb_cons z (by omega) <| Affine.inb_cons o (by omega) <| Affine.inb_cons z (by omega) <|
      Affine.inb_cons (Cert.Words.column k hk) (by omega) <| Affine.inb_nil
  · have hk := lt32 h (Nat.lt_of_lt_of_eq k.isLt (t3_trips v h))
    exact Affine.inb_cons z (by omega) <| Affine.inb_cons (Cert.Words.row_spec (i 1).val (by omega) 1 (by omega)) (by omega) <|
      Affine.inb_cons (Cert.Words.column k hk) (by omega) <| Affine.inb_nil
  · exact absurd (Nat.lt_of_lt_of_eq k.isLt (t4_trips v h)) (Nat.not_lt_zero _)
  · exact absurd (Nat.lt_of_lt_of_eq k.isLt (t4_trips v h)) (Nat.not_lt_zero _)
  · exact absurd (Nat.lt_of_lt_of_eq k.isLt (t4_trips v h)) (Nat.not_lt_zero _)

end Cert.Kernel
-- ==== Proof.Kernel.Hyps.lean ====
module

public import proofs.«01_k».proof.Proof.Kernel.Check
public import proofs.«01_k».proof.Proof.Kernel.Runs

@[expose] public section

/-! The conditions the runs of the program take, from a bound on the cached lengths. -/

namespace Cert.Kernel.Gen

open Idealize.ShloMosaic Idealize.SL.Sem Cert.Kernel

variable {F : FTy → Type} [FloatOps F]

theorem ok_all (m : (ℓ : Loc nD τ sig) → Buf (Elt F) ℓ) : Ok m := trivial

/-- Every grid point meets the kernel's conditions when every cached length is at most 16384. -/
theorem hyps_of (m : (ℓ : Loc nD τ sig) → Buf (Elt F) ℓ) (h : ∀ i : S8.Idx, BitVec.toInt ((m ((Dev.tc (0 : Dev nD) : Thread nD τ).loc main_arg7) : S8.Idx → BitVec 32) i) ≤ 16384) :
    Hyps m (ok_all m) := by
  intro c t
  refine chk1_of _ _ ?_
  have e : (tbl m 0 : S8.Idx → BitVec 32) = m ((Dev.tc (0 : Dev nD) : Thread nD τ).loc main_arg7) := V_main_arg7 m 0
  rw [e]
  exact h _

end Cert.Kernel.Gen
-- ==== Proof.KernelIdeal.Points.lean ====
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 1 (fun _ => rfl) (by decide)) (P := 1) (by decide) t).mpr (Nat.mod_one _) : ∀ t : Fin grid0.N, Pipeline.Window.fetchOf grid0 false cc0_transform_1 t = true)
/-- Window 2 (operand 3 (%2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 1 (fun _ => rfl) (by decide)) (P := 1) (by decide) t).mpr (Nat.mod_one _) : ∀ t : Fin grid0.N, Pipeline.Window.fetchOf grid0 false cc0_transform_2 t = true)
/-- Window 3 (operand 4 (%3)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 1 (by decide) (by decide) (Pipeline.Window.sep_of_coord cc0_transform_3 1 1 (fun _ => rfl) (by decide)) (P := 1) (by decide) t).mpr (Nat.mod_one _) : ∀ t : Fin grid0.N, Pipeline.Window.fetchOf grid0 false cc0_transform_3 t = true)
/-- Window 4 (operand 5 (%4)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 1 (by decide) (by decide) (Pipeline.Window.sep_of_coord cc0_transform_4 1 1 (fun _ => rfl) (by decide)) (P := 1) (by decide) t).mpr (Nat.mod_one _) : ∀ t : Fin grid0.N, Pipeline.Window.fetchOf grid0 false cc0_transform_4 t = true)
/-- Window 5 (operand 6 (%arg5)) is fetched at the points ≡ 0 (mod 4), at any contents of the tables (its index map reads none). -/
theorem fetch0_5 (a : (pcfg0 (F := F)).Adm) : ∀ t : Fin (cfg0 a).N, ((cfg0 a).win 5).fetch t = true ↔ t.val % 4 = 0 :=
  (by decide +kernel : ∀ t : Fin grid0.N, Pipeline.Window.fetchOf grid0 false cc0_transform_5 t = true ↔ t.val % 4 = 0)
/-- Window 6 (operand 7 (%5)) is fetched at the points ≡ 0 (mod 4), at any contents of the tables (its index map reads none). -/
theorem fetch0_6 (a : (pcfg0 (F := F)).Adm) : ∀ t : Fin (cfg0 a).N, ((cfg0 a).win 6).fetch t = true ↔ t.val % 4 = 0 :=
  (by decide +kernel : ∀ t : Fin grid0.N, Pipeline.Window.fetchOf grid0 false cc0_transform_6 t = true ↔ t.val % 4 = 0)
/-- Window 7 (result 0 (%6#0)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 2 (fun _ => rfl) (by decide)) (P := 1) (m := 0) (by decide) rfl t).mpr (Nat.mod_one _) : ∀ t : Fin grid0.N, Pipeline.Window.flushOf grid0 true cc0_transform_7 t = true)
/-- Window 8 (result 1 (%6#1)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 1 (fun _ => rfl) (by decide)) (P := 1) (m := 0) (by decide) rfl t).mpr (Nat.mod_one _) : ∀ t : Fin grid0.N, Pipeline.Window.flushOf grid0 true cc0_transform_8 t = true)
/-- Window 9 (result 2 (%6#2)) is written back at the points ≡ 3 (mod 4), at any contents of the tables (its index map reads none). -/
theorem flush0_9 (a : (pcfg0 (F := F)).Adm) : ∀ t : Fin (cfg0 a).N, ((cfg0 a).win 9).flush t = true ↔ t.val % 4 = 3 :=
  (by decide +kernel : ∀ t : Fin grid0.N, Pipeline.Window.flushOf grid0 true cc0_transform_9 t = true ↔ t.val % 4 = 3)
/-- Window 10 (result 3 (%6#3)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 1 (by decide) (by decide) (Pipeline.Window.sep_of_coord cc0_transform_10 1 1 (fun _ => rfl) (by decide)) (P := 1) (m := 0) (by decide) rfl t).mpr (Nat.mod_one _) : ∀ t : Fin grid0.N, Pipeline.Window.flushOf grid0 true cc0_transform_10 t = true)
/-- Window 11 (result 4 (%6#4)) is written back at the points ≡ 3 (mod 4), at any contents of the tables (its index map reads none). -/
theorem flush0_11 (a : (pcfg0 (F := F)).Adm) : ∀ t : Fin (cfg0 a).N, ((cfg0 a).win 11).flush t = true ↔ t.val % 4 = 3 :=
  (by decide +kernel : ∀ t : Fin grid0.N, Pipeline.Window.flushOf grid0 true cc0_transform_11 t = true ↔ t.val % 4 = 3)
/-- Window 12 (result 5 (%6#5)) is written back at every point, at any contents of the tables (its index map reads none). -/
theorem flush0_12 (a : (pcfg0 (F := F)).Adm) : ∀ t : Fin (cfg0 a).N, ((cfg0 a).win 12).flush t = true :=
  (fun t => (Pipeline.Window.flushOf_reads cc0_transform_12 reads0_12 hreads0_12 1 (by decide) (by decide) (Pipeline.Window.sep_of_coord cc0_transform_12 1 1 (fun _ => rfl) (by decide)) (P := 1) (m := 0) (by decide) rfl t).mpr (Nat.mod_one _) : ∀ t : Fin grid0.N, Pipeline.Window.flushOf grid0 true cc0_transform_12 t = true)
/-- Window 13 (result 6 (%6#6)) is written back at the points ≡ 3 (mod 4), at any contents of the tables (its index map reads none). -/
theorem flush0_13 (a : (pcfg0 (F := F)).Adm) : ∀ t : Fin (cfg0 a).N, ((cfg0 a).win 13).flush t = true ↔ t.val % 4 = 3 :=
  (by decide +kernel : ∀ t : Fin grid0.N, Pipeline.Window.flushOf grid0 true cc0_transform_13 t = true ↔ t.val % 4 = 3)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attend (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

end Cert.KernelIdeal.Gen

end
-- ==== Proof.KernelIdeal.Runs.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S8 .i32 := Memref.whole main_arg7
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      (Pipeline.RDat.FramePost.arr_in h c 5 rfl).trans ((hA c 5).trans (V_main_arg5 m c)),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x2x64x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2x64x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2x64x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2x64x16384 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x2x64x16384 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x8x64 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x8x16384 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1024x128 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x2x64x1024 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x8x1024 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x2x64x1024 .fp8e4m3 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x8x64 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x2x64x1024 .fp8e4m3 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x8x1024 .f32 := spec0_13.stage ((cfgM m hO).slots t 13)
abbrev hs0_13 (hO : Ok m) (t : Fin (cfgM m hO).N) : (ms0_13 m hO t).IsWhole := hstage0_13 (((cfgM m hO).slots t 13).cast nbuf0_13)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S64x1024 .bf16 := Memref.whole cc0_scratch0
abbrev scM0_1 : Memref sig .tc .vmem S64x1024 .bf16 := Memref.whole cc0_scratch1
abbrev scM0_2 : Memref sig .tc .vmem S64x1024 .bf16 := Memref.whole cc0_scratch2
abbrev scM0_3 : Memref sig .tc .vmem S64x1024 .f32 := Memref.whole cc0_scratch3
abbrev scM0_4 : Memref sig .tc .vmem S1x1024 .f32 := Memref.whole cc0_scratch4
abbrev scM0_5 : Memref sig .tc .vmem S1x1024 .f32 := Memref.whole cc0_scratch5
/-- One staging buffer of output window 7, through which its contents are stated (the choice does not matter). -/
abbrev VO0_7 : View sig .tc .vmem S1x1024x128 .bf16 := (Memref.whole cc0_stg7_0 : Memref sig .tc .vmem S1x1024x128 .bf16).view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Gen

end
-- ==== Proof.KernelIdeal.Run.lean ====
module

public import proofs.«01_k».proof.Proof.KernelIdeal.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1692000 in
/-- The body's triple: on whole staging memrefs — the inputs' at their contents,
    the FORGOTTEN outputs' (8, 9, 10, 11, 12, 13) at anything, handed back at some contents nothing names —
    the body runs to the continuation holding the inputs' as they were, the scratch at some contents: the printed functions are their skeletons (`Gen.*_eq_skeleton`),
    which `sl_exec` runs (Lib/Exec.lean). -/
noncomputable def kernelRun0_A (c : Dev nD) (i : grid0.Coords) (arg3 : Memref sig .tc .vmem S1x2x64x1024 .bf16) (harg3 : arg3.IsWhole) (arg4 : Memref sig .tc .vmem S1x2x64x1024 .bf16) (harg4 : arg4.IsWhole) (arg5 : Memref sig .tc .vmem S1x2x64x1024 .bf16) (harg5 : arg5.IsWhole) (arg6 : Memref sig .tc .vmem S1x2x64x16384 .fp8e4m3) (harg6 : arg6.IsWhole) (arg7 : Memref sig .tc .vmem S1x2x64x16384 .fp8e4m3) (harg7 : arg7.IsWhole) (arg8 : Memref sig .tc .vmem S1x8x64 .f32) (harg8 : arg8.IsWhole) (arg9 : Memref sig .tc .vmem S1x8x16384 .f32) (harg9 : arg9.IsWhole) (arg10 : Memref sig .tc .vmem S1x1024x128 .bf16) (harg10 : arg10.IsWhole) (arg11 : Memref sig .tc .vmem S1x2x64x1024 .fp8e4m3) (harg11 : arg11.IsWhole) (arg12 : Memref sig .tc .vmem S1x8x1024 .f32) (harg12 : arg12.IsWhole) (arg13 : Memref sig .tc .vmem S1x2x64x1024 .fp8e4m3) (harg13 : arg13.IsWhole) (arg14 : Memref sig .tc .vmem S1x8x64 .f32) (harg14 : arg14.IsWhole) (arg15 : Memref sig .tc .vmem S1x2x64x1024 .fp8e4m3) (harg15 : arg15.IsWhole) (arg16 : Memref sig .tc .vmem S1x8x1024 .f32) (harg16 : arg16.IsWhole) (arg17 : Memref sig .tc .vmem S64x1024 .bf16) (harg17 : arg17.IsWhole) (arg18 : Memref sig .tc .vmem S64x1024 .bf16) (harg18 : arg18.IsWhole) (arg19 : Memref sig .tc .vmem S64x1024 .bf16) (harg19 : arg19.IsWhole) (arg20 : Memref sig .tc .vmem S64x1024 .f32) (harg20 : arg20.IsWhole) (arg21 : Memref sig .tc .vmem S1x1024 .f32) (harg21 : arg21.IsWhole) (arg22 : Memref sig .tc .vmem S1x1024 .f32) (harg22 : arg22.IsWhole)
    (x0 : Vec F S1x2x64x1024 .bf16) (x1 : Vec F S1x2x64x1024 .bf16) (x2 : Vec F S1x2x64x1024 .bf16) (x3 : Vec F S1x2x64x16384 .fp8e4m3) (x4 : Vec F S1x2x64x16384 .fp8e4m3) (x5 : Vec F S1x8x64 .f32) (x6 : Vec F S1x8x16384 .f32) (xt0 : TbBuf0 (F := F) c tbM0_0) (k0_hw1 : k0_chk1 i (tbM0_0.view.readAt (Elt F) (Rect.unit (s := S8) (k0_off1 i) S1.size (k0_off1_inb i)).toLoadRect xt0 (Shape.Idx.first (numel1_S1.symm ▸ Nat.one_pos)))) :
    { L7 : List (View.Piece (Elt F) S1x1024x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ tbPt0 c tbM0_0 xt0) -∗ K ⟨⟩))
          ⊢ wp frame (wpE (defs₀ (F := F)) Variants.none c none) E (cc0_attend i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, fun E K => ?run⟩
  case run =>
    simp only [cc0_attend_eq_skeleton]; unfold cc0_attend_skel
    simp only [k0_part32_eq_skeleton]; unfold k0_part32_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexact HT0

end Cert.KernelIdeal.Gen

end
-- ==== Proof.KernelIdeal.Frame.lean ====
module

public import proofs.«01_k».proof.Proof.KernelIdeal.Run
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 7 tile its block (2 stores of `S1x1024x64`, checked by the kernel's evaluation: Lib/Ring.lean `Piece.tiledL`, linear in the pieces, through a loop's `@[irreducible]` trip theorem too), so they cover it. -/
theorem cover0_A_7 (c : Dev nD) (i : grid0.Coords) (arg3 : Memref sig .tc .vmem S1x2x64x1024 .bf16) (harg3 : arg3.IsWhole) (arg4 : Memref sig .tc .vmem S1x2x64x1024 .bf16) (harg4 : arg4.IsWhole) (arg5 : Memref sig .tc .vmem S1x2x64x1024 .bf16) (harg5 : arg5.IsWhole) (arg6 : Memref sig .tc .vmem S1x2x64x16384 .fp8e4m3) (harg6 : arg6.IsWhole) (arg7 : Memref sig .tc .vmem S1x2x64x16384 .fp8e4m3) (harg7 : arg7.IsWhole) (arg8 : Memref sig .tc .vmem S1x8x64 .f32) (harg8 : arg8.IsWhole) (arg9 : Memref sig .tc .vmem S1x8x16384 .f32) (harg9 : arg9.IsWhole) (arg10 : Memref sig .tc .vmem S1x1024x128 .bf16) (harg10 : arg10.IsWhole) (arg11 : Memref sig .tc .vmem S1x2x64x1024 .fp8e4m3) (harg11 : arg11.IsWhole) (arg12 : Memref sig .tc .vmem S1x8x1024 .f32) (harg12 : arg12.IsWhole) (arg13 : Memref sig .tc .vmem S1x2x64x1024 .fp8e4m3) (harg13 : arg13.IsWhole) (arg14 : Memref sig .tc .vmem S1x8x64 .f32) (harg14 : arg14.IsWhole) (arg15 : Memref sig .tc .vmem S1x2x64x1024 .fp8e4m3) (harg15 : arg15.IsWhole) (arg16 : Memref sig .tc .vmem S1x8x1024 .f32) (harg16 : arg16.IsWhole) (arg17 : Memref sig .tc .vmem S64x1024 .bf16) (harg17 : arg17.IsWhole) (arg18 : Memref sig .tc .vmem S64x1024 .bf16) (harg18 : arg18.IsWhole) (arg19 : Memref sig .tc .vmem S64x1024 .bf16) (harg19 : arg19.IsWhole) (arg20 : Memref sig .tc .vmem S64x1024 .f32) (harg20 : arg20.IsWhole) (arg21 : Memref sig .tc .vmem S1x1024 .f32) (harg21 : arg21.IsWhole) (arg22 : Memref sig .tc .vmem S1x1024 .f32) (harg22 : arg22.IsWhole)
    (x0 : Vec F S1x2x64x1024 .bf16) (x1 : Vec F S1x2x64x1024 .bf16) (x2 : Vec F S1x2x64x1024 .bf16) (x3 : Vec F S1x2x64x16384 .fp8e4m3) (x4 : Vec F S1x2x64x16384 .fp8e4m3) (x5 : Vec F S1x8x64 .f32) (x6 : Vec F S1x8x16384 .f32) (xt0 : TbBuf0 (F := F) c tbM0_0) (k0_hw1 : k0_chk1 i (tbM0_0.view.readAt (Elt F) (Rect.unit (s := S8) (k0_off1 i) S1.size (k0_off1_inb i)).toLoadRect xt0 (Shape.Idx.first (numel1_S1.symm ▸ Nat.one_pos)))) (y : S1x1024x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1).1 S1x1024x64.size (by sl_kernel_rfl) y

/-- What the run leaves in output 7's staging buffer: its pieces read back over junk. -/
def out0_A_7 (c : Dev nD) (i : grid0.Coords) (arg3 : Memref sig .tc .vmem S1x2x64x1024 .bf16) (harg3 : arg3.IsWhole) (arg4 : Memref sig .tc .vmem S1x2x64x1024 .bf16) (harg4 : arg4.IsWhole) (arg5 : Memref sig .tc .vmem S1x2x64x1024 .bf16) (harg5 : arg5.IsWhole) (arg6 : Memref sig .tc .vmem S1x2x64x16384 .fp8e4m3) (harg6 : arg6.IsWhole) (arg7 : Memref sig .tc .vmem S1x2x64x16384 .fp8e4m3) (harg7 : arg7.IsWhole) (arg8 : Memref sig .tc .vmem S1x8x64 .f32) (harg8 : arg8.IsWhole) (arg9 : Memref sig .tc .vmem S1x8x16384 .f32) (harg9 : arg9.IsWhole) (arg10 : Memref sig .tc .vmem S1x1024x128 .bf16) (harg10 : arg10.IsWhole) (arg11 : Memref sig .tc .vmem S1x2x64x1024 .fp8e4m3) (harg11 : arg11.IsWhole) (arg12 : Memref sig .tc .vmem S1x8x1024 .f32) (harg12 : arg12.IsWhole) (arg13 : Memref sig .tc .vmem S1x2x64x1024 .fp8e4m3) (harg13 : arg13.IsWhole) (arg14 : Memref sig .tc .vmem S1x8x64 .f32) (harg14 : arg14.IsWhole) (arg15 : Memref sig .tc .vmem S1x2x64x1024 .fp8e4m3) (harg15 : arg15.IsWhole) (arg16 : Memref sig .tc .vmem S1x8x1024 .f32) (harg16 : arg16.IsWhole) (arg17 : Memref sig .tc .vmem S64x1024 .bf16) (harg17 : arg17.IsWhole) (arg18 : Memref sig .tc .vmem S64x1024 .bf16) (harg18 : arg18.IsWhole) (arg19 : Memref sig .tc .vmem S64x1024 .bf16) (harg19 : arg19.IsWhole) (arg20 : Memref sig .tc .vmem S64x1024 .f32) (harg20 : arg20.IsWhole) (arg21 : Memref sig .tc .vmem S1x1024 .f32) (harg21 : arg21.IsWhole) (arg22 : Memref sig .tc .vmem S1x1024 .f32) (harg22 : arg22.IsWhole)
    (x0 : Vec F S1x2x64x1024 .bf16) (x1 : Vec F S1x2x64x1024 .bf16) (x2 : Vec F S1x2x64x1024 .bf16) (x3 : Vec F S1x2x64x16384 .fp8e4m3) (x4 : Vec F S1x2x64x16384 .fp8e4m3) (x5 : Vec F S1x8x64 .f32) (x6 : Vec F S1x8x16384 .f32) (xt0 : TbBuf0 (F := F) c tbM0_0) (k0_hw1 : k0_chk1 i (tbM0_0.view.readAt (Elt F) (Rect.unit (s := S8) (k0_off1 i) S1.size (k0_off1_inb i)).toLoadRect xt0 (Shape.Idx.first (numel1_S1.symm ▸ Nat.one_pos)))) : Vec F S1x1024x128 .bf16 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1).1)

/-- What output 7's staging buffer holds after the body at point `t` : the run's contents at
    the point's memrefs and input blocks. -/
def outsAt0 (hO : Ok m) (hH : Hyps m hO) (c : Dev nD) (t : Fin (cfgM m hO).N) : Vec F S1x1024x128 .bf16 :=
  out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m hO c 0 t) (iblk m hO c 1 t) (iblk m hO c 2 t) (iblk m hO c 3 t) (iblk m hO c 4 t) (iblk m hO c 5 t) (iblk m hO c 6 t) (tbl m 0) (Hyps.c0 hH c t)

/-! ## The pipeline's proof data -/

/-- The output windows this certificate FORGETS (8, 9, 10, 11, 12, 13): nothing reads what the kernel leaves in them, so nothing
    of it is named (Lib/Pipeline/Dat.lean `Dat.toRForget`). -/
def forgets0 : Fin 14 → Bool := fun w => w.val == 8 || w.val == 9 || w.val == 10 || w.val == 11 || w.val == 12 || w.val == 13

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outsAt0 m hO hH c t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
    | ⟨12, h⟩ => Pipeline.Dat.unnamed (cfg := (cfgM m hO)) ⟨12, h⟩ t
    | ⟨13, h⟩ => Pipeline.Dat.unnamed (cfg := (cfgM m hO)) ⟨13, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = outsAt0 m hO hH c t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d)
    ∗ (∃ d, owns (c : Thread nD τ) (ms0_13 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d)
    ∗ (∃ d, owns (c : Thread nD τ) (ms0_13 m hO t) fullShare d))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6, after0_7]
  rw [show (dats m hO hH 0 c).Φ t.castSucc = iprop(Pipeline.ΦA spec0 c ∗ Pipeline.ΦT pre0 (tbl m) c) from rfl, PhiT0_eq, PhiA0_eq]
  unfold outsAt0 out0_A_7
  iintro ⟨⟨⟨⟨HS0, HS1, HS2, HS3, HS4, HS5⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_A c (grid0.coords t) _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (Hyps.c0 hH c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HT0]; · iexact HT0
  iintro ⟨H0, H1, H2, H3, H4, H5, H6, ⟨%e7, H7⟩, H8, H9, H10, H11, H12, H13, HS0, HS1, HS2, HS3, HS4, HS5, HT0⟩
  isplitl [HS0 HS1 HS2 HS3 HS4 HS5 Hg HT0]
  · isplitl [HS0 HS1 HS2 HS3 HS4 HS5 Hg]
    · isplitl [HS0 HS1 HS2 HS3 HS4 HS5]
      · isplitl [HS0]
        · iexact HS0
        isplitl [HS1]
        · iexact HS1
        isplitl [HS2]
        · iexact HS2
        isplitl [HS3]
        · iexact HS3
        isplitl [HS4]
        · iexact HS4
        iexact HS5
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _ _ _ _ _ _ _ _ _ _ _ _ _ _ _ _ _ _ _ _ _)
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 8, 9, 10, 11, 12, 13) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (fun c => (dats m hO hH 0 c).toRForget forgets0) (A_eq m hO hH) (run_main m ρ hO hH)

/-- THE FRAME: `Cert.quiescent_Kernel`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.KernelIdeal.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO hH) ((θ_run defs _ _).mono (fun _ h => h.2) (run_main_quiescent m ρ hO hH))

end Cert.KernelIdeal.Gen

end
-- ==== Proof.KernelIdeal.Check.lean ====
module

public import proofs.«01_k».proof.Proof.Words
public import proofs.«01_k».proof.KernelIdeal
public import proofs.«01_k».proof.Proof.Gen.KernelIdeal

@[expose] public section

/-! What the kernel asks of a row's cached length: it holds of every length of at most 16384. -/

namespace Cert.KernelIdeal

open Idealize.ShloMosaic Cert.KernelIdeal.Gen

theorem t1_eq (v : BitVec 32) : k0_t1_loop v = Cert.Words.loopA v := rfl
theorem t2_eq (v : BitVec 32) : k0_t2_loop v = Cert.Words.loopB v := rfl
theorem t3_eq (v : BitVec 32) : k0_t3_loop v = Cert.Words.loopA v := rfl
theorem t4_eq (v : BitVec 32) : k0_t4_loop v = Cert.Words.loopB v := rfl

theorem t1_trips (v : BitVec 32) (h : v.toInt ≤ 16384) : (k0_t1_loop v).trips = ((v.toInt + 511) / 512).toNat := (Cert.Words.loops_spec v h).2.1
theorem t2_trips (v : BitVec 32) (h : v.toInt ≤ 16384) : (k0_t2_loop v).trips = 0 := (Cert.Words.loops_spec v h).2.2.2
theorem t3_trips (v : BitVec 32) (h : v.toInt ≤ 16384) : (k0_t3_loop v).trips = ((v.toInt + 511) / 512).toNat := (Cert.Words.loops_spec v h).2.1
theorem t4_trips (v : BitVec 32) (h : v.toInt ≤ 16384) : (k0_t4_loop v).trips = 0 := (Cert.Words.loops_spec v h).2.2.2

private theorem lt32 {v : BitVec 32} (h : v.toInt ≤ 16384) {k : Nat} (hk : k < ((v.toInt + 511) / 512).toNat) : k < 32 := by omega

/-- The kernel's conditions on the length word, of every word of at most 16384. -/
theorem chk1_of (i : grid0.Coords) (v : BitVec 32) (h : v.toInt ≤ 16384) : k0_chk1 i v := by
  have hi : (i 1).val < 32 := (i 1).isLt
  have hL := Cert.Words.loops_spec v h
  have z : Affine.IsInt 0#32 0 := Affine.ofNat 0 (by omega)
  have o : Affine.IsInt 1#32 1 := Affine.ofNat 1 (by omega)
  refine ⟨hL.1, fun k => ?_, fun k => ?_, fun k => ?_, hL.2.2.1, fun k => ?_, fun k => ?_, fun k => ?_, hL.1, fun k => ?_, fun k => ?_, fun k => ?_, hL.2.2.1, fun k => ?_, fun k => ?_, fun k => ?_⟩
  · exact Affine.dvd_of (Cert.Words.column k (lt32 h (Nat.lt_of_lt_of_eq k.isLt (t1_trips v h)))) 512 (by omega)
  · have hk := lt32 h (Nat.lt_of_lt_of_eq k.isLt (t1_trips v h))
    exact Affine.inb_cons z (by omega) <| Affine.inb_cons z (by omega) <| Affine.inb_cons z (by omega) <|
      Affine.inb_cons (Cert.Words.column k hk) (by omega) <| Affine.inb_nil
  · have hk := lt32 h (Nat.lt_of_lt_of_eq k.isLt (t1_trips v h))
    exact Affine.inb_cons z (by omega) <| Affine.inb_cons (Cert.Words.row_spec (i 1).val (by omega) 0 (by omega)) (by omega) <|
      Affine.inb_cons (Cert.Words.column k hk) (by omega) <| Affine.inb_nil
  · exact absurd (Nat.lt_of_lt_of_eq k.isLt (t2_trips v h)) (Nat.not_lt_zero _)
  · exact absurd (Nat.lt_of_lt_of_eq k.isLt (t2_trips v h)) (Nat.not_lt_zero _)
  · exact absurd (Nat.lt_of_lt_of_eq k.isLt (t2_trips v h)) (Nat.not_lt_zero _)
  · exact Affine.dvd_of (Cert.Words.column k (lt32 h (Nat.lt_of_lt_of_eq k.isLt (t3_trips v h)))) 512 (by omega)
  · have hk := lt32 h (Nat.lt_of_lt_of_eq k.isLt (t3_trips v h))
    exact Affine.inb_cons z (by omega) <| Affine.inb_cons o (by omega) <| Affine.inb_cons z (by omega) <|
      Affine.inb_cons (Cert.Words.column k hk) (by omega) <| Affine.inb_nil
  · have hk := lt32 h (Nat.lt_of_lt_of_eq k.isLt (t3_trips v h))
    exact Affine.inb_cons z (by omega) <| Affine.inb_cons (Cert.Words.row_spec (i 1).val (by omega) 1 (by omega)) (by omega) <|
      Affine.inb_cons (Cert.Words.column k hk) (by omega) <| Affine.inb_nil
  · exact absurd (Nat.lt_of_lt_of_eq k.isLt (t4_trips v h)) (Nat.not_lt_zero _)
  · exact absurd (Nat.lt_of_lt_of_eq k.isLt (t4_trips v h)) (Nat.not_lt_zero _)
  · exact absurd (Nat.lt_of_lt_of_eq k.isLt (t4_trips v h)) (Nat.not_lt_zero _)

end Cert.KernelIdeal
-- ==== Proof.KernelIdeal.Hyps.lean ====
module

public import proofs.«01_k».proof.Proof.KernelIdeal.Check
public import proofs.«01_k».proof.Proof.KernelIdeal.Runs

@[expose] public section

/-! The conditions the runs of the program take, from a bound on the cached lengths. -/

namespace Cert.KernelIdeal.Gen

open Idealize.ShloMosaic Idealize.SL.Sem Cert.KernelIdeal

variable {F : FTy → Type} [FloatOps F] [Named F]

theorem ok_all (m : (ℓ : Loc nD τ sig) → Buf (Elt F) ℓ) : Ok m := trivial

/-- Every grid point meets the kernel's conditions when every cached length is at most 16384. -/
theorem hyps_of (m : (ℓ : Loc nD τ sig) → Buf (Elt F) ℓ) (h : ∀ i : S8.Idx, BitVec.toInt ((m ((Dev.tc (0 : Dev nD) : Thread nD τ).loc main_arg7) : S8.Idx → BitVec 32) i) ≤ 16384) :
    Hyps m (ok_all m) := by
  intro c t
  refine chk1_of _ _ ?_
  have e : (tbl m 0 : S8.Idx → BitVec 32) = m ((Dev.tc (0 : Dev nD) : Thread nD τ).loc main_arg7) := V_main_arg7 m 0
  rw [e]
  exact h _

end Cert.KernelIdeal.Gen
-- ==== Proof.Attn.lean ====
module

public import Idealize.ShloMosaic.PureOps.Ideal
public import Mathlib.Tactic.Linarith

@[expose] public section

/-! The online softmax over the extended reals, with no finiteness asked of the scores or the values. -/

namespace Cert.Attn

open Idealize.ShloMosaic

noncomputable section

theorem exp_nonneg (x : EReal) : 0 ≤ Ideal.exp x := by
  induction x using EReal.rec with
  | bot => exact le_refl _
  | top => exact le_top
  | coe r => exact EReal.coe_nonneg.2 (Real.exp_pos r).le

theorem exp_bot : Ideal.exp ⊥ = 0 := rfl

/-- A difference with `x ≤ y` never exponentiates to infinity. -/
theorem exp_sub_ne_top {x y : EReal} (h : x ≤ y) : Ideal.exp (x - y) ≠ ⊤ := by
  induction x using EReal.rec with
  | bot => rw [EReal.bot_sub]; exact EReal.zero_ne_top
  | top => rw [top_le_iff.1 h, EReal.sub_top]; exact EReal.zero_ne_top
  | coe r =>
    induction y using EReal.rec with
    | bot => simp at h
    | top => rw [EReal.sub_top]; exact EReal.zero_ne_top
    | coe s => rw [← EReal.coe_sub]; exact EReal.coe_ne_top _

/-- Rescaling: from the maximum `m` to the maximum `m'`. -/
theorem exp_rescale {s m m' : EReal} (h1 : s ≤ m) (h2 : m ≤ m') :
    Ideal.exp (s - m) * Ideal.exp (m - m') = Ideal.exp (s - m') := by
  induction m' using EReal.rec with
  | top => rw [EReal.sub_top, EReal.sub_top, exp_bot, mul_zero]
  | bot =>
    have hm := le_bot_iff.1 h2
    subst hm
    have hs := le_bot_iff.1 h1
    subst hs
    rw [EReal.bot_sub, exp_bot, mul_zero]
  | coe c =>
    induction m using EReal.rec with
    | top => simp at h2
    | bot =>
      have hs := le_bot_iff.1 h1
      subst hs
      rw [EReal.bot_sub, EReal.bot_sub, exp_bot, mul_zero]
    | coe b =>
      induction s using EReal.rec with
      | top => simp at h1
      | bot => rw [EReal.bot_sub, EReal.bot_sub, exp_bot, zero_mul]
      | coe a =>
        rw [← EReal.coe_sub, ← EReal.coe_sub, ← EReal.coe_sub]
        show ((Real.exp _ : ℝ) : EReal) * ((Real.exp _ : ℝ) : EReal) = ((Real.exp _ : ℝ) : EReal)
        rw [← EReal.coe_mul, ← Real.exp_add]
        congr 2; ring

theorem sum_mul {ι : Type} (J : Finset ι) (f : ι → EReal) {α : EReal} (h0 : 0 ≤ α) (ht : α ≠ ⊤) :
    (∑ i ∈ J, f i) * α = ∑ i ∈ J, f i * α := by
  classical
  induction J using Finset.induction_on with
  | empty => simp
  | insert a s ha ih => rw [Finset.sum_insert ha, Finset.sum_insert ha, EReal.right_distrib_of_nonneg_of_ne_top h0 ht, ih]

/-- The running maximum, denominator and numerator over the keys in `J`. -/
structure Inv {κ : Type} (s v : κ → EReal) (J : Finset κ) (m l a : EReal) : Prop where
  hm : m = J.sup s
  hl : l = ∑ i ∈ J, Ideal.exp (s i - m)
  ha : a = ∑ i ∈ J, v i * Ideal.exp (s i - m)

theorem Inv.empty {κ : Type} (s v : κ → EReal) : Inv s v ∅ ⊥ 0 0 := ⟨by simp, by simp, by simp⟩

/-- One more block of keys `φ 0 … φ (n-1)`. -/
theorem Inv.step {κ : Type} [DecidableEq κ] {s v : κ → EReal} {J J' : Finset κ} {m l a : EReal} (h : Inv s v J m l a)
    {n : ℕ} (φ : Fin n → κ) (hφ : Function.Injective φ) (hd : ∀ i, φ i ∉ J) (hJ : ∀ k, k ∈ J' ↔ k ∈ J ∨ ∃ i, φ i = k)
    (s' v' : Fin n → EReal) (hs : ∀ i, s' i = s (φ i)) (hv : ∀ i, v' i = v (φ i)) {m' l' a' : EReal}
    (hm' : m' = max m (Finset.univ.fold max (⊥ : EReal) s'))
    (hl' : l' = l * Ideal.exp (m - m') + ∑ i, Ideal.exp (s' i - m'))
    (ha' : a' = a * Ideal.exp (m - m') + ∑ i, v' i * Ideal.exp (s' i - m')) : Inv s v J' m' l' a' := by
  have hfun : s' = fun i => s (φ i) := funext hs
  have hfunv : v' = fun i => v (φ i) := funext hv
  have hJ' : J' = J ∪ Finset.univ.image φ := by
    ext k
    rw [hJ, Finset.mem_union, Finset.mem_image]
    simp
  have hdisj : Disjoint J (Finset.univ.image φ) := by
    rw [Finset.disjoint_right]
    intro k hk
    obtain ⟨i, -, rfl⟩ := Finset.mem_image.1 hk
    exact hd i
  have hsum : ∀ g : κ → EReal, ∑ k ∈ J', g k = ∑ k ∈ J, g k + ∑ i, g (φ i) := fun g => by
    rw [hJ', Finset.sum_union hdisj, Finset.sum_image (fun a _ b _ h => hφ h)]
  have hsup : m' = J'.sup s := by
    rw [hm', hJ', Finset.sup_union, h.hm, Finset.sup_image, hfun]; rfl
  have hmm : m ≤ m' := hm' ▸ le_max_left _ _
  have hle : ∀ k ∈ J, s k ≤ m := fun k hk => h.hm ▸ Finset.le_sup hk
  have h0 := exp_nonneg (m - m')
  have ht := exp_sub_ne_top hmm
  refine ⟨hsup, ?_, ?_⟩
  · rw [hl', h.hl, sum_mul _ _ h0 ht, hsum, hfun]
    congr 1
    exact Finset.sum_congr rfl fun k hk => exp_rescale (hle k hk) hmm
  · rw [ha', h.ha, sum_mul _ _ h0 ht, hsum, hfun, hfunv]
    congr 1
    exact Finset.sum_congr rfl fun k hk => by rw [mul_assoc, exp_rescale (hle k hk) hmm]

/-- Keys with the score `-∞` contribute nothing: the sums may as well run over every key. -/
theorem Inv.all {κ : Type} [Fintype κ] {s v : κ → EReal} {J : Finset κ} {m l a : EReal} (h : Inv s v J m l a)
    (hJ : ∀ k, k ∉ J → s k = ⊥) : Inv s v Finset.univ m l a := by
  refine ⟨?_, ?_, ?_⟩
  · rw [h.hm]
    refine le_antisymm (Finset.sup_mono (Finset.subset_univ _)) (Finset.sup_le fun k _ => ?_)
    by_cases hk : k ∈ J
    · exact Finset.le_sup hk
    · rw [hJ k hk]; exact bot_le
  · rw [h.hl]
    refine Finset.sum_subset (Finset.subset_univ _) fun k _ hk => ?_
    rw [hJ k hk, EReal.bot_sub, exp_bot]
  · rw [h.ha]
    refine Finset.sum_subset (Finset.subset_univ _) fun k _ hk => ?_
    rw [hJ k hk, EReal.bot_sub, exp_bot, mul_zero]

end

end Cert.Attn
-- ==== Proof.Quant.lean ====
module

public import Idealize.ShloMosaic.Lib.Pointwise
public import Mathlib.Tactic.Linarith
public import Mathlib.Tactic.NormNum
public import Mathlib.Tactic.Positivity
public import Mathlib.Tactic.FieldSimp

@[expose] public section

/-! The power-of-two quantiser over the extended reals: whatever power of two `t` a row's scale is, as long as the row's
    largest absolute value is at most `448 * t`, the code of `x` is `x / t`, so that the code times the scale is `x`. -/

namespace Cert.Quant

open Idealize.ShloMosaic

noncomputable section

theorem neg_inf : (Ideal.ofBits .f32 0xFF800000#32 : EReal) = ⊥ := by simp [Ideal.ofBits, Ideal.ieee]

/-- The word `0x3B124925`: the least single above `1 / 448`. -/
theorem c_val : ∃ c : ℝ, (Ideal.ofBits .f32 0x3B124925#32 : EReal) = (c : EReal) ∧ 1 / 448 ≤ c ∧ c ≤ 1 / 447 := by
  have e1 : ((0x3B124925#32 : BitVec 32).extractLsb' 31 1 == 1#1) = false := by decide
  have e2 : ((0x3B124925#32 : BitVec 32).extractLsb' 23 8).toNat = 118 := by decide
  have e3 : ((0x3B124925#32 : BitVec 32).extractLsb' 0 23).toNat = 1198373 := by decide
  refine ⟨1 * (2 ^ 23 + 1198373 : ℕ) * (2 : ℝ) ^ ((118 : ℤ) - 127 - 23), ?_, ?_, ?_⟩
  · show Ideal.ieee 8 23 (0x3B124925#32 : BitVec 32) = (((1 * (2 ^ 23 + 1198373 : ℕ) * (2 : ℝ) ^ ((118 : ℤ) - 127 - 23) : ℝ)) : EReal)
    unfold Ideal.ieee
    simp only [e1, e2, e3]
    norm_num
  · norm_num
  · norm_num

theorem p448 : (Ideal.ofBits .f32 0x43E00000#32 : EReal) = ((448 : ℝ) : EReal) := by
  have e1 : ((0x43E00000#32 : BitVec 32).extractLsb' 31 1 == 1#1) = false := by decide
  have e2 : ((0x43E00000#32 : BitVec 32).extractLsb' 23 8).toNat = 135 := by decide
  have e3 : ((0x43E00000#32 : BitVec 32).extractLsb' 0 23).toNat = 6291456 := by decide
  show Ideal.ieee 8 23 (0x43E00000#32 : BitVec 32) = _
  unfold Ideal.ieee
  simp only [e1, e2, e3]
  norm_num

theorem n448 : (Ideal.ofBits .f32 0xC3E00000#32 : EReal) = ((-448 : ℝ) : EReal) := by
  have e1 : ((0xC3E00000#32 : BitVec 32).extractLsb' 31 1 == 1#1) = true := by decide
  have e2 : ((0xC3E00000#32 : BitVec 32).extractLsb' 23 8).toNat = 135 := by decide
  have e3 : ((0xC3E00000#32 : BitVec 32).extractLsb' 0 23).toNat = 6291456 := by decide
  show Ideal.ieee 8 23 (0xC3E00000#32 : BitVec 32) = _
  unfold Ideal.ieee
  simp only [e1, e2, e3]
  norm_num

/-- The clip to `±448` leaves `x / t` alone. -/
theorem clip_of {x a t : ℝ} (ht : 0 < t) (hx : |x| ≤ a) (ha : a ≤ 448 * t) :
    min ((448 : ℝ) : EReal) (max ((-448 : ℝ) : EReal) ((x * t⁻¹ : ℝ) : EReal)) = ((x * t⁻¹ : ℝ) : EReal) := by
  have h := abs_le.1 (hx.trans ha)
  have h1 : -448 ≤ x * t⁻¹ := by
    rw [← div_eq_mul_inv, le_div_iff₀ ht]; linarith [h.1]
  have h2 : x * t⁻¹ ≤ 448 := by
    rw [← div_eq_mul_inv, div_le_iff₀ ht]; linarith [h.2]
  rw [max_eq_right (EReal.coe_le_coe_iff.2 h1), min_eq_right (EReal.coe_le_coe_iff.2 h2)]

/-- The largest absolute value of a row of reals. -/
theorem amax {n : ℕ} (hn : 0 < n) (f : Fin n → EReal) (B : ℝ) (hf : ∀ k, ∃ r : ℝ, f k = r ∧ |r| ≤ B) :
    ∃ a : ℝ, Finset.univ.fold max (⊥ : EReal) (fun k => max (f k) (-(f k))) = (a : EReal) ∧ 0 ≤ a ∧ a ≤ B
      ∧ ∀ k, ∀ r : ℝ, f k = r → |r| ≤ a := by
  choose g hg hB using hf
  have hfun : (fun k => max (f k) (-(f k))) = fun k => ((|g k| : ℝ) : EReal) := by
    funext k
    rw [hg k, ← EReal.coe_neg]
    exact (EReal.coe_strictMono.monotone.map_max).symm
  have hsup : Finset.univ.fold max (⊥ : EReal) (fun k => max (f k) (-(f k))) = Finset.univ.sup (fun k => ((|g k| : ℝ) : EReal)) := by
    rw [hfun]; rfl
  haveI : Nonempty (Fin n) := ⟨⟨0, hn⟩⟩
  obtain ⟨k0, -, h0⟩ := Finset.exists_mem_eq_sup (Finset.univ : Finset (Fin n)) Finset.univ_nonempty (fun k => ((|g k| : ℝ) : EReal))
  refine ⟨|g k0|, hsup.trans h0, abs_nonneg _, hB k0, fun k r hr => ?_⟩
  have : r = g k := EReal.coe_injective (hr.symm.trans (hg k))
  subst this
  have hle := Finset.le_sup (f := fun k => ((|g k| : ℝ) : EReal)) (Finset.mem_univ k)
  rw [h0] at hle
  exact EReal.coe_le_coe_iff.1 hle

/-! ### The kernel's exponent: an eight-step search over the exponent field -/

/-- The single whose exponent field is `b` and whose other bits are zero. -/
def fval (b : BitVec 32) : EReal := Ideal.ofBits .f32 (IntOp.shli .vector b 23#32)

theorem fval_bits : ∀ n : Fin 255, ((IntOp.shli .vector (BitVec.ofNat 32 n) 23#32).extractLsb' 31 1 == 1#1) = false
    ∧ ((IntOp.shli .vector (BitVec.ofNat 32 n) 23#32).extractLsb' 23 8).toNat = n
    ∧ ((IntOp.shli .vector (BitVec.ofNat 32 n) 23#32).extractLsb' 0 23).toNat = 0 := by decide +kernel

theorem ieee_pow (w : BitVec 32) (n : ℕ) (h1 : 1 ≤ n) (h2 : n ≤ 254) (e1 : (w.extractLsb' 31 1 == 1#1) = false)
    (e2 : (w.extractLsb' 23 8).toNat = n) (e3 : (w.extractLsb' 0 23).toNat = 0) :
    Ideal.ieee 8 23 w = (((2 : ℝ) ^ ((n : ℤ) - 127) : ℝ) : EReal) := by
  unfold Ideal.ieee
  simp only [e1, e2, e3]
  rw [if_neg (by norm_num; omega), if_neg (by omega)]
  congr 1
  have : ((n : ℤ) - (2 ^ (8 - 1) - 1) - (23 : ℕ)) = ((n : ℤ) - 127) - 23 := by norm_num
  rw [this, zpow_sub₀ (by norm_num : (2 : ℝ) ≠ 0)]
  norm_num
  ring

theorem fval_ofNat (n : ℕ) (h1 : 1 ≤ n) (h2 : n ≤ 254) : fval (BitVec.ofNat 32 n) = (((2 : ℝ) ^ ((n : ℤ) - 127) : ℝ) : EReal) := by
  obtain ⟨e1, e2, e3⟩ := fval_bits ⟨n, by omega⟩
  exact ieee_pow _ n h1 h2 e1 e2 e3

/-- One step of the search: add `p` to the field unless `r` is below the single it names. -/
def bstep (r : EReal) (p b : BitVec 32) : BitVec 32 :=
  Scalar.select (Ideal.cmp .olt r (fval (IntOp.addi b p))) b (IntOp.addi b p)

/-- The exponent field the search ends at. -/
def bsearch (r : EReal) : BitVec 32 :=
  bstep r 1#32 (bstep r 2#32 (bstep r 4#32 (bstep r 8#32 (bstep r 16#32 (bstep r 32#32 (bstep r 64#32 (bstep r 128#32 0#32)))))))

theorem bstep_spec (r : ℝ) (p b : ℕ) (hp : 1 ≤ p) (hbp : b + p ≤ 254) (h : r < (2 : ℝ) ^ ((b + 2 * p : ℤ) - 127) ∨ b + 2 * p = 256)
    (hl : b = 0 ∨ (2 : ℝ) ^ ((b : ℤ) - 127) ≤ r) :
    ∃ b' : ℕ, bstep r (BitVec.ofNat 32 p) (BitVec.ofNat 32 b) = BitVec.ofNat 32 b' ∧ (b' = b ∨ b' = b + p)
      ∧ (r < (2 : ℝ) ^ ((b' + p : ℤ) - 127) ∨ b' + p = 256) ∧ (b' = 0 ∨ (2 : ℝ) ^ ((b' : ℤ) - 127) ≤ r) := by
  have hadd : IntOp.addi (BitVec.ofNat 32 b) (BitVec.ofNat 32 p) = BitVec.ofNat 32 (b + p) := by
    show BitVec.ofNat 32 b + BitVec.ofNat 32 p = _
    rw [BitVec.ofNat_add]
  unfold bstep
  rw [hadd, fval_ofNat (b + p) (by omega) (by omega)]
  by_cases hc : r < (2 : ℝ) ^ (((b + p : ℕ) : ℤ) - 127)
  · refine ⟨b, ?_, Or.inl rfl, Or.inl (by push_cast at hc; exact hc), hl⟩
    have : Ideal.cmp .olt (r : EReal) (((2 : ℝ) ^ (((b + p : ℕ) : ℤ) - 127) : ℝ) : EReal) = 1#1 := by
      unfold Ideal.cmp; simp only [EReal.coe_lt_coe_iff, hc]; rfl
    rw [this]; rfl
  · refine ⟨b + p, ?_, Or.inr rfl, ?_, Or.inr (not_lt.1 hc)⟩
    · have : Ideal.cmp .olt (r : EReal) (((2 : ℝ) ^ (((b + p : ℕ) : ℤ) - 127) : ℝ) : EReal) = 0#1 := by
        unfold Ideal.cmp; simp only [EReal.coe_lt_coe_iff, hc]; rfl
      rw [this]; rfl
    · rcases h with h | h
      · left; convert h using 2; push_cast; ring
      · right; omega

/-- The search ends at the exponent field of `r`: `r` is below the next power of two. -/
theorem bsearch_spec (r : ℝ) (h0 : 0 < r) (hr : r < (2 : ℝ) ^ (120 : ℤ)) :
    ∃ b : ℕ, bsearch r = BitVec.ofNat 32 b ∧ b ≤ 246 ∧ r < (2 : ℝ) ^ ((b : ℤ) - 126) := by
  have up : ∀ b : ℕ, (b = 0 ∨ (2 : ℝ) ^ ((b : ℤ) - 127) ≤ r) → b ≤ 246 := fun b hb => by
    rcases hb with hb | hb
    · omega
    · have := (zpow_lt_zpow_iff_right₀ (by norm_num : (1 : ℝ) < 2)).1 (hb.trans_lt hr)
      omega
  obtain ⟨b1, e1, c1, u1, l1⟩ := bstep_spec r 128 0 (by omega) (by omega) (Or.inr (by omega)) (Or.inl rfl)
  obtain ⟨b2, e2, c2, u2, l2⟩ := bstep_spec r 64 b1 (by omega) (by omega) (by push_cast at u1 ⊢; rcases u1 with u | u; exacts [Or.inl (by convert u using 2), Or.inr (by omega)]) l1
  obtain ⟨b3, e3, c3, u3, l3⟩ := bstep_spec r 32 b2 (by omega) (by omega) (by push_cast at u2 ⊢; rcases u2 with u | u; exacts [Or.inl (by convert u using 2), Or.inr (by omega)]) l2
  obtain ⟨b4, e4, c4, u4, l4⟩ := bstep_spec r 16 b3 (by omega) (by omega) (by push_cast at u3 ⊢; rcases u3 with u | u; exacts [Or.inl (by convert u using 2), Or.inr (by omega)]) l3
  obtain ⟨b5, e5, c5, u5, l5⟩ := bstep_spec r 8 b4 (by omega) (by omega) (by push_cast at u4 ⊢; rcases u4 with u | u; exacts [Or.inl (by convert u using 2), Or.inr (by omega)]) l4
  obtain ⟨b6, e6, c6, u6, l6⟩ := bstep_spec r 4 b5 (by omega) (by have := up _ l5; omega) (by push_cast at u5 ⊢; rcases u5 with u | u; exacts [Or.inl (by convert u using 2), Or.inr (by omega)]) l5
  obtain ⟨b7, e7, c7, u7, l7⟩ := bstep_spec r 2 b6 (by omega) (by have := up _ l6; omega) (by push_cast at u6 ⊢; rcases u6 with u | u; exacts [Or.inl (by convert u using 2), Or.inr (by omega)]) l6
  obtain ⟨b8, e8, c8, u8, l8⟩ := bstep_spec r 1 b7 (by omega) (by have := up _ l7; omega) (by push_cast at u7 ⊢; rcases u7 with u | u; exacts [Or.inl (by convert u using 2), Or.inr (by omega)]) l7
  have hb := up _ l8
  refine ⟨b8, ?_, hb, ?_⟩
  · unfold bsearch
    rw [show (0#32 : BitVec 32) = BitVec.ofNat 32 0 from rfl, show (128#32 : BitVec 32) = BitVec.ofNat 32 128 from rfl, e1,
      show (64#32 : BitVec 32) = BitVec.ofNat 32 64 from rfl, e2, show (32#32 : BitVec 32) = BitVec.ofNat 32 32 from rfl, e3,
      show (16#32 : BitVec 32) = BitVec.ofNat 32 16 from rfl, e4, show (8#32 : BitVec 32) = BitVec.ofNat 32 8 from rfl, e5,
      show (4#32 : BitVec 32) = BitVec.ofNat 32 4 from rfl, e6, show (2#32 : BitVec 32) = BitVec.ofNat 32 2 from rfl, e7,
      show (1#32 : BitVec 32) = BitVec.ofNat 32 1 from rfl, e8]
  · rcases u8 with u | u
    · convert u using 2; push_cast; ring
    · omega

/-- The exponent of the scale: the field less 126, and 0 where `r` is 0. -/
def eword (r : EReal) : BitVec 32 := Scalar.select (Ideal.cmp .oeq r (Ideal.ofBits .f32 0x00000000#32)) 0#32 (IntOp.subi (bsearch r) 126#32)

/-- The scale. -/
def kscale (r : EReal) : EReal := fval (IntOp.addi (eword r) 127#32)

/-- The code of `x` in a row whose largest absolute value times the constant is `r`. -/
def kcode (x r : EReal) : EReal :=
  min (Ideal.ofBits .f32 0x43E00000#32) (max (Ideal.ofBits .f32 0xC3E00000#32) (x * fval (IntOp.addi (IntOp.subi 0#32 (eword r)) 127#32)))

/-- The kernel's quantiser: the scale is a positive `t` and the code of `x` is `x / t`. -/
theorem kquant {n : ℕ} (hn : 0 < n) (f : Fin n → EReal) (hf : ∀ k, ∃ r : ℝ, f k = r ∧ |r| ≤ 255 * 2 ^ 120) :
    ∃ t : ℝ, 0 < t ∧ kscale (Finset.univ.fold max (⊥ : EReal) (fun k => max (f k) (-(f k))) * Ideal.ofBits .f32 0x3B124925#32) = (t : EReal)
      ∧ ∀ k, ∀ x : ℝ, f k = x → kcode (f k) (Finset.univ.fold max (⊥ : EReal) (fun k => max (f k) (-(f k))) * Ideal.ofBits .f32 0x3B124925#32)
          = ((x * t⁻¹ : ℝ) : EReal) := by
  obtain ⟨a, ea, a0, aB, ha⟩ := amax hn f _ hf
  obtain ⟨c, ec, c1, c2⟩ := c_val
  rw [ea, ec, ← EReal.coe_mul]
  have key : ∃ e : ℤ, kscale ((a * c : ℝ) : EReal) = (((2 : ℝ) ^ e : ℝ) : EReal)
      ∧ fval (IntOp.addi (IntOp.subi 0#32 (eword ((a * c : ℝ) : EReal))) 127#32) = (((2 : ℝ) ^ (-e) : ℝ) : EReal) ∧ a * c ≤ (2 : ℝ) ^ e := by
    by_cases hz : a * c = 0
    · have he : eword ((a * c : ℝ) : EReal) = 0#32 := by
        unfold eword
        rw [hz, Ideal.ofBits_zero_f32]
        have : Ideal.cmp .oeq ((0 : ℝ) : EReal) 0 = 1#1 := by unfold Ideal.cmp; simp
        rw [this]; rfl
      refine ⟨0, ?_, ?_, by rw [hz]; norm_num⟩
      · unfold kscale; rw [he]
        exact fval_ofNat 127 (by omega) (by omega)
      · rw [he]
        exact fval_ofNat 127 (by omega) (by omega)
    · have hpos : 0 < a * c := lt_of_le_of_ne (mul_nonneg a0 (by linarith)) (Ne.symm hz)
      have hlt : a * c < (2 : ℝ) ^ (120 : ℤ) := by
        have : a * c ≤ (255 * 2 ^ 120) * (1 / 447) := mul_le_mul aB c2 (by linarith) (by norm_num)
        refine this.trans_lt ?_
        norm_num
      obtain ⟨b, eb, b1, b2⟩ := bsearch_spec (a * c) hpos hlt
      have he : eword ((a * c : ℝ) : EReal) = IntOp.subi (BitVec.ofNat 32 b) 126#32 := by
        unfold eword
        rw [Ideal.ofBits_zero_f32, eb]
        have : Ideal.cmp .oeq ((a * c : ℝ) : EReal) 0 = 0#1 := by
          unfold Ideal.cmp
          have : ¬ ((a * c : ℝ) : EReal) = 0 := by rw [← EReal.coe_zero, EReal.coe_eq_coe_iff]; exact hz
          simp only [this]; rfl
        rw [this]; rfl
      refine ⟨(b : ℤ) - 126, ?_, ?_, b2.le⟩
      · unfold kscale; rw [he]
        have : IntOp.addi (IntOp.subi (BitVec.ofNat 32 b) 126#32) 127#32 = BitVec.ofNat 32 (b + 1) := by
          show BitVec.ofNat 32 b - 126#32 + 127#32 = _
          bv_omega
        rw [this, fval_ofNat _ (by omega) (by omega)]
        congr 2; push_cast; ring
      · rw [he]
        have : IntOp.addi (IntOp.subi 0#32 (IntOp.subi (BitVec.ofNat 32 b) 126#32)) 127#32 = BitVec.ofNat 32 (253 - b) := by
          show 0#32 - (BitVec.ofNat 32 b - 126#32) + 127#32 = _
          bv_omega
        rw [this, fval_ofNat _ (by omega) (by omega)]
        congr 2; rw [Nat.cast_sub (by omega)]; push_cast; ring
  obtain ⟨e, k1, k2, k3⟩ := key
  have tpos : (0 : ℝ) < 2 ^ e := by positivity
  refine ⟨2 ^ e, tpos, k1, fun k x hx => ?_⟩
  unfold kcode
  rw [k2, hx, ← EReal.coe_mul, p448, n448, zpow_neg]
  refine clip_of tpos (ha k x hx) ?_
  have : a * (1 / 448) ≤ a * c := mul_le_mul_of_nonneg_left c1 a0
  linarith

/-! ### The reference's exponent: the floor of a logarithm -/

/-- The exponent: one more than the floor of the base-2 logarithm, at least -126, and 0 where the row is zero. -/
def rexp (a : EReal) : EReal :=
  Scalar.select (Ideal.cmp .oeq a (Ideal.ofBits .f32 0x00000000#32)) (Ideal.ofBits .f32 0x00000000#32)
    (max (Ideal.liftRound Int.floor (Ideal.div (Ideal.log (a * Ideal.ofBits .f32 0x3B124925#32)) (Ideal.log (Ideal.ofBits .f32 0x40000000#32)))
      + Ideal.ofBits .f32 0x3F800000#32) (Ideal.ofBits .f32 0xC2FC0000#32))

/-- The reference's scale. -/
def rscale (a : EReal) : EReal := Ideal.pow (Ideal.ofBits .f32 0x40000000#32) (rexp a)

/-- The reference's code of `x` in a row whose largest absolute value is `a`. -/
def rcode (x a : EReal) : EReal :=
  min (Ideal.ofBits .f32 0x43E00000#32) (max (Ideal.ofBits .f32 0xC3E00000#32) (x * Ideal.pow (Ideal.ofBits .f32 0x40000000#32) (-(rexp a))))

theorem two_val : (Ideal.ofBits .f32 0x40000000#32 : EReal) = ((2 : ℝ) : EReal) := by
  have e1 : ((0x40000000#32 : BitVec 32).extractLsb' 31 1 == 1#1) = false := by decide
  have e2 : ((0x40000000#32 : BitVec 32).extractLsb' 23 8).toNat = 128 := by decide
  have e3 : ((0x40000000#32 : BitVec 32).extractLsb' 0 23).toNat = 0 := by decide
  show Ideal.ieee 8 23 (0x40000000#32 : BitVec 32) = _
  rw [ieee_pow _ 128 (by omega) (by omega) e1 e2 e3]
  norm_num

theorem n126_val : (Ideal.ofBits .f32 0xC2FC0000#32 : EReal) = ((-126 : ℝ) : EReal) := by
  have e1 : ((0xC2FC0000#32 : BitVec 32).extractLsb' 31 1 == 1#1) = true := by decide
  have e2 : ((0xC2FC0000#32 : BitVec 32).extractLsb' 23 8).toNat = 133 := by decide
  have e3 : ((0xC2FC0000#32 : BitVec 32).extractLsb' 0 23).toNat = 8126464 := by decide
  show Ideal.ieee 8 23 (0xC2FC0000#32 : BitVec 32) = _
  unfold Ideal.ieee
  simp only [e1, e2, e3]
  norm_num

theorem one_val : (Ideal.ofBits .f32 0x3F800000#32 : EReal) = ((1 : ℝ) : EReal) := by
  rw [Ideal.ofBits_one_f32]; rfl

/-- The reference's quantiser: the scale is a positive `t` and the code of `x` is `x / t`. -/
theorem rquant {n : ℕ} (hn : 0 < n) (f : Fin n → EReal) (hf : ∀ k, ∃ r : ℝ, f k = r ∧ |r| ≤ 255 * 2 ^ 120) :
    ∃ t : ℝ, 0 < t ∧ rscale (Finset.univ.fold max (⊥ : EReal) (fun k => max (f k) (-(f k)))) = (t : EReal)
      ∧ ∀ k, ∀ x : ℝ, f k = x → rcode (f k) (Finset.univ.fold max (⊥ : EReal) (fun k => max (f k) (-(f k)))) = ((x * t⁻¹ : ℝ) : EReal) := by
  obtain ⟨a, ea, a0, aB, ha⟩ := amax hn f _ hf
  obtain ⟨c, ec, c1, c2⟩ := c_val
  rw [ea]
  have key : ∃ e : ℝ, rexp (a : EReal) = (e : EReal) ∧ a * c ≤ (2 : ℝ) ^ e := by
    by_cases hz : a = 0
    · refine ⟨0, ?_, by rw [hz]; norm_num⟩
      unfold rexp
      rw [hz, Ideal.ofBits_zero_f32]
      have : Ideal.cmp .oeq ((0 : ℝ) : EReal) 0 = 1#1 := by unfold Ideal.cmp; simp
      rw [this]; rfl
    · have apos : 0 < a := lt_of_le_of_ne a0 (Ne.symm hz)
      have hpos : 0 < a * c := mul_pos apos (by linarith)
      have hl2 : (0 : ℝ) < Real.log 2 := Real.log_pos (by norm_num)
      have h1 : Ideal.log ((a * c : ℝ) : EReal) = ((Real.log (a * c) : ℝ) : EReal) := by
        show (if a * c ≤ 0 then (⊥ : EReal) else (Real.log (a * c) : EReal)) = _
        rw [if_neg (not_le.2 hpos)]
      have h2 : Ideal.log ((2 : ℝ) : EReal) = ((Real.log 2 : ℝ) : EReal) := by
        show (if (2 : ℝ) ≤ 0 then (⊥ : EReal) else (Real.log 2 : EReal)) = _
        rw [if_neg (by norm_num)]
      have h3 : Ideal.div ((Real.log (a * c) : ℝ) : EReal) ((Real.log 2 : ℝ) : EReal) = ((Real.log (a * c) / Real.log 2 : ℝ) : EReal) := by
        unfold Ideal.div
        rw [if_neg (by rw [← EReal.coe_zero, EReal.coe_eq_coe_iff]; exact hl2.ne'), div_eq_mul_inv, EReal.coe_mul, EReal.coe_inv]
      refine ⟨max ((⌊Real.log (a * c) / Real.log 2⌋ : ℤ) + 1 : ℝ) (-126), ?_, ?_⟩
      · unfold rexp
        rw [ec, ← EReal.coe_mul, h1, two_val, h2, h3, one_val, n126_val, Ideal.ofBits_zero_f32]
        have h4 : Ideal.cmp .oeq (a : EReal) 0 = 0#1 := by
          unfold Ideal.cmp
          have : ¬ (a : EReal) = 0 := by rw [← EReal.coe_zero, EReal.coe_eq_coe_iff]; exact hz
          simp only [this]; rfl
        rw [h4]
        show max (((⌊Real.log (a * c) / Real.log 2⌋ : ℤ) : ℝ) + ((1 : ℝ) : EReal)) ((-126 : ℝ) : EReal) = _
        rw [← EReal.coe_add]
        exact (EReal.coe_strictMono.monotone.map_max).symm
      · have h5 : Real.log (a * c) / Real.log 2 ≤ max ((⌊Real.log (a * c) / Real.log 2⌋ : ℤ) + 1 : ℝ) (-126) :=
          (Int.lt_floor_add_one _).le.trans (le_max_left _ _)
        rw [div_le_iff₀ hl2] at h5
        rw [Real.rpow_def_of_pos (by norm_num), mul_comm (Real.log 2)]
        calc a * c = Real.exp (Real.log (a * c)) := (Real.exp_log hpos).symm
          _ ≤ _ := Real.exp_le_exp.2 h5
  obtain ⟨e, k1, k3⟩ := key
  have tpos : (0 : ℝ) < (2 : ℝ) ^ e := Real.rpow_pos_of_pos (by norm_num) _
  refine ⟨(2 : ℝ) ^ e, tpos, ?_, fun k x hx => ?_⟩
  · unfold rscale
    rw [k1, two_val]; rfl
  · unfold rcode
    rw [k1, hx, two_val, ← EReal.coe_neg]
    have : Ideal.pow ((2 : ℝ) : EReal) ((-e : ℝ) : EReal) = (((2 : ℝ) ^ (-e) : ℝ) : EReal) := rfl
    rw [this, ← EReal.coe_mul, p448, n448, Real.rpow_neg (by norm_num)]
    refine clip_of tpos (ha k x hx) ?_
    have : a * (1 / 448) ≤ a * c := mul_le_mul_of_nonneg_left c1 a0
    linarith

end

end Cert.Quant
-- ==== Proof.KernelIdeal.Pay.lean ====
module

public import proofs.«01_k».proof.Proof.KernelIdeal.Frame
public import proofs.«01_k».proof.Proof.Attn
public import proofs.«01_k».proof.Proof.Quant
public import Idealize.ShloMosaic.Lib.Pointwise

@[expose] public section

set_option maxRecDepth 16384
set_option maxHeartbeats 1000000

/-! What the kernel's payloads hold at an index, at the ideal reading: the block of scores, the new running maximum, the new
denominator and the new numerator, for each of the four blocks of new keys and for a block of cached keys. -/

noncomputable section

namespace Cert.KernelIdeal.Gen

open Idealize.ShloMosaic Idealize.SL.Sem

/-- The mask constant at the ideal reading. -/
abbrev maskv : EReal := (Named.named κ "mask" 0xF149F2CA#32 : Ideal .f32)

theorem maskv_eq : maskv = ⊥ := rfl

/-- The score of new key `r` of a block against column `c` of the queries from that block on. -/
def sNew {w : ℕ} (K : Fin 64 → Fin 256 → EReal) (Q : Fin 64 → Fin w → EReal) (r : Fin 256) (c : Fin w) : EReal :=
  Scalar.select (IntOp.cmpi .sle (BitVec.ofNat 32 r) (BitVec.ofNat 32 c)) (∑ x, K x r * Q x c) maskv

/-- The running maximum after a block of `n` scores. -/
def mNew {n : ℕ} (m : EReal) (S : Fin n → EReal) : EReal :=
  max m (Finset.univ.fold max (Ideal.ofBits .f32 0xFF800000#32) S)

/-- The denominator after a block of `n` scores. -/
def lNew {n : ℕ} (m l : EReal) (S : Fin n → EReal) : EReal :=
  l * Ideal.exp (m - mNew m S) + ∑ r, Ideal.exp (S r - mNew m S)

/-- The numerator after a block of `n` scores. -/
def aNew {n : ℕ} (m a : EReal) (S V : Fin n → EReal) : EReal :=
  a * Ideal.exp (m - mNew m S) + ∑ r, V r * Ideal.exp (S r - mNew m S)

theorem mA0 (K V : Vec Ideal S64x256 .bf16) (Q : Vec Ideal S64x1024 .bf16) (M L : Vec Ideal S1x1024 .f32) (A : Vec Ideal S64x1024 .f32) (c : Fin 1024) :
    k0_pay71 (F := Ideal) K Q M (ix2 0 c) = mNew (M (ix2 0 c)) (fun r => sNew (fun x r => K (ix2 x r)) (fun x c => Q (ix2 x c)) r c) := by
  pointwise [k0_pay67, k0_pay68, k0_pay69, k0_pay70, k0_pay71, k0_pay72, k0_pay73]
  rfl

theorem lA0 (K V : Vec Ideal S64x256 .bf16) (Q : Vec Ideal S64x1024 .bf16) (M L : Vec Ideal S1x1024 .f32) (A : Vec Ideal S64x1024 .f32) (c : Fin 1024) :
    k0_pay72 (F := Ideal) (k0_pay69 K Q M) (k0_pay70 K Q M) L (ix2 0 c) = lNew (M (ix2 0 c)) (L (ix2 0 c)) (fun r => sNew (fun x r => K (ix2 x r)) (fun x c => Q (ix2 x c)) r c) := by
  pointwise [k0_pay67, k0_pay68, k0_pay69, k0_pay70, k0_pay71, k0_pay72, k0_pay73]
  rfl

theorem aA0 (K V : Vec Ideal S64x256 .bf16) (Q : Vec Ideal S64x1024 .bf16) (M L : Vec Ideal S1x1024 .f32) (A : Vec Ideal S64x1024 .f32) (d : Fin 64) (c : Fin 1024) :
    k0_pay73 (F := Ideal) V (k0_pay69 K Q M) (k0_pay70 K Q M) A (ix2 d c) = aNew (M (ix2 0 c)) (A (ix2 d c)) (fun r => sNew (fun x r => K (ix2 x r)) (fun x c => Q (ix2 x c)) r c) (fun r => V (ix2 d r)) := by
  pointwise [k0_pay67, k0_pay68, k0_pay69, k0_pay70, k0_pay71, k0_pay72, k0_pay73]
  rfl

theorem mA1 (K V : Vec Ideal S64x256 .bf16) (Q : Vec Ideal S64x768 .bf16) (M L : Vec Ideal S1x768 .f32) (A : Vec Ideal S64x768 .f32) (c : Fin 768) :
    k0_pay78 (F := Ideal) (k0_pay75 K Q M) (ix2 0 c) = mNew (M (ix2 0 c)) (fun r => sNew (fun x r => K (ix2 x r)) (fun x c => Q (ix2 x c)) r c) := by
  pointwise [k0_pay74, k0_pay75, k0_pay76, k0_pay77, k0_pay78, k0_pay79, k0_pay80]
  rfl

theorem lA1 (K V : Vec Ideal S64x256 .bf16) (Q : Vec Ideal S64x768 .bf16) (M L : Vec Ideal S1x768 .f32) (A : Vec Ideal S64x768 .f32) (c : Fin 768) :
    k0_pay79 (F := Ideal) (k0_pay76 K Q M) (k0_pay77 K Q M) L (ix2 0 c) = lNew (M (ix2 0 c)) (L (ix2 0 c)) (fun r => sNew (fun x r => K (ix2 x r)) (fun x c => Q (ix2 x c)) r c) := by
  pointwise [k0_pay74, k0_pay75, k0_pay76, k0_pay77, k0_pay78, k0_pay79, k0_pay80]
  rfl

theorem aA1 (K V : Vec Ideal S64x256 .bf16) (Q : Vec Ideal S64x768 .bf16) (M L : Vec Ideal S1x768 .f32) (A : Vec Ideal S64x768 .f32) (d : Fin 64) (c : Fin 768) :
    k0_pay80 (F := Ideal) V (k0_pay76 K Q M) (k0_pay77 K Q M) A (ix2 d c) = aNew (M (ix2 0 c)) (A (ix2 d c)) (fun r => sNew (fun x r => K (ix2 x r)) (fun x c => Q (ix2 x c)) r c) (fun r => V (ix2 d r)) := by
  pointwise [k0_pay74, k0_pay75, k0_pay76, k0_pay77, k0_pay78, k0_pay79, k0_pay80]
  rfl

theorem mA2 (K V : Vec Ideal S64x256 .bf16) (Q : Vec Ideal S64x512 .bf16) (M L : Vec Ideal S1x512 .f32) (A : Vec Ideal S64x512 .f32) (c : Fin 512) :
    k0_pay86 (F := Ideal) (k0_pay82 K Q M) (ix2 0 c) = mNew (M (ix2 0 c)) (fun r => sNew (fun x r => K (ix2 x r)) (fun x c => Q (ix2 x c)) r c) := by
  pointwise [k0_pay81, k0_pay82, k0_pay83, k0_pay84, k0_pay85, k0_pay86, k0_pay87, k0_pay88]
  rfl

theorem lA2 (K V : Vec Ideal S64x256 .bf16) (Q : Vec Ideal S64x512 .bf16) (M L : Vec Ideal S1x512 .f32) (A : Vec Ideal S64x512 .f32) (c : Fin 512) :
    k0_pay87 (F := Ideal) (k0_pay83 K Q M) (k0_pay84 K Q M) L (ix2 0 c) = lNew (M (ix2 0 c)) (L (ix2 0 c)) (fun r => sNew (fun x r => K (ix2 x r)) (fun x c => Q (ix2 x c)) r c) := by
  pointwise [k0_pay81, k0_pay82, k0_pay83, k0_pay84, k0_pay85, k0_pay86, k0_pay87, k0_pay88]
  rfl

theorem aA2 (K V : Vec Ideal S64x256 .bf16) (Q : Vec Ideal S64x512 .bf16) (M L : Vec Ideal S1x512 .f32) (A : Vec Ideal S64x512 .f32) (d : Fin 64) (c : Fin 512) :
    k0_pay88 (F := Ideal) V (k0_pay83 K Q M) (k0_pay84 K Q M) A (ix2 d c) = aNew (M (ix2 0 c)) (A (ix2 d c)) (fun r => sNew (fun x r => K (ix2 x r)) (fun x c => Q (ix2 x c)) r c) (fun r => V (ix2 d r)) := by
  pointwise [k0_pay81, k0_pay82, k0_pay83, k0_pay84, k0_pay85, k0_pay86, k0_pay87, k0_pay88]
  rfl

theorem lA3 (K V : Vec Ideal S64x256 .bf16) (Q : Vec Ideal S64x256 .bf16) (M L : Vec Ideal S1x256 .f32) (A : Vec Ideal S64x256 .f32) (c : Fin 256) :
    k0_pay94 (F := Ideal) (k0_pay89 K Q) M (k0_pay90 K Q M) L (ix2 0 c) = lNew (M (ix2 0 c)) (L (ix2 0 c)) (fun r => sNew (fun x r => K (ix2 x r)) (fun x c => Q (ix2 x c)) r c) := by
  pointwise [k0_pay89, k0_pay90, k0_pay91, k0_pay92, k0_pay94, k0_pay95]
  rfl

theorem aA3 (K V : Vec Ideal S64x256 .bf16) (Q : Vec Ideal S64x256 .bf16) (M L : Vec Ideal S1x256 .f32) (A : Vec Ideal S64x256 .f32) (d : Fin 64) (c : Fin 256) :
    k0_pay95 (F := Ideal) (k0_pay89 K Q) V M (k0_pay90 K Q M) A (ix2 d c) = aNew (M (ix2 0 c)) (A (ix2 d c)) (fun r => sNew (fun x r => K (ix2 x r)) (fun x c => Q (ix2 x c)) r c) (fun r => V (ix2 d r)) := by
  pointwise [k0_pay89, k0_pay90, k0_pay91, k0_pay92, k0_pay94, k0_pay95]
  rfl

theorem mB0 (K V : Vec Ideal S64x256 .bf16) (Q : Vec Ideal S64x1024 .bf16) (M L : Vec Ideal S1x1024 .f32) (A : Vec Ideal S64x1024 .f32) (c : Fin 1024) :
    k0_pay144 (F := Ideal) K Q M (ix2 0 c) = mNew (M (ix2 0 c)) (fun r => sNew (fun x r => K (ix2 x r)) (fun x c => Q (ix2 x c)) r c) := by
  pointwise [k0_pay140, k0_pay141, k0_pay142, k0_pay143, k0_pay144, k0_pay145, k0_pay146, k0_pay147]
  rfl

theorem lB0 (K V : Vec Ideal S64x256 .bf16) (Q : Vec Ideal S64x1024 .bf16) (M L : Vec Ideal S1x1024 .f32) (A : Vec Ideal S64x1024 .f32) (c : Fin 1024) :
    k0_pay146 (F := Ideal) (k0_pay145 K Q M L) (ix2 0 c) = lNew (M (ix2 0 c)) (L (ix2 0 c)) (fun r => sNew (fun x r => K (ix2 x r)) (fun x c => Q (ix2 x c)) r c) := by
  pointwise [k0_pay140, k0_pay141, k0_pay142, k0_pay143, k0_pay144, k0_pay145, k0_pay146, k0_pay147]
  rfl

theorem aB0 (K V : Vec Ideal S64x256 .bf16) (Q : Vec Ideal S64x1024 .bf16) (M L : Vec Ideal S1x1024 .f32) (A : Vec Ideal S64x1024 .f32) (d : Fin 64) (c : Fin 1024) :
    k0_pay147 (F := Ideal) V (k0_pay142 K Q M) (k0_pay143 K Q M) A (ix2 d c) = aNew (M (ix2 0 c)) (A (ix2 d c)) (fun r => sNew (fun x r => K (ix2 x r)) (fun x c => Q (ix2 x c)) r c) (fun r => V (ix2 d r)) := by
  pointwise [k0_pay140, k0_pay141, k0_pay142, k0_pay143, k0_pay144, k0_pay145, k0_pay146, k0_pay147]
  rfl

theorem mB1 (K V : Vec Ideal S64x256 .bf16) (Q : Vec Ideal S64x768 .bf16) (M L : Vec Ideal S1x768 .f32) (A : Vec Ideal S64x768 .f32) (c : Fin 768) :
    k0_pay152 (F := Ideal) K Q M (ix2 0 c) = mNew (M (ix2 0 c)) (fun r => sNew (fun x r => K (ix2 x r)) (fun x c => Q (ix2 x c)) r c) := by
  pointwise [k0_pay148, k0_pay149, k0_pay150, k0_pay151, k0_pay152, k0_pay153, k0_pay154, k0_pay155]
  rfl

theorem lB1 (K V : Vec Ideal S64x256 .bf16) (Q : Vec Ideal S64x768 .bf16) (M L : Vec Ideal S1x768 .f32) (A : Vec Ideal S64x768 .f32) (c : Fin 768) :
    k0_pay154 (F := Ideal) (k0_pay150 K Q M) (k0_pay153 K Q M L) (ix2 0 c) = lNew (M (ix2 0 c)) (L (ix2 0 c)) (fun r => sNew (fun x r => K (ix2 x r)) (fun x c => Q (ix2 x c)) r c) := by
  pointwise [k0_pay148, k0_pay149, k0_pay150, k0_pay151, k0_pay152, k0_pay153, k0_pay154, k0_pay155]
  rfl

theorem aB1 (K V : Vec Ideal S64x256 .bf16) (Q : Vec Ideal S64x768 .bf16) (M L : Vec Ideal S1x768 .f32) (A : Vec Ideal S64x768 .f32) (d : Fin 64) (c : Fin 768) :
    k0_pay155 (F := Ideal) V (k0_pay150 K Q M) (k0_pay151 K Q M) A (ix2 d c) = aNew (M (ix2 0 c)) (A (ix2 d c)) (fun r => sNew (fun x r => K (ix2 x r)) (fun x c => Q (ix2 x c)) r c) (fun r => V (ix2 d r)) := by
  pointwise [k0_pay148, k0_pay149, k0_pay150, k0_pay151, k0_pay152, k0_pay153, k0_pay154, k0_pay155]
  rfl

theorem mB2 (K V : Vec Ideal S64x256 .bf16) (Q : Vec Ideal S64x512 .bf16) (M L : Vec Ideal S1x512 .f32) (A : Vec Ideal S64x512 .f32) (c : Fin 512) :
    k0_pay160 (F := Ideal) K Q M (ix2 0 c) = mNew (M (ix2 0 c)) (fun r => sNew (fun x r => K (ix2 x r)) (fun x c => Q (ix2 x c)) r c) := by
  pointwise [k0_pay156, k0_pay157, k0_pay158, k0_pay159, k0_pay160, k0_pay161, k0_pay162]
  rfl

theorem lB2 (K V : Vec Ideal S64x256 .bf16) (Q : Vec Ideal S64x512 .bf16) (M L : Vec Ideal S1x512 .f32) (A : Vec Ideal S64x512 .f32) (c : Fin 512) :
    k0_pay161 (F := Ideal) (k0_pay158 K Q M) (k0_pay159 K Q M) L (ix2 0 c) = lNew (M (ix2 0 c)) (L (ix2 0 c)) (fun r => sNew (fun x r => K (ix2 x r)) (fun x c => Q (ix2 x c)) r c) := by
  pointwise [k0_pay156, k0_pay157, k0_pay158, k0_pay159, k0_pay160, k0_pay161, k0_pay162]
  rfl

theorem aB2 (K V : Vec Ideal S64x256 .bf16) (Q : Vec Ideal S64x512 .bf16) (M L : Vec Ideal S1x512 .f32) (A : Vec Ideal S64x512 .f32) (d : Fin 64) (c : Fin 512) :
    k0_pay162 (F := Ideal) V (k0_pay158 K Q M) (k0_pay159 K Q M) A (ix2 d c) = aNew (M (ix2 0 c)) (A (ix2 d c)) (fun r => sNew (fun x r => K (ix2 x r)) (fun x c => Q (ix2 x c)) r c) (fun r => V (ix2 d r)) := by
  pointwise [k0_pay156, k0_pay157, k0_pay158, k0_pay159, k0_pay160, k0_pay161, k0_pay162]
  rfl

theorem lB3 (K V : Vec Ideal S64x256 .bf16) (Q : Vec Ideal S64x256 .bf16) (M L : Vec Ideal S1x256 .f32) (A : Vec Ideal S64x256 .f32) (c : Fin 256) :
    k0_pay168 (F := Ideal) (k0_pay165 K Q M) (k0_pay166 K Q M) L (ix2 0 c) = lNew (M (ix2 0 c)) (L (ix2 0 c)) (fun r => sNew (fun x r => K (ix2 x r)) (fun x c => Q (ix2 x c)) r c) := by
  pointwise [k0_pay163, k0_pay164, k0_pay165, k0_pay166, k0_pay168, k0_pay169]
  rfl

theorem aB3 (K V : Vec Ideal S64x256 .bf16) (Q : Vec Ideal S64x256 .bf16) (M L : Vec Ideal S1x256 .f32) (A : Vec Ideal S64x256 .f32) (d : Fin 64) (c : Fin 256) :
    k0_pay169 (F := Ideal) V (k0_pay165 K Q M) (k0_pay166 K Q M) A (ix2 d c) = aNew (M (ix2 0 c)) (A (ix2 d c)) (fun r => sNew (fun x r => K (ix2 x r)) (fun x c => Q (ix2 x c)) r c) (fun r => V (ix2 d r)) := by
  pointwise [k0_pay163, k0_pay164, k0_pay165, k0_pay166, k0_pay168, k0_pay169]
  rfl

/-- The score of key `i` of trip `t`'s block of cached keys. -/
def sOld (v1 : BitVec 32) (t : ℕ) (kc : Fin 64 → Fin 512 → EReal) (ks : Fin 64 → EReal) (q : Fin 64 → EReal) (i : Fin 512) : EReal :=
  Scalar.select (IntOp.cmpi .slt (IntOp.addi (Scalar.muli (Scf.iv 0#32 1#32 t) 512#32) (BitVec.ofNat 32 i)) v1) (∑ x, kc x i * ks x * q x) maskv

theorem mAold (v1 : BitVec 32) (ks : FVec Ideal S64x1 .bf16) (t : Fin (k0_t1_loop v1).trips) (kc : Vec Ideal S1x1x64x512 .fp8e4m3) (qw : Vec Ideal S64x1024 .bf16) (M Lv : Vec Ideal S1x1024 .f32) (A : Vec Ideal S64x1024 .f32) (vc : Vec Ideal S1x1x64x512 .fp8e4m3) (vs : Vec Ideal S1x1x512 .f32) (c : Fin 1024) :
    k0_pay61 (F := Ideal) (k0_pay4 v1 ks 0#32 1#32 t kc qw M) (ix2 0 c) = mNew (M (ix2 0 c)) (sOld v1 t.val (fun x i => kc (ix4 0 0 x i)) (fun x => ks (ix2 x 0)) (fun x => qw (ix2 x c))) := by
  pointwise [k0_pay3, k0_pay4, k0_pay5, k0_pay6, k0_pay61, k0_pay62, k0_pay63, k0_pay2]
  rfl

theorem lAold (v1 : BitVec 32) (ks : FVec Ideal S64x1 .bf16) (t : Fin (k0_t1_loop v1).trips) (kc : Vec Ideal S1x1x64x512 .fp8e4m3) (qw : Vec Ideal S64x1024 .bf16) (M Lv : Vec Ideal S1x1024 .f32) (A : Vec Ideal S64x1024 .f32) (vc : Vec Ideal S1x1x64x512 .fp8e4m3) (vs : Vec Ideal S1x1x512 .f32) (c : Fin 1024) :
    k0_pay62 (F := Ideal) (k0_pay5 v1 ks 0#32 1#32 t kc qw M) (k0_pay6 v1 ks 0#32 1#32 t kc qw M) Lv (ix2 0 c) = lNew (M (ix2 0 c)) (Lv (ix2 0 c)) (sOld v1 t.val (fun x i => kc (ix4 0 0 x i)) (fun x => ks (ix2 x 0)) (fun x => qw (ix2 x c))) := by
  pointwise [k0_pay3, k0_pay4, k0_pay5, k0_pay6, k0_pay61, k0_pay62, k0_pay63, k0_pay2]
  rfl

theorem aAold (v1 : BitVec 32) (ks : FVec Ideal S64x1 .bf16) (t : Fin (k0_t1_loop v1).trips) (kc : Vec Ideal S1x1x64x512 .fp8e4m3) (qw : Vec Ideal S64x1024 .bf16) (M Lv : Vec Ideal S1x1024 .f32) (A : Vec Ideal S64x1024 .f32) (vc : Vec Ideal S1x1x64x512 .fp8e4m3) (vs : Vec Ideal S1x1x512 .f32) (d : Fin 64) (c : Fin 1024) :
    k0_pay63 (F := Ideal) (k0_pay2 vc vs) (k0_pay5 v1 ks 0#32 1#32 t kc qw M) (k0_pay6 v1 ks 0#32 1#32 t kc qw M) A (ix2 d c) = aNew (M (ix2 0 c)) (A (ix2 d c)) (sOld v1 t.val (fun x i => kc (ix4 0 0 x i)) (fun x => ks (ix2 x 0)) (fun x => qw (ix2 x c))) (fun i => vc (ix4 0 0 d i) * vs (ix3 0 0 i)) := by
  pointwise [k0_pay3, k0_pay4, k0_pay5, k0_pay6, k0_pay61, k0_pay62, k0_pay63, k0_pay2]
  rfl

theorem mBold (v1 : BitVec 32) (ks : FVec Ideal S64x1 .bf16) (t : Fin (k0_t3_loop v1).trips) (kc : Vec Ideal S1x1x64x512 .fp8e4m3) (qw : Vec Ideal S64x1024 .bf16) (M Lv : Vec Ideal S1x1024 .f32) (A : Vec Ideal S64x1024 .f32) (vc : Vec Ideal S1x1x64x512 .fp8e4m3) (vs : Vec Ideal S1x1x512 .f32) (c : Fin 1024) :
    k0_pay134 (F := Ideal) (k0_pay14 v1 ks 0#32 1#32 t kc qw M) (ix2 0 c) = mNew (M (ix2 0 c)) (sOld v1 t.val (fun x i => kc (ix4 0 0 x i)) (fun x => ks (ix2 x 0)) (fun x => qw (ix2 x c))) := by
  pointwise [k0_pay13, k0_pay14, k0_pay15, k0_pay16, k0_pay134, k0_pay135, k0_pay136, k0_pay12]
  rfl

theorem lBold (v1 : BitVec 32) (ks : FVec Ideal S64x1 .bf16) (t : Fin (k0_t3_loop v1).trips) (kc : Vec Ideal S1x1x64x512 .fp8e4m3) (qw : Vec Ideal S64x1024 .bf16) (M Lv : Vec Ideal S1x1024 .f32) (A : Vec Ideal S64x1024 .f32) (vc : Vec Ideal S1x1x64x512 .fp8e4m3) (vs : Vec Ideal S1x1x512 .f32) (c : Fin 1024) :
    k0_pay135 (F := Ideal) (k0_pay15 v1 ks 0#32 1#32 t kc qw M) (k0_pay16 v1 ks 0#32 1#32 t kc qw M) Lv (ix2 0 c) = lNew (M (ix2 0 c)) (Lv (ix2 0 c)) (sOld v1 t.val (fun x i => kc (ix4 0 0 x i)) (fun x => ks (ix2 x 0)) (fun x => qw (ix2 x c))) := by
  pointwise [k0_pay13, k0_pay14, k0_pay15, k0_pay16, k0_pay134, k0_pay135, k0_pay136, k0_pay12]
  rfl

theorem aBold (v1 : BitVec 32) (ks : FVec Ideal S64x1 .bf16) (t : Fin (k0_t3_loop v1).trips) (kc : Vec Ideal S1x1x64x512 .fp8e4m3) (qw : Vec Ideal S64x1024 .bf16) (M Lv : Vec Ideal S1x1024 .f32) (A : Vec Ideal S64x1024 .f32) (vc : Vec Ideal S1x1x64x512 .fp8e4m3) (vs : Vec Ideal S1x1x512 .f32) (d : Fin 64) (c : Fin 1024) :
    k0_pay136 (F := Ideal) (k0_pay12 vc vs) (k0_pay15 v1 ks 0#32 1#32 t kc qw M) (k0_pay16 v1 ks 0#32 1#32 t kc qw M) A (ix2 d c) = aNew (M (ix2 0 c)) (A (ix2 d c)) (sOld v1 t.val (fun x i => kc (ix4 0 0 x i)) (fun x => ks (ix2 x 0)) (fun x => qw (ix2 x c))) (fun i => vc (ix4 0 0 d i) * vs (ix3 0 0 i)) := by
  pointwise [k0_pay13, k0_pay14, k0_pay15, k0_pay16, k0_pay134, k0_pay135, k0_pay136, k0_pay12]
  rfl

end Cert.KernelIdeal.Gen
-- ==== Proof.KernelIdeal.Stage.lean ====
module

public import proofs.«01_k».proof.Proof.KernelIdeal.Pay
public import Idealize.ShloMosaic.Lib.WritesUnit

@[expose] public section

set_option maxHeartbeats 1000000

/-! One block of keys in the running softmax: what the three scratch buffers hold after a block, given what they held before. -/

noncomputable section

namespace Cert.KernelIdeal.Gen

open Idealize.ShloMosaic Idealize.SL.Sem

/-- The keys of one query: the cached positions and the new positions. -/
abbrev Key := Fin 16384 ⊕ Fin 1024

open Classical in
/-- The keys a query at `q` has met after `T` blocks of cached keys and `j` blocks of new keys. -/
def met (T j : ℕ) (q : Fin 1024) : Finset Key :=
  Finset.univ.filter (Sum.elim (fun i : Fin 16384 => i.val < 512 * T) (fun i : Fin 1024 => i.val < 256 * j ∧ 256 * (i.val / 256) ≤ q.val))

theorem mem_met_inl (T j : ℕ) (q : Fin 1024) (i : Fin 16384) : (Sum.inl i : Key) ∈ met T j q ↔ i.val < 512 * T := by
  unfold met; simp only [Finset.mem_filter, Finset.mem_univ, true_and, Sum.elim_inl, Sum.elim_inr]

theorem mem_met_inr (T j : ℕ) (q : Fin 1024) (i : Fin 1024) : (Sum.inr i : Key) ∈ met T j q ↔ i.val < 256 * j ∧ 256 * (i.val / 256) ≤ q.val := by
  unfold met; simp only [Finset.mem_filter, Finset.mem_univ, true_and, Sum.elim_inl, Sum.elim_inr]

section views

variable {sg : RefSig} {kd : Kind} {sp : Space} {e : EltTy} {Val : EltTy → Type}

/-- A read of a buffer of 1024 columns whose last write covers the columns from `o` on: at such a column, the write's. -/
theorem read_cols_ge {n o w : ℕ} (v : View sg kd sp (⟨2, ![n, 1024]⟩ : Shape) e) (f : v.ty.Contents Val)
    (inb : ∀ a : Fin 2, (![0, o] : Fin 2 → ℕ) a + (![n, w] : Fin 2 → ℕ) a ≤ (![n, 1024] : Fin 2 → ℕ) a)
    (p : (⟨2, ![n, w]⟩ : Shape).Idx → Val e) (L : List (View.Piece Val (⟨2, ![n, 1024]⟩ : Shape) e)) (a : Fin n) (c : Fin 1024) (x : Fin w)
    (h : c.val = o + x.val) :
    v.read Val (v.writes Val f ((⟨Rect.unit (s := ⟨2, ![n, 1024]⟩) ![0, o] ![n, w] inb, p⟩ : View.Piece Val (⟨2, ![n, 1024]⟩ : Shape) e) :: L)) (ix2 a c) = p (ix2 a x) := by
  refine View.read_writes_cons_unit_of_mem v f inb p L (ix2 a c) (ix2 a x) rfl ?_
  intro b
  fin_cases b
  · show a.val = 0 + a.val
    omega
  · exact h

/-- The same read at a column before `o`: what was there before. -/
theorem read_cols_lt {n o w : ℕ} (v : View sg kd sp (⟨2, ![n, 1024]⟩ : Shape) e) (f : v.ty.Contents Val)
    (inb : ∀ a : Fin 2, (![0, o] : Fin 2 → ℕ) a + (![n, w] : Fin 2 → ℕ) a ≤ (![n, 1024] : Fin 2 → ℕ) a)
    (p : (⟨2, ![n, w]⟩ : Shape).Idx → Val e) (L : List (View.Piece Val (⟨2, ![n, 1024]⟩ : Shape) e)) (a : Fin n) (c : Fin 1024)
    (h : c.val < o) :
    v.read Val (v.writes Val f ((⟨Rect.unit (s := ⟨2, ![n, 1024]⟩) ![0, o] ![n, w] inb, p⟩ : View.Piece Val (⟨2, ![n, 1024]⟩ : Shape) e) :: L)) (ix2 a c)
      = v.read Val (v.writes Val f L) (ix2 a c) :=
  View.read_writes_cons_unit_of_not_mem v f inb p L (ix2 a c) rfl 1 (Or.inl h)

end views

/-- One query of a block: the new maximum, denominator and numerator stand for the keys met so far. -/
theorem step_block {n : ℕ} {s v : Key → EReal} {J J' : Finset Key} {m l a : EReal} (h : Attn.Inv s v J m l a)
    (φ : Fin n → Key) (hφ : Function.Injective φ) (hd : ∀ i, φ i ∉ J) (hJ : ∀ k, k ∈ J' ↔ k ∈ J ∨ ∃ i, φ i = k)
    (S V : Fin n → EReal) (hs : ∀ i, S i = s (φ i)) (hv : ∀ i, V i = v (φ i)) :
    Attn.Inv s v J' (mNew m S) (lNew m l S) (aNew m a S V) := by
  refine Attn.Inv.step h φ hφ hd hJ S V hs hv ?_ rfl rfl
  unfold mNew
  rw [Quant.neg_inf]

/-- A block of new keys, for every query: `o = 256 * j` columns are untouched and hold their sums already. -/
theorem stage (T j o w : ℕ) (ho : o = 256 * j) (hw : o + w = 1024) (hj : 256 * (j + 1) ≤ 1024)
    {sg : RefSig} {κ1 κ2 κ3 : Kind} {sp1 sp2 sp3 : Space}
    (v20 : View sg κ1 sp1 (⟨2, ![64, 1024]⟩ : Shape) .f32) (v21 : View sg κ2 sp2 (⟨2, ![1, 1024]⟩ : Shape) .f32) (v22 : View sg κ3 sp3 (⟨2, ![1, 1024]⟩ : Shape) .f32)
    (f20 : v20.ty.Contents (Elt Ideal)) (f21 : v21.ty.Contents (Elt Ideal)) (f22 : v22.ty.Contents (Elt Ideal))
    (L20 : List (View.Piece (Elt Ideal) (⟨2, ![64, 1024]⟩ : Shape) .f32)) (L21 L22 : List (View.Piece (Elt Ideal) (⟨2, ![1, 1024]⟩ : Shape) .f32))
    (i20 : ∀ a : Fin 2, (![0, o] : Fin 2 → ℕ) a + (![64, w] : Fin 2 → ℕ) a ≤ (![64, 1024] : Fin 2 → ℕ) a)
    (i22 : ∀ a : Fin 2, (![0, o] : Fin 2 → ℕ) a + (![1, w] : Fin 2 → ℕ) a ≤ (![1, 1024] : Fin 2 → ℕ) a)
    (p20 : (⟨2, ![64, w]⟩ : Shape).Idx → EReal) (p22 : (⟨2, ![1, w]⟩ : Shape).Idx → EReal)
    (K V : Fin 64 → Fin 256 → EReal) (Q : Fin 64 → Fin w → EReal) (M : Fin w → EReal) (L : Fin w → EReal) (A : Fin 64 → Fin w → EReal)
    (s : Fin 1024 → Key → EReal) (v : Fin 64 → Key → EReal)
    (hs : ∀ (r : Fin 256) (c : Fin w) (q : Fin 1024) (i : Fin 1024), q.val = o + c.val → i.val = o + r.val → sNew K Q r c = s q (Sum.inr i))
    (hv : ∀ (d : Fin 64) (r : Fin 256) (i : Fin 1024), i.val = o + r.val → V d r = v d (Sum.inr i))
    (hM : ∀ (c : Fin w) (q : Fin 1024), q.val = o + c.val → M c = v21.read (Elt Ideal) (v21.writes (Elt Ideal) f21 L21) (ix2 0 q))
    (hL : ∀ (c : Fin w) (q : Fin 1024), q.val = o + c.val → L c = v22.read (Elt Ideal) (v22.writes (Elt Ideal) f22 L22) (ix2 0 q))
    (hA : ∀ (d : Fin 64) (c : Fin w) (q : Fin 1024), q.val = o + c.val → A d c = v20.read (Elt Ideal) (v20.writes (Elt Ideal) f20 L20) (ix2 d q))
    (hp22 : ∀ c : Fin w, p22 (ix2 0 c) = lNew (M c) (L c) (fun r => sNew K Q r c))
    (hp20 : ∀ (d : Fin 64) (c : Fin w), p20 (ix2 d c) = aNew (M c) (A d c) (fun r => sNew K Q r c) (V d))
    (h : ∀ q d, Attn.Inv (s q) (v d) (met T j q) (v21.read (Elt Ideal) (v21.writes (Elt Ideal) f21 L21) (ix2 0 q))
      (v22.read (Elt Ideal) (v22.writes (Elt Ideal) f22 L22) (ix2 0 q)) (v20.read (Elt Ideal) (v20.writes (Elt Ideal) f20 L20) (ix2 d q)))
    (q : Fin 1024) (d : Fin 64) :
    ∃ m, (∀ (c : Fin w), q.val = o + c.val → m = mNew (M c) (fun r => sNew K Q r c)) ∧ (q.val < o → m = v21.read (Elt Ideal) (v21.writes (Elt Ideal) f21 L21) (ix2 0 q)) ∧
    Attn.Inv (s q) (v d) (met T (j + 1) q) m
      (v22.read (Elt Ideal) (v22.writes (Elt Ideal) f22 ((⟨Rect.unit (s := ⟨2, ![1, 1024]⟩) ![0, o] ![1, w] i22, p22⟩ : View.Piece (Elt Ideal) (⟨2, ![1, 1024]⟩ : Shape) .f32) :: L22)) (ix2 0 q))
      (v20.read (Elt Ideal) (v20.writes (Elt Ideal) f20 ((⟨Rect.unit (s := ⟨2, ![64, 1024]⟩) ![0, o] ![64, w] i20, p20⟩ : View.Piece (Elt Ideal) (⟨2, ![64, 1024]⟩ : Shape) .f32) :: L20)) (ix2 d q)) := by
  by_cases hq : q.val < o
  · rw [read_cols_lt v22 f22 i22 p22 L22 0 q hq, read_cols_lt v20 f20 i20 p20 L20 d q hq]
    refine ⟨_, fun c hc => absurd hc (by omega), fun _ => rfl, ?_⟩
    have hm : met T (j + 1) q = met T j q := by
      ext k
      cases k with
      | inl i => rw [mem_met_inl, mem_met_inl]
      | inr i =>
        rw [mem_met_inr, mem_met_inr]
        omega
    rw [hm]
    exact h q d
  · obtain ⟨c, hc⟩ : ∃ c : Fin w, q.val = o + c.val := ⟨⟨q.val - o, by have := q.isLt; omega⟩, by show q.val = o + (q.val - o); omega⟩
    rw [read_cols_ge v22 f22 i22 p22 L22 0 q c hc, read_cols_ge v20 f20 i20 p20 L20 d q c hc, hp22, hp20, hM c q hc, hL c q hc, hA d c q hc]
    refine ⟨mNew (v21.read (Elt Ideal) (v21.writes (Elt Ideal) f21 L21) (ix2 0 q)) (fun r => sNew K Q r c), ?_, fun h => absurd h hq, ?_⟩
    · intro c' hc'
      have : c' = c := Fin.ext (by omega)
      subst this
      rw [hM c' q hc]
    · refine step_block (h q d) (fun r : Fin 256 => Sum.inr ⟨o + r.val, by omega⟩) ?_ ?_ ?_ _ _ (fun r => hs r c q _ hc rfl) (fun r => hv d r _ rfl)
      · intro a b hab
        have h2 : o + a.val = o + b.val := congrArg Fin.val (Sum.inr.inj hab)
        exact Fin.ext (by omega)
      · intro r hr
        have h2 := (mem_met_inr T j q _).1 hr
        have h3 : o + r.val < 256 * j := h2.1
        omega
      · intro k
        cases k with
        | inl i =>
          rw [mem_met_inl, mem_met_inl]
          constructor
          · exact Or.inl
          · rintro (h | ⟨r, hr⟩)
            · exact h
            · cases hr
        | inr i =>
          rw [mem_met_inr, mem_met_inr]
          constructor
          · intro hi
            by_cases h2 : i.val < 256 * j
            · exact Or.inl ⟨h2, hi.2⟩
            · exact Or.inr ⟨⟨i.val - o, by omega⟩, congrArg Sum.inr (Fin.ext (by show o + (i.val - o) = i.val; omega))⟩
          · rintro (h2 | ⟨r, hr⟩)
            · omega
            · have : o + r.val = i.val := congrArg Fin.val (Sum.inr.inj hr)
              omega

end Cert.KernelIdeal.Gen
-- ==== Proof.KernelIdeal.Trip.lean ====
module

public import proofs.«01_k».proof.Proof.KernelIdeal.Stage
public import Idealize.ShloMosaic.Lib.VecWindow

@[expose] public section

set_option maxRecDepth 16384
set_option maxHeartbeats 400000

/-! What one trip of each loop over the cached keys stores. -/

noncomputable section

namespace Cert.KernelIdeal.Gen

open Idealize.ShloMosaic Idealize.SL.Sem

/-- What one trip of the loop stores: the new numerator, maximum and denominator, each over its whole buffer. -/
theorem tripA_pieces (𝒱 : Variants) (c : Dev nD) (bd : Option 𝒱.V) (i : grid0.Coords) (arg2 : Memref sig .tc .smem S8 .i32) (harg2 : arg2.IsWhole) (arg3 : Memref sig .tc .vmem S1x2x64x1024 .bf16) (harg3 : arg3.IsWhole) (arg4 : Memref sig .tc .vmem S1x2x64x1024 .bf16) (harg4 : arg4.IsWhole) (arg5 : Memref sig .tc .vmem S1x2x64x1024 .bf16) (harg5 : arg5.IsWhole) (arg6 : Memref sig .tc .vmem S1x2x64x16384 .fp8e4m3) (harg6 : arg6.IsWhole) (arg7 : Memref sig .tc .vmem S1x2x64x16384 .fp8e4m3) (harg7 : arg7.IsWhole) (arg8 : Memref sig .tc .vmem S1x8x64 .f32) (harg8 : arg8.IsWhole) (arg9 : Memref sig .tc .vmem S1x8x16384 .f32) (harg9 : arg9.IsWhole) (arg10 : Memref sig .tc .vmem S1x1024x128 .bf16) (harg10 : arg10.IsWhole) (arg11 : Memref sig .tc .vmem S1x2x64x1024 .fp8e4m3) (harg11 : arg11.IsWhole) (arg12 : Memref sig .tc .vmem S1x8x1024 .f32) (harg12 : arg12.IsWhole) (arg13 : Memref sig .tc .vmem S1x2x64x1024 .fp8e4m3) (harg13 : arg13.IsWhole) (arg14 : Memref sig .tc .vmem S1x8x64 .f32) (harg14 : arg14.IsWhole) (arg15 : Memref sig .tc .vmem S1x2x64x1024 .fp8e4m3) (harg15 : arg15.IsWhole) (arg16 : Memref sig .tc .vmem S1x8x1024 .f32) (harg16 : arg16.IsWhole) (arg17 : Memref sig .tc .vmem S64x1024 .bf16) (harg17 : arg17.IsWhole) (arg18 : Memref sig .tc .vmem S64x1024 .bf16) (harg18 : arg18.IsWhole) (arg19 : Memref sig .tc .vmem S64x1024 .bf16) (harg19 : arg19.IsWhole) (arg20 : Memref sig .tc .vmem S64x1024 .f32) (harg20 : arg20.IsWhole) (arg21 : Memref sig .tc .vmem S1x1024 .f32) (harg21 : arg21.IsWhole) (arg22 : Memref sig .tc .vmem S1x1024 .f32) (harg22 : arg22.IsWhole) (v1 : Elt Ideal .i32) (k0_hw1 : k0_chk1 i v1) (v13 : BitVec 32) (v349 : FVec Ideal S64x1 .bf16) (v363 : BitVec 32) (c512_i32_134 : BitVec 32) (v364 : BitVec 32) (v369 : BitVec 32) (v371 : BitVec 32) (X_arg6 : BufTy.Contents (Elt Ideal) arg6.view.ty) (X_arg7 : BufTy.Contents (Elt Ideal) arg7.view.ty) (X_arg9 : BufTy.Contents (Elt Ideal) arg9.view.ty) (X_arg17 : BufTy.Contents (Elt Ideal) arg17.view.ty) (k : Fin (k0_t1_loop v1).trips) (acc : BitVec 32) (f_arg20 : BufTy.Contents (Elt Ideal) arg20.view.ty) (f_arg21 : BufTy.Contents (Elt Ideal) arg21.view.ty) (f_arg22 : BufTy.Contents (Elt Ideal) arg22.view.ty) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v13 v349 v363 c512_i32_134 v364 v369 v371 X_arg6 X_arg7 X_arg9 X_arg17 k acc f_arg20 f_arg21 f_arg22
      = ([⟨Rect.unit (s := S64x1024) ![0, 0] S64x1024.size inb_S64x1024_S64x1024_0_0, k0_pay63 (k0_pay2 (View.readAt (Elt Ideal) arg7.view (Rect.unit (s := S1x2x64x16384) (k0_off4 v1 k) S1x1x64x512.size (k0_off4_inb i v1 k0_hw1 k)).toLoadRect X_arg7) (View.readAt (Elt Ideal) arg9.view (Rect.unit (s := S1x8x16384) (k0_off5 i v1 k) S1x1x512.size (k0_off5_inb i v1 k0_hw1 k)).toLoadRect X_arg9)) (k0_pay5 v1 v349 0#32 1#32 k (View.readAt (Elt Ideal) arg6.view (Rect.unit (s := S1x2x64x16384) (k0_off4 v1 k) S1x1x64x512.size (k0_off4_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21)) (k0_pay6 v1 v349 0#32 1#32 k (View.readAt (Elt Ideal) arg6.view (Rect.unit (s := S1x2x64x16384) (k0_off4 v1 k) S1x1x64x512.size (k0_off4_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21)) (View.readAt (Elt Ideal) arg20.view (Rect.unit (s := S64x1024) ![0, 0] S64x1024.size inb_S64x1024_S64x1024_0_0).toLoadRect f_arg20)⟩],
         [⟨Rect.unit (s := S1x1024) ![0, 0] S1x1024.size inb_S1x1024_S1x1024_0_0, k0_pay61 (k0_pay4 v1 v349 0#32 1#32 k (View.readAt (Elt Ideal) arg6.view (Rect.unit (s := S1x2x64x16384) (k0_off4 v1 k) S1x1x64x512.size (k0_off4_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21))⟩],
         [⟨Rect.unit (s := S1x1024) ![0, 0] S1x1024.size inb_S1x1024_S1x1024_0_0, k0_pay62 (k0_pay5 v1 v349 0#32 1#32 k (View.readAt (Elt Ideal) arg6.view (Rect.unit (s := S1x2x64x16384) (k0_off4 v1 k) S1x1x64x512.size (k0_off4_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21)) (k0_pay6 v1 v349 0#32 1#32 k (View.readAt (Elt Ideal) arg6.view (Rect.unit (s := S1x2x64x16384) (k0_off4 v1 k) S1x1x64x512.size (k0_off4_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21)) (View.readAt (Elt Ideal) arg22.view (Rect.unit (s := S1x1024) ![0, 0] S1x1024.size inb_S1x1024_S1x1024_0_0).toLoadRect f_arg22)⟩]) := by
  unfold tripL_k0_t1 trip_k0_t1
  rfl

/-- What one trip of the loop stores: the new numerator, maximum and denominator, each over its whole buffer. -/
theorem tripB_pieces (𝒱 : Variants) (c : Dev nD) (bd : Option 𝒱.V) (i : grid0.Coords) (arg2 : Memref sig .tc .smem S8 .i32) (harg2 : arg2.IsWhole) (arg3 : Memref sig .tc .vmem S1x2x64x1024 .bf16) (harg3 : arg3.IsWhole) (arg4 : Memref sig .tc .vmem S1x2x64x1024 .bf16) (harg4 : arg4.IsWhole) (arg5 : Memref sig .tc .vmem S1x2x64x1024 .bf16) (harg5 : arg5.IsWhole) (arg6 : Memref sig .tc .vmem S1x2x64x16384 .fp8e4m3) (harg6 : arg6.IsWhole) (arg7 : Memref sig .tc .vmem S1x2x64x16384 .fp8e4m3) (harg7 : arg7.IsWhole) (arg8 : Memref sig .tc .vmem S1x8x64 .f32) (harg8 : arg8.IsWhole) (arg9 : Memref sig .tc .vmem S1x8x16384 .f32) (harg9 : arg9.IsWhole) (arg10 : Memref sig .tc .vmem S1x1024x128 .bf16) (harg10 : arg10.IsWhole) (arg11 : Memref sig .tc .vmem S1x2x64x1024 .fp8e4m3) (harg11 : arg11.IsWhole) (arg12 : Memref sig .tc .vmem S1x8x1024 .f32) (harg12 : arg12.IsWhole) (arg13 : Memref sig .tc .vmem S1x2x64x1024 .fp8e4m3) (harg13 : arg13.IsWhole) (arg14 : Memref sig .tc .vmem S1x8x64 .f32) (harg14 : arg14.IsWhole) (arg15 : Memref sig .tc .vmem S1x2x64x1024 .fp8e4m3) (harg15 : arg15.IsWhole) (arg16 : Memref sig .tc .vmem S1x8x1024 .f32) (harg16 : arg16.IsWhole) (arg17 : Memref sig .tc .vmem S64x1024 .bf16) (harg17 : arg17.IsWhole) (arg18 : Memref sig .tc .vmem S64x1024 .bf16) (harg18 : arg18.IsWhole) (arg19 : Memref sig .tc .vmem S64x1024 .bf16) (harg19 : arg19.IsWhole) (arg20 : Memref sig .tc .vmem S64x1024 .f32) (harg20 : arg20.IsWhole) (arg21 : Memref sig .tc .vmem S1x1024 .f32) (harg21 : arg21.IsWhole) (arg22 : Memref sig .tc .vmem S1x1024 .f32) (harg22 : arg22.IsWhole) (v1 : Elt Ideal .i32) (k0_hw1 : k0_chk1 i v1) (v560 : BitVec 32) (v896 : FVec Ideal S64x1 .bf16) (v911 : BitVec 32) (v922 : BitVec 1) (v924 : BitVec 1) (X_arg6 : BufTy.Contents (Elt Ideal) arg6.view.ty) (X_arg7 : BufTy.Contents (Elt Ideal) arg7.view.ty) (X_arg9 : BufTy.Contents (Elt Ideal) arg9.view.ty) (X_arg17 : BufTy.Contents (Elt Ideal) arg17.view.ty) (k : Fin (k0_t3_loop v1).trips) (acc : BitVec 32) (f_arg20 : BufTy.Contents (Elt Ideal) arg20.view.ty) (f_arg21 : BufTy.Contents (Elt Ideal) arg21.view.ty) (f_arg22 : BufTy.Contents (Elt Ideal) arg22.view.ty) :
    tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v560 v896 v911 v922 v924 X_arg6 X_arg7 X_arg9 X_arg17 k acc f_arg20 f_arg21 f_arg22
      = ([⟨Rect.unit (s := S64x1024) ![0, 0] S64x1024.size inb_S64x1024_S64x1024_0_0, k0_pay136 (k0_pay12 (View.readAt (Elt Ideal) arg7.view (Rect.unit (s := S1x2x64x16384) (k0_off10 v1 k) S1x1x64x512.size (k0_off10_inb i v1 k0_hw1 k)).toLoadRect X_arg7) (View.readAt (Elt Ideal) arg9.view (Rect.unit (s := S1x8x16384) (k0_off11 i v1 k) S1x1x512.size (k0_off11_inb i v1 k0_hw1 k)).toLoadRect X_arg9)) (k0_pay15 v1 v896 0#32 1#32 k (View.readAt (Elt Ideal) arg6.view (Rect.unit (s := S1x2x64x16384) (k0_off10 v1 k) S1x1x64x512.size (k0_off10_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21)) (k0_pay16 v1 v896 0#32 1#32 k (View.readAt (Elt Ideal) arg6.view (Rect.unit (s := S1x2x64x16384) (k0_off10 v1 k) S1x1x64x512.size (k0_off10_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21)) (View.readAt (Elt Ideal) arg20.view (Rect.unit (s := S64x1024) ![0, 0] S64x1024.size inb_S64x1024_S64x1024_0_0).toLoadRect f_arg20)⟩],
         [⟨Rect.unit (s := S1x1024) ![0, 0] S1x1024.size inb_S1x1024_S1x1024_0_0, k0_pay134 (k0_pay14 v1 v896 0#32 1#32 k (View.readAt (Elt Ideal) arg6.view (Rect.unit (s := S1x2x64x16384) (k0_off10 v1 k) S1x1x64x512.size (k0_off10_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21))⟩],
         [⟨Rect.unit (s := S1x1024) ![0, 0] S1x1024.size inb_S1x1024_S1x1024_0_0, k0_pay135 (k0_pay15 v1 v896 0#32 1#32 k (View.readAt (Elt Ideal) arg6.view (Rect.unit (s := S1x2x64x16384) (k0_off10 v1 k) S1x1x64x512.size (k0_off10_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21)) (k0_pay16 v1 v896 0#32 1#32 k (View.readAt (Elt Ideal) arg6.view (Rect.unit (s := S1x2x64x16384) (k0_off10 v1 k) S1x1x64x512.size (k0_off10_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21)) (View.readAt (Elt Ideal) arg22.view (Rect.unit (s := S1x1024) ![0, 0] S1x1024.size inb_S1x1024_S1x1024_0_0).toLoadRect f_arg22)⟩]) := by
  unfold tripL_k0_t3 trip_k0_t3
  rfl

end Cert.KernelIdeal.Gen
-- ==== Proof.KernelIdeal.Loop.lean ====
module

public import proofs.«01_k».proof.Proof.KernelIdeal.Trip
public import Idealize.ShloMosaic.Lib.VecWindow

@[expose] public section

set_option maxRecDepth 16384
set_option maxHeartbeats 400000

/-! The loop over the cached keys: before trip `n` the three scratch buffers stand for the first `512 * n` cached keys. -/

noncomputable section

namespace Cert.KernelIdeal.Gen

open Idealize.ShloMosaic Idealize.SL.Sem

theorem inv_congr {s v : Key → EReal} {J : Finset Key} {m l a m' l' a' : EReal} (h : Attn.Inv s v J m l a) (hm : m' = m) (hl : l' = l) (ha : a' = a) :
    Attn.Inv s v J m' l' a' := by
  rw [hm, hl, ha]; exact h

/-- One trip of the loop over the cached keys, for one query. -/
theorem step_old (T : ℕ) (hT : 512 * (T + 1) ≤ 16384) (q : Fin 1024) {s v : Key → EReal} {m l a : EReal} (h : Attn.Inv s v (met T 0 q) m l a)
    (S V : Fin 512 → EReal) (hs : ∀ (i : Fin 512) (p : Fin 16384), p.val = 512 * T + i.val → S i = s (Sum.inl p))
    (hv : ∀ (i : Fin 512) (p : Fin 16384), p.val = 512 * T + i.val → V i = v (Sum.inl p)) :
    Attn.Inv s v (met (T + 1) 0 q) (mNew m S) (lNew m l S) (aNew m a S V) := by
  refine step_block h (fun i : Fin 512 => Sum.inl ⟨512 * T + i.val, by omega⟩) ?_ ?_ ?_ _ _ (fun i => hs i _ rfl) (fun i => hv i _ rfl)
  · intro a b hab
    have h2 : 512 * T + a.val = 512 * T + b.val := congrArg Fin.val (Sum.inl.inj hab)
    exact Fin.ext (by omega)
  · intro i hi
    have h3 : 512 * T + i.val < 512 * T := (mem_met_inl T 0 q _).1 hi
    omega
  · intro k
    cases k with
    | inr i =>
      rw [mem_met_inr, mem_met_inr]
      constructor
      · exact fun h => absurd h.1 (by omega)
      · rintro (h | ⟨r, hr⟩)
        · exact absurd h.1 (by omega)
        · cases hr
    | inl i =>
      rw [mem_met_inl, mem_met_inl]
      constructor
      · intro hi
        by_cases h2 : i.val < 512 * T
        · exact Or.inl h2
        · exact Or.inr ⟨⟨i.val - 512 * T, by omega⟩, congrArg Sum.inl (Fin.ext (by show 512 * T + (i.val - 512 * T) = i.val; omega))⟩
      · rintro (h2 | ⟨r, hr⟩)
        · omega
        · have : 512 * T + r.val = i.val := congrArg Fin.val (Sum.inl.inj hr)
          omega

/-- One trip keeps the scratch buffers standing for the keys met. -/
theorem tripA_step (𝒱 : Variants) (c : Dev nD) (bd : Option 𝒱.V) (i : grid0.Coords) (arg2 : Memref sig .tc .smem S8 .i32) (harg2 : arg2.IsWhole) (arg3 : Memref sig .tc .vmem S1x2x64x1024 .bf16) (harg3 : arg3.IsWhole) (arg4 : Memref sig .tc .vmem S1x2x64x1024 .bf16) (harg4 : arg4.IsWhole) (arg5 : Memref sig .tc .vmem S1x2x64x1024 .bf16) (harg5 : arg5.IsWhole) (arg6 : Memref sig .tc .vmem S1x2x64x16384 .fp8e4m3) (harg6 : arg6.IsWhole) (arg7 : Memref sig .tc .vmem S1x2x64x16384 .fp8e4m3) (harg7 : arg7.IsWhole) (arg8 : Memref sig .tc .vmem S1x8x64 .f32) (harg8 : arg8.IsWhole) (arg9 : Memref sig .tc .vmem S1x8x16384 .f32) (harg9 : arg9.IsWhole) (arg10 : Memref sig .tc .vmem S1x1024x128 .bf16) (harg10 : arg10.IsWhole) (arg11 : Memref sig .tc .vmem S1x2x64x1024 .fp8e4m3) (harg11 : arg11.IsWhole) (arg12 : Memref sig .tc .vmem S1x8x1024 .f32) (harg12 : arg12.IsWhole) (arg13 : Memref sig .tc .vmem S1x2x64x1024 .fp8e4m3) (harg13 : arg13.IsWhole) (arg14 : Memref sig .tc .vmem S1x8x64 .f32) (harg14 : arg14.IsWhole) (arg15 : Memref sig .tc .vmem S1x2x64x1024 .fp8e4m3) (harg15 : arg15.IsWhole) (arg16 : Memref sig .tc .vmem S1x8x1024 .f32) (harg16 : arg16.IsWhole) (arg17 : Memref sig .tc .vmem S64x1024 .bf16) (harg17 : arg17.IsWhole) (arg18 : Memref sig .tc .vmem S64x1024 .bf16) (harg18 : arg18.IsWhole) (arg19 : Memref sig .tc .vmem S64x1024 .bf16) (harg19 : arg19.IsWhole) (arg20 : Memref sig .tc .vmem S64x1024 .f32) (harg20 : arg20.IsWhole) (arg21 : Memref sig .tc .vmem S1x1024 .f32) (harg21 : arg21.IsWhole) (arg22 : Memref sig .tc .vmem S1x1024 .f32) (harg22 : arg22.IsWhole) (v1 : Elt Ideal .i32) (k0_hw1 : k0_chk1 i v1) (v13 : BitVec 32) (v349 : FVec Ideal S64x1 .bf16) (v363 : BitVec 32) (c512_i32_134 : BitVec 32) (v364 : BitVec 32) (v369 : BitVec 32) (v371 : BitVec 32) (X_arg6 : BufTy.Contents (Elt Ideal) arg6.view.ty) (X_arg7 : BufTy.Contents (Elt Ideal) arg7.view.ty) (X_arg9 : BufTy.Contents (Elt Ideal) arg9.view.ty) (X_arg17 : BufTy.Contents (Elt Ideal) arg17.view.ty) (k : Fin (k0_t1_loop v1).trips) (acc : BitVec 32) (f_arg20 : BufTy.Contents (Elt Ideal) arg20.view.ty) (f_arg21 : BufTy.Contents (Elt Ideal) arg21.view.ty) (f_arg22 : BufTy.Contents (Elt Ideal) arg22.view.ty) (hT : (k0_t1_loop v1).trips ≤ 32)
    (s : Fin 1024 → Key → EReal) (v : Fin 64 → Key → EReal)
    (hs : ∀ (k : Fin (k0_t1_loop v1).trips) (q : Fin 1024) (i' : Fin 512) (p : Fin 16384), p.val = 512 * k.val + i'.val →
      sOld v1 k.val (fun x b => (View.readAt (Elt Ideal) arg6.view (Rect.unit (s := S1x2x64x16384) (k0_off4 v1 k) S1x1x64x512.size (k0_off4_inb i v1 k0_hw1 k)).toLoadRect X_arg6) (ix4 0 0 x b)) (fun x => v349 (ix2 x 0)) (fun x => (View.readAt (Elt Ideal) arg17.view (Rect.unit (s := S64x1024) ![0, 0] S64x1024.size inb_S64x1024_S64x1024_0_0).toLoadRect X_arg17) (ix2 x q)) i' = s q (Sum.inl p))
    (hv : ∀ (k : Fin (k0_t1_loop v1).trips) (d : Fin 64) (i' : Fin 512) (p : Fin 16384), p.val = 512 * k.val + i'.val →
      (View.readAt (Elt Ideal) arg7.view (Rect.unit (s := S1x2x64x16384) (k0_off4 v1 k) S1x1x64x512.size (k0_off4_inb i v1 k0_hw1 k)).toLoadRect X_arg7) (ix4 0 0 d i') * (View.readAt (Elt Ideal) arg9.view (Rect.unit (s := S1x8x16384) (k0_off5 i v1 k) S1x1x512.size (k0_off5_inb i v1 k0_hw1 k)).toLoadRect X_arg9) (ix3 0 0 i') = v d (Sum.inl p))
    (h : ∀ q d, Attn.Inv (s q) (v d) (met k.val 0 q) (arg21.view.read (Elt Ideal) f_arg21 (ix2 0 q)) (arg22.view.read (Elt Ideal) f_arg22 (ix2 0 q)) (arg20.view.read (Elt Ideal) f_arg20 (ix2 d q)))
    (q : Fin 1024) (d : Fin 64) :
    Attn.Inv (s q) (v d) (met (k.val + 1) 0 q) ((arg21.view.read (Elt Ideal) (arg21.view.writes (Elt Ideal) f_arg21 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v13 v349 v363 c512_i32_134 v364 v369 v371 X_arg6 X_arg7 X_arg9 X_arg17 k acc f_arg20 f_arg21 f_arg22).2.1)) (ix2 0 q)) ((arg22.view.read (Elt Ideal) (arg22.view.writes (Elt Ideal) f_arg22 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v13 v349 v363 c512_i32_134 v364 v369 v371 X_arg6 X_arg7 X_arg9 X_arg17 k acc f_arg20 f_arg21 f_arg22).2.2)) (ix2 0 q)) ((arg20.view.read (Elt Ideal) (arg20.view.writes (Elt Ideal) f_arg20 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v13 v349 v363 c512_i32_134 v364 v369 v371 X_arg6 X_arg7 X_arg9 X_arg17 k acc f_arg20 f_arg21 f_arg22).1)) (ix2 d q)) := by
  have hm : (View.readAt (Elt Ideal) arg21.view (Rect.unit (s := S1x1024) ![0, 0] S1x1024.size inb_S1x1024_S1x1024_0_0).toLoadRect f_arg21) (ix2 0 q) = arg21.view.read (Elt Ideal) f_arg21 (ix2 0 q) := congrFun (View.readAt_full (Val := Elt Ideal) arg21.view f_arg21 _) _
  have hl : (View.readAt (Elt Ideal) arg22.view (Rect.unit (s := S1x1024) ![0, 0] S1x1024.size inb_S1x1024_S1x1024_0_0).toLoadRect f_arg22) (ix2 0 q) = arg22.view.read (Elt Ideal) f_arg22 (ix2 0 q) := congrFun (View.readAt_full (Val := Elt Ideal) arg22.view f_arg22 _) _
  have ha : (View.readAt (Elt Ideal) arg20.view (Rect.unit (s := S64x1024) ![0, 0] S64x1024.size inb_S64x1024_S64x1024_0_0).toLoadRect f_arg20) (ix2 d q) = arg20.view.read (Elt Ideal) f_arg20 (ix2 d q) := congrFun (View.readAt_full (Val := Elt Ideal) arg20.view f_arg20 _) _
  have hk := k.isLt
  rw [tripA_pieces]
  have e21 := (congrFun (View.read_writes_full (Val := Elt Ideal) arg21.view f_arg21 inb_S1x1024_S1x1024_0_0 (k0_pay61 (k0_pay4 v1 v349 0#32 1#32 k (View.readAt (Elt Ideal) arg6.view (Rect.unit (s := S1x2x64x16384) (k0_off4 v1 k) S1x1x64x512.size (k0_off4_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21))) []) (ix2 0 q)).trans (mAold v1 v349 k (View.readAt (Elt Ideal) arg6.view (Rect.unit (s := S1x2x64x16384) (k0_off4 v1 k) S1x1x64x512.size (k0_off4_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21) (View.readAt (Elt Ideal) arg22.view (Rect.unit (s := S1x1024) ![0, 0] S1x1024.size inb_S1x1024_S1x1024_0_0).toLoadRect f_arg22) (View.readAt (Elt Ideal) arg20.view (Rect.unit (s := S64x1024) ![0, 0] S64x1024.size inb_S64x1024_S64x1024_0_0).toLoadRect f_arg20) (View.readAt (Elt Ideal) arg7.view (Rect.unit (s := S1x2x64x16384) (k0_off4 v1 k) S1x1x64x512.size (k0_off4_inb i v1 k0_hw1 k)).toLoadRect X_arg7) (View.readAt (Elt Ideal) arg9.view (Rect.unit (s := S1x8x16384) (k0_off5 i v1 k) S1x1x512.size (k0_off5_inb i v1 k0_hw1 k)).toLoadRect X_arg9) q)
  have e22 := (congrFun (View.read_writes_full (Val := Elt Ideal) arg22.view f_arg22 inb_S1x1024_S1x1024_0_0 (k0_pay62 (k0_pay5 v1 v349 0#32 1#32 k (View.readAt (Elt Ideal) arg6.view (Rect.unit (s := S1x2x64x16384) (k0_off4 v1 k) S1x1x64x512.size (k0_off4_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21)) (k0_pay6 v1 v349 0#32 1#32 k (View.readAt (Elt Ideal) arg6.view (Rect.unit (s := S1x2x64x16384) (k0_off4 v1 k) S1x1x64x512.size (k0_off4_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21)) (View.readAt (Elt Ideal) arg22.view (Rect.unit (s := S1x1024) ![0, 0] S1x1024.size inb_S1x1024_S1x1024_0_0).toLoadRect f_arg22)) []) (ix2 0 q)).trans (lAold v1 v349 k (View.readAt (Elt Ideal) arg6.view (Rect.unit (s := S1x2x64x16384) (k0_off4 v1 k) S1x1x64x512.size (k0_off4_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21) (View.readAt (Elt Ideal) arg22.view (Rect.unit (s := S1x1024) ![0, 0] S1x1024.size inb_S1x1024_S1x1024_0_0).toLoadRect f_arg22) (View.readAt (Elt Ideal) arg20.view (Rect.unit (s := S64x1024) ![0, 0] S64x1024.size inb_S64x1024_S64x1024_0_0).toLoadRect f_arg20) (View.readAt (Elt Ideal) arg7.view (Rect.unit (s := S1x2x64x16384) (k0_off4 v1 k) S1x1x64x512.size (k0_off4_inb i v1 k0_hw1 k)).toLoadRect X_arg7) (View.readAt (Elt Ideal) arg9.view (Rect.unit (s := S1x8x16384) (k0_off5 i v1 k) S1x1x512.size (k0_off5_inb i v1 k0_hw1 k)).toLoadRect X_arg9) q)
  have e20 := (congrFun (View.read_writes_full (Val := Elt Ideal) arg20.view f_arg20 inb_S64x1024_S64x1024_0_0 (k0_pay63 (k0_pay2 (View.readAt (Elt Ideal) arg7.view (Rect.unit (s := S1x2x64x16384) (k0_off4 v1 k) S1x1x64x512.size (k0_off4_inb i v1 k0_hw1 k)).toLoadRect X_arg7) (View.readAt (Elt Ideal) arg9.view (Rect.unit (s := S1x8x16384) (k0_off5 i v1 k) S1x1x512.size (k0_off5_inb i v1 k0_hw1 k)).toLoadRect X_arg9)) (k0_pay5 v1 v349 0#32 1#32 k (View.readAt (Elt Ideal) arg6.view (Rect.unit (s := S1x2x64x16384) (k0_off4 v1 k) S1x1x64x512.size (k0_off4_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21)) (k0_pay6 v1 v349 0#32 1#32 k (View.readAt (Elt Ideal) arg6.view (Rect.unit (s := S1x2x64x16384) (k0_off4 v1 k) S1x1x64x512.size (k0_off4_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21)) (View.readAt (Elt Ideal) arg20.view (Rect.unit (s := S64x1024) ![0, 0] S64x1024.size inb_S64x1024_S64x1024_0_0).toLoadRect f_arg20)) []) (ix2 d q)).trans (aAold v1 v349 k (View.readAt (Elt Ideal) arg6.view (Rect.unit (s := S1x2x64x16384) (k0_off4 v1 k) S1x1x64x512.size (k0_off4_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21) (View.readAt (Elt Ideal) arg22.view (Rect.unit (s := S1x1024) ![0, 0] S1x1024.size inb_S1x1024_S1x1024_0_0).toLoadRect f_arg22) (View.readAt (Elt Ideal) arg20.view (Rect.unit (s := S64x1024) ![0, 0] S64x1024.size inb_S64x1024_S64x1024_0_0).toLoadRect f_arg20) (View.readAt (Elt Ideal) arg7.view (Rect.unit (s := S1x2x64x16384) (k0_off4 v1 k) S1x1x64x512.size (k0_off4_inb i v1 k0_hw1 k)).toLoadRect X_arg7) (View.readAt (Elt Ideal) arg9.view (Rect.unit (s := S1x8x16384) (k0_off5 i v1 k) S1x1x512.size (k0_off5_inb i v1 k0_hw1 k)).toLoadRect X_arg9) d q)
  have hstep := step_old k.val (by omega) q (h q d) _ _ (fun i' p hp => hs k q i' p hp) (fun i' p hp => hv k d i' p hp)
  refine inv_congr hstep (e21.trans ?_) (e22.trans ?_) (e20.trans ?_)
  · exact congrArg (fun z => mNew z _) hm
  · exact congrArg₂ (fun z w => lNew z w _) hm hl
  · exact congrArg₂ (fun z w => aNew z w _ _) hm ha

/-- Before trip `n` the scratch buffers stand for the cached keys of the trips before. -/
theorem loopA_inv (𝒱 : Variants) (c : Dev nD) (bd : Option 𝒱.V) (i : grid0.Coords) (arg2 : Memref sig .tc .smem S8 .i32) (harg2 : arg2.IsWhole) (arg3 : Memref sig .tc .vmem S1x2x64x1024 .bf16) (harg3 : arg3.IsWhole) (arg4 : Memref sig .tc .vmem S1x2x64x1024 .bf16) (harg4 : arg4.IsWhole) (arg5 : Memref sig .tc .vmem S1x2x64x1024 .bf16) (harg5 : arg5.IsWhole) (arg6 : Memref sig .tc .vmem S1x2x64x16384 .fp8e4m3) (harg6 : arg6.IsWhole) (arg7 : Memref sig .tc .vmem S1x2x64x16384 .fp8e4m3) (harg7 : arg7.IsWhole) (arg8 : Memref sig .tc .vmem S1x8x64 .f32) (harg8 : arg8.IsWhole) (arg9 : Memref sig .tc .vmem S1x8x16384 .f32) (harg9 : arg9.IsWhole) (arg10 : Memref sig .tc .vmem S1x1024x128 .bf16) (harg10 : arg10.IsWhole) (arg11 : Memref sig .tc .vmem S1x2x64x1024 .fp8e4m3) (harg11 : arg11.IsWhole) (arg12 : Memref sig .tc .vmem S1x8x1024 .f32) (harg12 : arg12.IsWhole) (arg13 : Memref sig .tc .vmem S1x2x64x1024 .fp8e4m3) (harg13 : arg13.IsWhole) (arg14 : Memref sig .tc .vmem S1x8x64 .f32) (harg14 : arg14.IsWhole) (arg15 : Memref sig .tc .vmem S1x2x64x1024 .fp8e4m3) (harg15 : arg15.IsWhole) (arg16 : Memref sig .tc .vmem S1x8x1024 .f32) (harg16 : arg16.IsWhole) (arg17 : Memref sig .tc .vmem S64x1024 .bf16) (harg17 : arg17.IsWhole) (arg18 : Memref sig .tc .vmem S64x1024 .bf16) (harg18 : arg18.IsWhole) (arg19 : Memref sig .tc .vmem S64x1024 .bf16) (harg19 : arg19.IsWhole) (arg20 : Memref sig .tc .vmem S64x1024 .f32) (harg20 : arg20.IsWhole) (arg21 : Memref sig .tc .vmem S1x1024 .f32) (harg21 : arg21.IsWhole) (arg22 : Memref sig .tc .vmem S1x1024 .f32) (harg22 : arg22.IsWhole) (v1 : Elt Ideal .i32) (k0_hw1 : k0_chk1 i v1) (v13 : BitVec 32) (v349 : FVec Ideal S64x1 .bf16) (v363 : BitVec 32) (c512_i32_134 : BitVec 32) (v364 : BitVec 32) (v369 : BitVec 32) (v371 : BitVec 32) (X_arg6 : BufTy.Contents (Elt Ideal) arg6.view.ty) (X_arg7 : BufTy.Contents (Elt Ideal) arg7.view.ty) (X_arg9 : BufTy.Contents (Elt Ideal) arg9.view.ty) (X_arg17 : BufTy.Contents (Elt Ideal) arg17.view.ty) (G_arg20 : BufTy.Contents (Elt Ideal) arg20.view.ty) (G_arg21 : BufTy.Contents (Elt Ideal) arg21.view.ty) (G_arg22 : BufTy.Contents (Elt Ideal) arg22.view.ty) (init : BitVec 32) (hT : (k0_t1_loop v1).trips ≤ 32)
    (s : Fin 1024 → Key → EReal) (v : Fin 64 → Key → EReal)
    (hs : ∀ (k : Fin (k0_t1_loop v1).trips) (q : Fin 1024) (i' : Fin 512) (p : Fin 16384), p.val = 512 * k.val + i'.val →
      sOld v1 k.val (fun x b => (View.readAt (Elt Ideal) arg6.view (Rect.unit (s := S1x2x64x16384) (k0_off4 v1 k) S1x1x64x512.size (k0_off4_inb i v1 k0_hw1 k)).toLoadRect X_arg6) (ix4 0 0 x b)) (fun x => v349 (ix2 x 0)) (fun x => (View.readAt (Elt Ideal) arg17.view (Rect.unit (s := S64x1024) ![0, 0] S64x1024.size inb_S64x1024_S64x1024_0_0).toLoadRect X_arg17) (ix2 x q)) i' = s q (Sum.inl p))
    (hv : ∀ (k : Fin (k0_t1_loop v1).trips) (d : Fin 64) (i' : Fin 512) (p : Fin 16384), p.val = 512 * k.val + i'.val →
      (View.readAt (Elt Ideal) arg7.view (Rect.unit (s := S1x2x64x16384) (k0_off4 v1 k) S1x1x64x512.size (k0_off4_inb i v1 k0_hw1 k)).toLoadRect X_arg7) (ix4 0 0 d i') * (View.readAt (Elt Ideal) arg9.view (Rect.unit (s := S1x8x16384) (k0_off5 i v1 k) S1x1x512.size (k0_off5_inb i v1 k0_hw1 k)).toLoadRect X_arg9) (ix3 0 0 i') = v d (Sum.inl p))
    (h0 : ∀ q d, Attn.Inv (s q) (v d) (met 0 0 q) (arg21.view.read (Elt Ideal) G_arg21 (ix2 0 q)) (arg22.view.read (Elt Ideal) G_arg22 (ix2 0 q)) (arg20.view.read (Elt Ideal) G_arg20 (ix2 d q)))
    (n : ℕ) (hn : n ≤ (k0_t1_loop v1).trips) (q : Fin 1024) (d : Fin 64) :
    Attn.Inv (s q) (v d) (met n 0 q)
        (arg21.view.read (Elt Ideal) (arg21.view.writes (Elt Ideal) G_arg21 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v13 v349 v363 c512_i32_134 v364 v369 v371 X_arg6 X_arg7 X_arg9 X_arg17 G_arg20 G_arg21 G_arg22 init n).2.2.1) (ix2 0 q))
        (arg22.view.read (Elt Ideal) (arg22.view.writes (Elt Ideal) G_arg22 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v13 v349 v363 c512_i32_134 v364 v369 v371 X_arg6 X_arg7 X_arg9 X_arg17 G_arg20 G_arg21 G_arg22 init n).2.2.2) (ix2 0 q))
        (arg20.view.read (Elt Ideal) (arg20.view.writes (Elt Ideal) G_arg20 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v13 v349 v363 c512_i32_134 v364 v369 v371 X_arg6 X_arg7 X_arg9 X_arg17 G_arg20 G_arg21 G_arg22 init n).2.1) (ix2 d q)) := by
  induction n generalizing q d with
  | zero => exact h0 q d
  | succ n ih =>
    have hprev := ih (by omega)
    have key : ∀ P', P' = (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v13 v349 v363 c512_i32_134 v364 v369 v371 X_arg6 X_arg7 X_arg9 X_arg17 G_arg20 G_arg21 G_arg22 init n) → ∀ P, P = (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v13 v349 v363 c512_i32_134 v364 v369 v371 X_arg6 X_arg7 X_arg9 X_arg17 G_arg20 G_arg21 G_arg22 init ((⟨n, hn⟩ : Fin (k0_t1_loop v1).trips).val + 1)) →
      Attn.Inv (s q) (v d) (met (n + 1) 0 q)
        (arg21.view.read (Elt Ideal) (arg21.view.writes (Elt Ideal) G_arg21 P.2.2.1) (ix2 0 q))
        (arg22.view.read (Elt Ideal) (arg22.view.writes (Elt Ideal) G_arg22 P.2.2.2) (ix2 0 q))
        (arg20.view.read (Elt Ideal) (arg20.view.writes (Elt Ideal) G_arg20 P.2.1) (ix2 d q)) := by
      intro P' hP' P hP
      rw [st_k0_t1_succ] at hP
      rw [← hP'] at hprev
      dsimp only at hP
      rw [← hP'] at hP
      subst hP
      dsimp only
      rw [View.writes_append, View.writes_append, View.writes_append]
      exact tripA_step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v13 v349 v363 c512_i32_134 v364 v369 v371 X_arg6 X_arg7 X_arg9 X_arg17 ⟨n, hn⟩ P'.1 (arg20.view.writes (Elt Ideal) G_arg20 P'.2.1) (arg21.view.writes (Elt Ideal) G_arg21 P'.2.2.1) (arg22.view.writes (Elt Ideal) G_arg22 P'.2.2.2) hT s v hs hv hprev q d
    exact key _ rfl _ rfl

/-- One trip keeps the scratch buffers standing for the keys met. -/
theorem tripB_step (𝒱 : Variants) (c : Dev nD) (bd : Option 𝒱.V) (i : grid0.Coords) (arg2 : Memref sig .tc .smem S8 .i32) (harg2 : arg2.IsWhole) (arg3 : Memref sig .tc .vmem S1x2x64x1024 .bf16) (harg3 : arg3.IsWhole) (arg4 : Memref sig .tc .vmem S1x2x64x1024 .bf16) (harg4 : arg4.IsWhole) (arg5 : Memref sig .tc .vmem S1x2x64x1024 .bf16) (harg5 : arg5.IsWhole) (arg6 : Memref sig .tc .vmem S1x2x64x16384 .fp8e4m3) (harg6 : arg6.IsWhole) (arg7 : Memref sig .tc .vmem S1x2x64x16384 .fp8e4m3) (harg7 : arg7.IsWhole) (arg8 : Memref sig .tc .vmem S1x8x64 .f32) (harg8 : arg8.IsWhole) (arg9 : Memref sig .tc .vmem S1x8x16384 .f32) (harg9 : arg9.IsWhole) (arg10 : Memref sig .tc .vmem S1x1024x128 .bf16) (harg10 : arg10.IsWhole) (arg11 : Memref sig .tc .vmem S1x2x64x1024 .fp8e4m3) (harg11 : arg11.IsWhole) (arg12 : Memref sig .tc .vmem S1x8x1024 .f32) (harg12 : arg12.IsWhole) (arg13 : Memref sig .tc .vmem S1x2x64x1024 .fp8e4m3) (harg13 : arg13.IsWhole) (arg14 : Memref sig .tc .vmem S1x8x64 .f32) (harg14 : arg14.IsWhole) (arg15 : Memref sig .tc .vmem S1x2x64x1024 .fp8e4m3) (harg15 : arg15.IsWhole) (arg16 : Memref sig .tc .vmem S1x8x1024 .f32) (harg16 : arg16.IsWhole) (arg17 : Memref sig .tc .vmem S64x1024 .bf16) (harg17 : arg17.IsWhole) (arg18 : Memref sig .tc .vmem S64x1024 .bf16) (harg18 : arg18.IsWhole) (arg19 : Memref sig .tc .vmem S64x1024 .bf16) (harg19 : arg19.IsWhole) (arg20 : Memref sig .tc .vmem S64x1024 .f32) (harg20 : arg20.IsWhole) (arg21 : Memref sig .tc .vmem S1x1024 .f32) (harg21 : arg21.IsWhole) (arg22 : Memref sig .tc .vmem S1x1024 .f32) (harg22 : arg22.IsWhole) (v1 : Elt Ideal .i32) (k0_hw1 : k0_chk1 i v1) (v560 : BitVec 32) (v896 : FVec Ideal S64x1 .bf16) (v911 : BitVec 32) (v922 : BitVec 1) (v924 : BitVec 1) (X_arg6 : BufTy.Contents (Elt Ideal) arg6.view.ty) (X_arg7 : BufTy.Contents (Elt Ideal) arg7.view.ty) (X_arg9 : BufTy.Contents (Elt Ideal) arg9.view.ty) (X_arg17 : BufTy.Contents (Elt Ideal) arg17.view.ty) (k : Fin (k0_t3_loop v1).trips) (acc : BitVec 32) (f_arg20 : BufTy.Contents (Elt Ideal) arg20.view.ty) (f_arg21 : BufTy.Contents (Elt Ideal) arg21.view.ty) (f_arg22 : BufTy.Contents (Elt Ideal) arg22.view.ty) (hT : (k0_t3_loop v1).trips ≤ 32)
    (s : Fin 1024 → Key → EReal) (v : Fin 64 → Key → EReal)
    (hs : ∀ (k : Fin (k0_t3_loop v1).trips) (q : Fin 1024) (i' : Fin 512) (p : Fin 16384), p.val = 512 * k.val + i'.val →
      sOld v1 k.val (fun x b => (View.readAt (Elt Ideal) arg6.view (Rect.unit (s := S1x2x64x16384) (k0_off10 v1 k) S1x1x64x512.size (k0_off10_inb i v1 k0_hw1 k)).toLoadRect X_arg6) (ix4 0 0 x b)) (fun x => v896 (ix2 x 0)) (fun x => (View.readAt (Elt Ideal) arg17.view (Rect.unit (s := S64x1024) ![0, 0] S64x1024.size inb_S64x1024_S64x1024_0_0).toLoadRect X_arg17) (ix2 x q)) i' = s q (Sum.inl p))
    (hv : ∀ (k : Fin (k0_t3_loop v1).trips) (d : Fin 64) (i' : Fin 512) (p : Fin 16384), p.val = 512 * k.val + i'.val →
      (View.readAt (Elt Ideal) arg7.view (Rect.unit (s := S1x2x64x16384) (k0_off10 v1 k) S1x1x64x512.size (k0_off10_inb i v1 k0_hw1 k)).toLoadRect X_arg7) (ix4 0 0 d i') * (View.readAt (Elt Ideal) arg9.view (Rect.unit (s := S1x8x16384) (k0_off11 i v1 k) S1x1x512.size (k0_off11_inb i v1 k0_hw1 k)).toLoadRect X_arg9) (ix3 0 0 i') = v d (Sum.inl p))
    (h : ∀ q d, Attn.Inv (s q) (v d) (met k.val 0 q) (arg21.view.read (Elt Ideal) f_arg21 (ix2 0 q)) (arg22.view.read (Elt Ideal) f_arg22 (ix2 0 q)) (arg20.view.read (Elt Ideal) f_arg20 (ix2 d q)))
    (q : Fin 1024) (d : Fin 64) :
    Attn.Inv (s q) (v d) (met (k.val + 1) 0 q) ((arg21.view.read (Elt Ideal) (arg21.view.writes (Elt Ideal) f_arg21 (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v560 v896 v911 v922 v924 X_arg6 X_arg7 X_arg9 X_arg17 k acc f_arg20 f_arg21 f_arg22).2.1)) (ix2 0 q)) ((arg22.view.read (Elt Ideal) (arg22.view.writes (Elt Ideal) f_arg22 (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v560 v896 v911 v922 v924 X_arg6 X_arg7 X_arg9 X_arg17 k acc f_arg20 f_arg21 f_arg22).2.2)) (ix2 0 q)) ((arg20.view.read (Elt Ideal) (arg20.view.writes (Elt Ideal) f_arg20 (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v560 v896 v911 v922 v924 X_arg6 X_arg7 X_arg9 X_arg17 k acc f_arg20 f_arg21 f_arg22).1)) (ix2 d q)) := by
  have hm : (View.readAt (Elt Ideal) arg21.view (Rect.unit (s := S1x1024) ![0, 0] S1x1024.size inb_S1x1024_S1x1024_0_0).toLoadRect f_arg21) (ix2 0 q) = arg21.view.read (Elt Ideal) f_arg21 (ix2 0 q) := congrFun (View.readAt_full (Val := Elt Ideal) arg21.view f_arg21 _) _
  have hl : (View.readAt (Elt Ideal) arg22.view (Rect.unit (s := S1x1024) ![0, 0] S1x1024.size inb_S1x1024_S1x1024_0_0).toLoadRect f_arg22) (ix2 0 q) = arg22.view.read (Elt Ideal) f_arg22 (ix2 0 q) := congrFun (View.readAt_full (Val := Elt Ideal) arg22.view f_arg22 _) _
  have ha : (View.readAt (Elt Ideal) arg20.view (Rect.unit (s := S64x1024) ![0, 0] S64x1024.size inb_S64x1024_S64x1024_0_0).toLoadRect f_arg20) (ix2 d q) = arg20.view.read (Elt Ideal) f_arg20 (ix2 d q) := congrFun (View.readAt_full (Val := Elt Ideal) arg20.view f_arg20 _) _
  have hk := k.isLt
  rw [tripB_pieces]
  have e21 := (congrFun (View.read_writes_full (Val := Elt Ideal) arg21.view f_arg21 inb_S1x1024_S1x1024_0_0 (k0_pay134 (k0_pay14 v1 v896 0#32 1#32 k (View.readAt (Elt Ideal) arg6.view (Rect.unit (s := S1x2x64x16384) (k0_off10 v1 k) S1x1x64x512.size (k0_off10_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21))) []) (ix2 0 q)).trans (mBold v1 v896 k (View.readAt (Elt Ideal) arg6.view (Rect.unit (s := S1x2x64x16384) (k0_off10 v1 k) S1x1x64x512.size (k0_off10_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21) (View.readAt (Elt Ideal) arg22.view (Rect.unit (s := S1x1024) ![0, 0] S1x1024.size inb_S1x1024_S1x1024_0_0).toLoadRect f_arg22) (View.readAt (Elt Ideal) arg20.view (Rect.unit (s := S64x1024) ![0, 0] S64x1024.size inb_S64x1024_S64x1024_0_0).toLoadRect f_arg20) (View.readAt (Elt Ideal) arg7.view (Rect.unit (s := S1x2x64x16384) (k0_off10 v1 k) S1x1x64x512.size (k0_off10_inb i v1 k0_hw1 k)).toLoadRect X_arg7) (View.readAt (Elt Ideal) arg9.view (Rect.unit (s := S1x8x16384) (k0_off11 i v1 k) S1x1x512.size (k0_off11_inb i v1 k0_hw1 k)).toLoadRect X_arg9) q)
  have e22 := (congrFun (View.read_writes_full (Val := Elt Ideal) arg22.view f_arg22 inb_S1x1024_S1x1024_0_0 (k0_pay135 (k0_pay15 v1 v896 0#32 1#32 k (View.readAt (Elt Ideal) arg6.view (Rect.unit (s := S1x2x64x16384) (k0_off10 v1 k) S1x1x64x512.size (k0_off10_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21)) (k0_pay16 v1 v896 0#32 1#32 k (View.readAt (Elt Ideal) arg6.view (Rect.unit (s := S1x2x64x16384) (k0_off10 v1 k) S1x1x64x512.size (k0_off10_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21)) (View.readAt (Elt Ideal) arg22.view (Rect.unit (s := S1x1024) ![0, 0] S1x1024.size inb_S1x1024_S1x1024_0_0).toLoadRect f_arg22)) []) (ix2 0 q)).trans (lBold v1 v896 k (View.readAt (Elt Ideal) arg6.view (Rect.unit (s := S1x2x64x16384) (k0_off10 v1 k) S1x1x64x512.size (k0_off10_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21) (View.readAt (Elt Ideal) arg22.view (Rect.unit (s := S1x1024) ![0, 0] S1x1024.size inb_S1x1024_S1x1024_0_0).toLoadRect f_arg22) (View.readAt (Elt Ideal) arg20.view (Rect.unit (s := S64x1024) ![0, 0] S64x1024.size inb_S64x1024_S64x1024_0_0).toLoadRect f_arg20) (View.readAt (Elt Ideal) arg7.view (Rect.unit (s := S1x2x64x16384) (k0_off10 v1 k) S1x1x64x512.size (k0_off10_inb i v1 k0_hw1 k)).toLoadRect X_arg7) (View.readAt (Elt Ideal) arg9.view (Rect.unit (s := S1x8x16384) (k0_off11 i v1 k) S1x1x512.size (k0_off11_inb i v1 k0_hw1 k)).toLoadRect X_arg9) q)
  have e20 := (congrFun (View.read_writes_full (Val := Elt Ideal) arg20.view f_arg20 inb_S64x1024_S64x1024_0_0 (k0_pay136 (k0_pay12 (View.readAt (Elt Ideal) arg7.view (Rect.unit (s := S1x2x64x16384) (k0_off10 v1 k) S1x1x64x512.size (k0_off10_inb i v1 k0_hw1 k)).toLoadRect X_arg7) (View.readAt (Elt Ideal) arg9.view (Rect.unit (s := S1x8x16384) (k0_off11 i v1 k) S1x1x512.size (k0_off11_inb i v1 k0_hw1 k)).toLoadRect X_arg9)) (k0_pay15 v1 v896 0#32 1#32 k (View.readAt (Elt Ideal) arg6.view (Rect.unit (s := S1x2x64x16384) (k0_off10 v1 k) S1x1x64x512.size (k0_off10_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21)) (k0_pay16 v1 v896 0#32 1#32 k (View.readAt (Elt Ideal) arg6.view (Rect.unit (s := S1x2x64x16384) (k0_off10 v1 k) S1x1x64x512.size (k0_off10_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21)) (View.readAt (Elt Ideal) arg20.view (Rect.unit (s := S64x1024) ![0, 0] S64x1024.size inb_S64x1024_S64x1024_0_0).toLoadRect f_arg20)) []) (ix2 d q)).trans (aBold v1 v896 k (View.readAt (Elt Ideal) arg6.view (Rect.unit (s := S1x2x64x16384) (k0_off10 v1 k) S1x1x64x512.size (k0_off10_inb i v1 k0_hw1 k)).toLoadRect X_arg6) (View.readAt (Elt Ideal) arg17.view (Rect.unit (s := S64x1024) ![0, 0] S64x1024.size inb_S64x1024_S64x1024_0_0).toLoadRect X_arg17) (View.readAt (Elt Ideal) arg21.view (Rect.unit (s := S1x1024) ![0, 0] S1x1024.size inb_S1x1024_S1x1024_0_0).toLoadRect f_arg21) (View.readAt (Elt Ideal) arg22.view (Rect.unit (s := S1x1024) ![0, 0] S1x1024.size inb_S1x1024_S1x1024_0_0).toLoadRect f_arg22) (View.readAt (Elt Ideal) arg20.view (Rect.unit (s := S64x1024) ![0, 0] S64x1024.size inb_S64x1024_S64x1024_0_0).toLoadRect f_arg20) (View.readAt (Elt Ideal) arg7.view (Rect.unit (s := S1x2x64x16384) (k0_off10 v1 k) S1x1x64x512.size (k0_off10_inb i v1 k0_hw1 k)).toLoadRect X_arg7) (View.readAt (Elt Ideal) arg9.view (Rect.unit (s := S1x8x16384) (k0_off11 i v1 k) S1x1x512.size (k0_off11_inb i v1 k0_hw1 k)).toLoadRect X_arg9) d q)
  have hstep := step_old k.val (by omega) q (h q d) _ _ (fun i' p hp => hs k q i' p hp) (fun i' p hp => hv k d i' p hp)
  refine inv_congr hstep (e21.trans ?_) (e22.trans ?_) (e20.trans ?_)
  · exact congrArg (fun z => mNew z _) hm
  · exact congrArg₂ (fun z w => lNew z w _) hm hl
  · exact congrArg₂ (fun z w => aNew z w _ _) hm ha

/-- Before trip `n` the scratch buffers stand for the cached keys of the trips before. -/
theorem loopB_inv (𝒱 : Variants) (c : Dev nD) (bd : Option 𝒱.V) (i : grid0.Coords) (arg2 : Memref sig .tc .smem S8 .i32) (harg2 : arg2.IsWhole) (arg3 : Memref sig .tc .vmem S1x2x64x1024 .bf16) (harg3 : arg3.IsWhole) (arg4 : Memref sig .tc .vmem S1x2x64x1024 .bf16) (harg4 : arg4.IsWhole) (arg5 : Memref sig .tc .vmem S1x2x64x1024 .bf16) (harg5 : arg5.IsWhole) (arg6 : Memref sig .tc .vmem S1x2x64x16384 .fp8e4m3) (harg6 : arg6.IsWhole) (arg7 : Memref sig .tc .vmem S1x2x64x16384 .fp8e4m3) (harg7 : arg7.IsWhole) (arg8 : Memref sig .tc .vmem S1x8x64 .f32) (harg8 : arg8.IsWhole) (arg9 : Memref sig .tc .vmem S1x8x16384 .f32) (harg9 : arg9.IsWhole) (arg10 : Memref sig .tc .vmem S1x1024x128 .bf16) (harg10 : arg10.IsWhole) (arg11 : Memref sig .tc .vmem S1x2x64x1024 .fp8e4m3) (harg11 : arg11.IsWhole) (arg12 : Memref sig .tc .vmem S1x8x1024 .f32) (harg12 : arg12.IsWhole) (arg13 : Memref sig .tc .vmem S1x2x64x1024 .fp8e4m3) (harg13 : arg13.IsWhole) (arg14 : Memref sig .tc .vmem S1x8x64 .f32) (harg14 : arg14.IsWhole) (arg15 : Memref sig .tc .vmem S1x2x64x1024 .fp8e4m3) (harg15 : arg15.IsWhole) (arg16 : Memref sig .tc .vmem S1x8x1024 .f32) (harg16 : arg16.IsWhole) (arg17 : Memref sig .tc .vmem S64x1024 .bf16) (harg17 : arg17.IsWhole) (arg18 : Memref sig .tc .vmem S64x1024 .bf16) (harg18 : arg18.IsWhole) (arg19 : Memref sig .tc .vmem S64x1024 .bf16) (harg19 : arg19.IsWhole) (arg20 : Memref sig .tc .vmem S64x1024 .f32) (harg20 : arg20.IsWhole) (arg21 : Memref sig .tc .vmem S1x1024 .f32) (harg21 : arg21.IsWhole) (arg22 : Memref sig .tc .vmem S1x1024 .f32) (harg22 : arg22.IsWhole) (v1 : Elt Ideal .i32) (k0_hw1 : k0_chk1 i v1) (v560 : BitVec 32) (v896 : FVec Ideal S64x1 .bf16) (v911 : BitVec 32) (v922 : BitVec 1) (v924 : BitVec 1) (X_arg6 : BufTy.Contents (Elt Ideal) arg6.view.ty) (X_arg7 : BufTy.Contents (Elt Ideal) arg7.view.ty) (X_arg9 : BufTy.Contents (Elt Ideal) arg9.view.ty) (X_arg17 : BufTy.Contents (Elt Ideal) arg17.view.ty) (G_arg20 : BufTy.Contents (Elt Ideal) arg20.view.ty) (G_arg21 : BufTy.Contents (Elt Ideal) arg21.view.ty) (G_arg22 : BufTy.Contents (Elt Ideal) arg22.view.ty) (init : BitVec 32) (hT : (k0_t3_loop v1).trips ≤ 32)
    (s : Fin 1024 → Key → EReal) (v : Fin 64 → Key → EReal)
    (hs : ∀ (k : Fin (k0_t3_loop v1).trips) (q : Fin 1024) (i' : Fin 512) (p : Fin 16384), p.val = 512 * k.val + i'.val →
      sOld v1 k.val (fun x b => (View.readAt (Elt Ideal) arg6.view (Rect.unit (s := S1x2x64x16384) (k0_off10 v1 k) S1x1x64x512.size (k0_off10_inb i v1 k0_hw1 k)).toLoadRect X_arg6) (ix4 0 0 x b)) (fun x => v896 (ix2 x 0)) (fun x => (View.readAt (Elt Ideal) arg17.view (Rect.unit (s := S64x1024) ![0, 0] S64x1024.size inb_S64x1024_S64x1024_0_0).toLoadRect X_arg17) (ix2 x q)) i' = s q (Sum.inl p))
    (hv : ∀ (k : Fin (k0_t3_loop v1).trips) (d : Fin 64) (i' : Fin 512) (p : Fin 16384), p.val = 512 * k.val + i'.val →
      (View.readAt (Elt Ideal) arg7.view (Rect.unit (s := S1x2x64x16384) (k0_off10 v1 k) S1x1x64x512.size (k0_off10_inb i v1 k0_hw1 k)).toLoadRect X_arg7) (ix4 0 0 d i') * (View.readAt (Elt Ideal) arg9.view (Rect.unit (s := S1x8x16384) (k0_off11 i v1 k) S1x1x512.size (k0_off11_inb i v1 k0_hw1 k)).toLoadRect X_arg9) (ix3 0 0 i') = v d (Sum.inl p))
    (h0 : ∀ q d, Attn.Inv (s q) (v d) (met 0 0 q) (arg21.view.read (Elt Ideal) G_arg21 (ix2 0 q)) (arg22.view.read (Elt Ideal) G_arg22 (ix2 0 q)) (arg20.view.read (Elt Ideal) G_arg20 (ix2 d q)))
    (n : ℕ) (hn : n ≤ (k0_t3_loop v1).trips) (q : Fin 1024) (d : Fin 64) :
    Attn.Inv (s q) (v d) (met n 0 q)
        (arg21.view.read (Elt Ideal) (arg21.view.writes (Elt Ideal) G_arg21 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v560 v896 v911 v922 v924 X_arg6 X_arg7 X_arg9 X_arg17 G_arg20 G_arg21 G_arg22 init n).2.2.1) (ix2 0 q))
        (arg22.view.read (Elt Ideal) (arg22.view.writes (Elt Ideal) G_arg22 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v560 v896 v911 v922 v924 X_arg6 X_arg7 X_arg9 X_arg17 G_arg20 G_arg21 G_arg22 init n).2.2.2) (ix2 0 q))
        (arg20.view.read (Elt Ideal) (arg20.view.writes (Elt Ideal) G_arg20 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v560 v896 v911 v922 v924 X_arg6 X_arg7 X_arg9 X_arg17 G_arg20 G_arg21 G_arg22 init n).2.1) (ix2 d q)) := by
  induction n generalizing q d with
  | zero => exact h0 q d
  | succ n ih =>
    have hprev := ih (by omega)
    have key : ∀ P', P' = (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v560 v896 v911 v922 v924 X_arg6 X_arg7 X_arg9 X_arg17 G_arg20 G_arg21 G_arg22 init n) → ∀ P, P = (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v560 v896 v911 v922 v924 X_arg6 X_arg7 X_arg9 X_arg17 G_arg20 G_arg21 G_arg22 init ((⟨n, hn⟩ : Fin (k0_t3_loop v1).trips).val + 1)) →
      Attn.Inv (s q) (v d) (met (n + 1) 0 q)
        (arg21.view.read (Elt Ideal) (arg21.view.writes (Elt Ideal) G_arg21 P.2.2.1) (ix2 0 q))
        (arg22.view.read (Elt Ideal) (arg22.view.writes (Elt Ideal) G_arg22 P.2.2.2) (ix2 0 q))
        (arg20.view.read (Elt Ideal) (arg20.view.writes (Elt Ideal) G_arg20 P.2.1) (ix2 d q)) := by
      intro P' hP' P hP
      rw [st_k0_t3_succ] at hP
      rw [← hP'] at hprev
      dsimp only at hP
      rw [← hP'] at hP
      subst hP
      dsimp only
      rw [View.writes_append, View.writes_append, View.writes_append]
      exact tripB_step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v560 v896 v911 v922 v924 X_arg6 X_arg7 X_arg9 X_arg17 ⟨n, hn⟩ P'.1 (arg20.view.writes (Elt Ideal) G_arg20 P'.2.1) (arg21.view.writes (Elt Ideal) G_arg21 P'.2.2.1) (arg22.view.writes (Elt Ideal) G_arg22 P'.2.2.2) hT s v hs hv hprev q d
    exact key _ rfl _ rfl

end Cert.KernelIdeal.Gen
-- ==== Proof.KernelIdeal.Payq.lean ====
module

public import proofs.«01_k».proof.Proof.Quant
public import proofs.«01_k».proof.Proof.Gen.KernelIdeal.Skeleton
public import Idealize.ShloMosaic.Lib.Pointwise

@[expose] public section

set_option maxRecDepth 16384
set_option maxHeartbeats 400000

/-! The quantised rows of the kernel, dequantised again: each is the value it was made of, and the query an eighth of it. -/

noncomputable section

namespace Cert.KernelIdeal.Gen

open Idealize.ShloMosaic Idealize.SL.Sem

/-- The bound on a value under which the quantiser's scale is a normal single. -/
def Small (a : EReal) : Prop := ∃ r : ℝ, a = r ∧ |r| ≤ 255 * 2 ^ 120

/-- A row's largest absolute value times the constant. -/
def rowR {n : ℕ} (f : Fin n → EReal) : EReal := Finset.univ.fold max (⊥ : EReal) (fun k => max (f k) (-(f k))) * Ideal.ofBits .f32 0x3B124925#32

theorem rowR_bits {n : ℕ} (f : Fin n → EReal) :
    Finset.univ.fold max (Ideal.ofBits .f32 0xFF800000#32 : EReal) (fun k => max (f k) (-(f k))) * Ideal.ofBits .f32 0x3B124925#32 = rowR f := by
  rw [Quant.neg_inf]; rfl

/-- The code times the scale is the value. -/
theorem deq {n : ℕ} (hn : 0 < n) (f : Fin n → EReal) (hf : ∀ k, Small (f k)) (k : Fin n) : Quant.kcode (f k) (rowR f) * Quant.kscale (rowR f) = f k := by
  obtain ⟨t, ht, hs, hc⟩ := Quant.kquant hn f hf
  obtain ⟨r, hr, _⟩ := hf k
  have h1 : Quant.kcode (f k) (rowR f) = ((r * t⁻¹ : ℝ) : EReal) := hc k r hr
  have h2 : Quant.kscale (rowR f) = (t : EReal) := hs
  rw [h1, h2, hr, ← EReal.coe_mul, mul_assoc, inv_mul_cancel₀ ht.ne', mul_one]

/-- The code of `x` at the exponent `w`. -/
def clipcode (x : EReal) (w : BitVec 32) : EReal :=
  min (Ideal.ofBits .f32 0x43E00000#32) (max (Ideal.ofBits .f32 0xC3E00000#32) (x * Quant.fval (IntOp.addi (IntOp.subi 0#32 w) 127#32)))

/-- One step of the search, on a whole row of values. -/
def vstep {S : Shape} (r : FVec Ideal S .f32) (p : BitVec 32) (b : IVec S 32) : IVec S 32 :=
  select (cmpf .olt r (bitcastToFloat .f32 (shli (addi b (broadcast S p)) (broadcast S 23#32)))) b (addi b (broadcast S p))

theorem vstep_at {S : Shape} (r : FVec Ideal S .f32) (p : BitVec 32) (b : IVec S 32) (i : S.Idx) : vstep r p b i = Quant.bstep (r i) p (b i) := rfl

/-- The exponents of a whole row of values. -/
def vexp {S : Shape} (r : FVec Ideal S .f32) : IVec S 32 :=
  select (cmpf .oeq r (broadcast S (Scalar.ofBits .f32 0x00000000#32))) (broadcast S 0#32)
    (subi (vstep r 1#32 (vstep r 2#32 (vstep r 4#32 (vstep r 8#32 (vstep r 16#32 (vstep r 32#32 (vstep r 64#32 (vstep r 128#32 (broadcast S 0#32)))))))))
      (broadcast S 126#32))

theorem vexp_at {S : Shape} (r : FVec Ideal S .f32) (i : S.Idx) : vexp r i = Quant.eword (r i) := by
  have h : vstep r 1#32 (vstep r 2#32 (vstep r 4#32 (vstep r 8#32 (vstep r 16#32 (vstep r 32#32 (vstep r 64#32 (vstep r 128#32 (broadcast S 0#32)))))))) i = Quant.bsearch (r i) := by
    rw [vstep_at, vstep_at, vstep_at, vstep_at, vstep_at, vstep_at, vstep_at, vstep_at]
    rfl
  show Scalar.select _ _ (IntOp.subi _ _) = Scalar.select _ _ (IntOp.subi _ _)
  rw [h]
  rfl

theorem qA_row (a : Vec Ideal S1x1x64x1024 .bf16) (q : Fin 1024) : k0_pay23 (F := Ideal) a (ix2 0 q) = rowR (fun d => a (ix4 0 0 d q)) := by
  rw [← rowR_bits]
  pointwise [k0_pay23, k0_pay22]
  rfl

theorem qA_code' (f : FVec Ideal S64x1024 .f32) (g : IVec S1x1024 32) (z : IVec S1x1024 1) (d : Fin 64) (q : Fin 1024) :
    k0_pay28 (F := Ideal) f g z 0#32 (ix2 d q) = clipcode (f (ix2 d q)) (k0_pay27 g z 0#32 (ix2 0 q)) := by
  pointwise [k0_pay28]
  rfl

theorem qA_exp (a : Vec Ideal S1x1x64x1024 .bf16) : (k0_pay27 (k0_pay25 (F := Ideal) (k0_pay23 a) (k0_pay24 a) 32#32) (k0_pay26 (F := Ideal) (k0_pay23 a)) 0#32) = vexp (k0_pay23 (F := Ideal) a) := by
  rfl

theorem qA_code (a : Vec Ideal S1x1x64x1024 .bf16) (d : Fin 64) (q : Fin 1024) : k0_pay28 (F := Ideal) (k0_pay22 a) (k0_pay25 (F := Ideal) (k0_pay23 a) (k0_pay24 a) 32#32) (k0_pay26 (F := Ideal) (k0_pay23 a)) 0#32 (ix2 d q) = Quant.kcode (a (ix4 0 0 d q)) (k0_pay23 (F := Ideal) a (ix2 0 q)) := by
  refine (qA_code' (k0_pay22 a) (k0_pay25 (F := Ideal) (k0_pay23 a) (k0_pay24 a) 32#32) (k0_pay26 (F := Ideal) (k0_pay23 a)) d q).trans ?_
  rw [qA_exp, vexp_at]
  have hf : (k0_pay22 a) (ix2 d q) = a (ix4 0 0 d q) := by
    pointwise [k0_pay22]
  rw [hf]
  rfl

theorem qA_scale (a : Vec Ideal S1x1x64x1024 .bf16) (d : Fin 64) (q : Fin 1024) : k0_pay29 (F := Ideal) (k0_pay25 (F := Ideal) (k0_pay23 a) (k0_pay24 a) 32#32) (k0_pay26 (F := Ideal) (k0_pay23 a)) 0#32 (ix2 0 q) = Quant.kscale (k0_pay23 (F := Ideal) a (ix2 0 q)) := by
  show Quant.fval (IntOp.addi ((k0_pay27 (k0_pay25 (F := Ideal) (k0_pay23 a) (k0_pay24 a) 32#32) (k0_pay26 (F := Ideal) (k0_pay23 a)) 0#32) (ix2 0 q)) 127#32) = _
  rw [qA_exp, vexp_at]
  rfl

theorem qA_out (c : FVec Ideal S64x1024 .fp8e4m3) (s : FVec Ideal S1x1024 .f32) (d : Fin 64) (q : Fin 1024) :
    k0_pay53 (F := Ideal) c s (ix2 d q) = c (ix2 d q) * (s (ix2 0 q) * Ideal.ofBits .f32 0x3E000000#32) := by
  pointwise [k0_pay53]

/-- What the kernel dequantises again is what it quantised. -/
theorem qA_deq (a : Vec Ideal S1x1x64x1024 .bf16) (h : ∀ d q, Small (a (ix4 0 0 d q))) (d : Fin 64) (q : Fin 1024) :
    k0_pay53 (F := Ideal) (k0_pay28 (F := Ideal) (k0_pay22 a) (k0_pay25 (F := Ideal) (k0_pay23 a) (k0_pay24 a) 32#32) (k0_pay26 (F := Ideal) (k0_pay23 a)) 0#32) (k0_pay29 (F := Ideal) (k0_pay25 (F := Ideal) (k0_pay23 a) (k0_pay24 a) 32#32) (k0_pay26 (F := Ideal) (k0_pay23 a)) 0#32) (ix2 d q) = a (ix4 0 0 d q) * Ideal.ofBits .f32 0x3E000000#32 := by
  rw [qA_out, qA_code, qA_scale a d q, qA_row, ← mul_assoc]
  exact congrArg (·  * Ideal.ofBits .f32 0x3E000000#32) (deq (by decide) (fun d => a (ix4 0 0 d q)) (fun k => h _ _) d)

theorem kA_row (a : Vec Ideal S1x1x64x1024 .bf16) (d : Fin 64) : k0_pay31 (F := Ideal) a (ix2 d 0) = rowR (fun q => a (ix4 0 0 d q)) := by
  rw [← rowR_bits]
  pointwise [k0_pay31, k0_pay30]
  rfl

theorem kA_code' (f : FVec Ideal S64x1024 .f32) (r : FVec Ideal S64x1 .f32) (g : IVec S64x1 32) (z : EReal) (d : Fin 64) (q : Fin 1024) :
    k0_pay37 (F := Ideal) f r g z (ix2 d q) = clipcode (f (ix2 d q)) (k0_pay36 (F := Ideal) r g z (ix2 d 0)) := by
  pointwise [k0_pay37]
  rfl

theorem kA_exp (a : Vec Ideal S1x1x64x1024 .bf16) : (k0_pay36 (F := Ideal) (k0_pay31 a) (k0_pay35 (F := Ideal) (k0_pay31 a) (k0_pay32 a) (k0_pay33 a) (k0_pay34 a)) (Scalar.ofBits (F := Ideal) .f32 0x00000000#32)) = vexp (k0_pay31 (F := Ideal) a) := by
  rfl

theorem kA_code (a : Vec Ideal S1x1x64x1024 .bf16) (d : Fin 64) (q : Fin 1024) : k0_pay37 (F := Ideal) (k0_pay30 a) (k0_pay31 a) (k0_pay35 (F := Ideal) (k0_pay31 a) (k0_pay32 a) (k0_pay33 a) (k0_pay34 a)) (Scalar.ofBits (F := Ideal) .f32 0x00000000#32) (ix2 d q) = Quant.kcode (a (ix4 0 0 d q)) (k0_pay31 (F := Ideal) a (ix2 d 0)) := by
  refine (kA_code' (k0_pay30 a) (k0_pay31 a) (k0_pay35 (F := Ideal) (k0_pay31 a) (k0_pay32 a) (k0_pay33 a) (k0_pay34 a)) (Scalar.ofBits (F := Ideal) .f32 0x00000000#32) d q).trans ?_
  rw [kA_exp, vexp_at]
  have hf : (k0_pay30 a) (ix2 d q) = a (ix4 0 0 d q) := by
    pointwise [k0_pay30]
  rw [hf]
  rfl

theorem kA_scale (a : Vec Ideal S1x1x64x1024 .bf16) (d : Fin 64) (q : Fin 1024) : k0_pay38 (F := Ideal) (k0_pay31 a) (k0_pay35 (F := Ideal) (k0_pay31 a) (k0_pay32 a) (k0_pay33 a) (k0_pay34 a)) (Scalar.ofBits (F := Ideal) .f32 0x00000000#32) (ix2 d 0) = Quant.kscale (k0_pay31 (F := Ideal) a (ix2 d 0)) := by
  show Quant.fval (IntOp.addi ((k0_pay36 (F := Ideal) (k0_pay31 a) (k0_pay35 (F := Ideal) (k0_pay31 a) (k0_pay32 a) (k0_pay33 a) (k0_pay34 a)) (Scalar.ofBits (F := Ideal) .f32 0x00000000#32)) (ix2 d 0)) 127#32) = _
  rw [kA_exp, vexp_at]
  rfl

theorem kA_out (c : FVec Ideal S64x1024 .fp8e4m3) (s : FVec Ideal S64x1 .f32) (d : Fin 64) (q : Fin 1024) :
    k0_pay54 (F := Ideal) c s (ix2 d q) = c (ix2 d q) * s (ix2 d 0) := by
  pointwise [k0_pay54]

/-- What the kernel dequantises again is what it quantised. -/
theorem kA_deq (a : Vec Ideal S1x1x64x1024 .bf16) (h : ∀ d q, Small (a (ix4 0 0 d q))) (d : Fin 64) (q : Fin 1024) :
    k0_pay54 (F := Ideal) (k0_pay37 (F := Ideal) (k0_pay30 a) (k0_pay31 a) (k0_pay35 (F := Ideal) (k0_pay31 a) (k0_pay32 a) (k0_pay33 a) (k0_pay34 a)) (Scalar.ofBits (F := Ideal) .f32 0x00000000#32)) (k0_pay38 (F := Ideal) (k0_pay31 a) (k0_pay35 (F := Ideal) (k0_pay31 a) (k0_pay32 a) (k0_pay33 a) (k0_pay34 a)) (Scalar.ofBits (F := Ideal) .f32 0x00000000#32)) (ix2 d q) = a (ix4 0 0 d q) := by
  rw [kA_out, kA_code, kA_scale a d q, kA_row]
  exact deq (by decide) (fun q => a (ix4 0 0 d q)) (fun k => h _ _) q

theorem vA_row (a : Vec Ideal S1x1x64x1024 .bf16) (q : Fin 1024) : k0_pay40 (F := Ideal) a (ix2 0 q) = rowR (fun d => a (ix4 0 0 d q)) := by
  rw [← rowR_bits]
  pointwise [k0_pay40, k0_pay39]
  rfl

theorem vA_code' (f : FVec Ideal S64x1024 .f32) (r : FVec Ideal S1x1024 .f32) (g : IVec S1x1024 32) (z : BitVec 32) (d : Fin 64) (q : Fin 1024) :
    k0_pay45 (F := Ideal) f r g z (ix2 d q) = clipcode (f (ix2 d q)) (k0_pay44 (F := Ideal) r g z (ix2 0 q)) := by
  pointwise [k0_pay45]
  rfl

theorem vA_exp (a : Vec Ideal S1x1x64x1024 .bf16) : (k0_pay44 (F := Ideal) (k0_pay40 a) (k0_pay43 (F := Ideal) (k0_pay40 a) (k0_pay41 a) (k0_pay42 a) 23#32) 126#32) = vexp (k0_pay40 (F := Ideal) a) := by
  rfl

theorem vA_code (a : Vec Ideal S1x1x64x1024 .bf16) (d : Fin 64) (q : Fin 1024) : k0_pay45 (F := Ideal) (k0_pay39 a) (k0_pay40 a) (k0_pay43 (F := Ideal) (k0_pay40 a) (k0_pay41 a) (k0_pay42 a) 23#32) 126#32 (ix2 d q) = Quant.kcode (a (ix4 0 0 d q)) (k0_pay40 (F := Ideal) a (ix2 0 q)) := by
  refine (vA_code' (k0_pay39 a) (k0_pay40 a) (k0_pay43 (F := Ideal) (k0_pay40 a) (k0_pay41 a) (k0_pay42 a) 23#32) 126#32 d q).trans ?_
  rw [vA_exp, vexp_at]
  have hf : (k0_pay39 a) (ix2 d q) = a (ix4 0 0 d q) := by
    pointwise [k0_pay39]
  rw [hf]
  rfl

theorem vA_scale (a : Vec Ideal S1x1x64x1024 .bf16) (d : Fin 64) (q : Fin 1024) : k0_pay46 (F := Ideal) (k0_pay40 a) (k0_pay43 (F := Ideal) (k0_pay40 a) (k0_pay41 a) (k0_pay42 a) 23#32) 126#32 (ix2 0 q) = Quant.kscale (k0_pay40 (F := Ideal) a (ix2 0 q)) := by
  show Quant.fval (IntOp.addi ((k0_pay44 (F := Ideal) (k0_pay40 a) (k0_pay43 (F := Ideal) (k0_pay40 a) (k0_pay41 a) (k0_pay42 a) 23#32) 126#32) (ix2 0 q)) 127#32) = _
  rw [vA_exp, vexp_at]
  rfl

theorem vA_out (c : FVec Ideal S64x1024 .fp8e4m3) (s : FVec Ideal S1x1024 .f32) (d : Fin 64) (q : Fin 1024) :
    k0_pay55 (F := Ideal) c s (ix2 d q) = c (ix2 d q) * s (ix2 0 q) := by
  pointwise [k0_pay55]

/-- What the kernel dequantises again is what it quantised. -/
theorem vA_deq (a : Vec Ideal S1x1x64x1024 .bf16) (h : ∀ d q, Small (a (ix4 0 0 d q))) (d : Fin 64) (q : Fin 1024) :
    k0_pay55 (F := Ideal) (k0_pay45 (F := Ideal) (k0_pay39 a) (k0_pay40 a) (k0_pay43 (F := Ideal) (k0_pay40 a) (k0_pay41 a) (k0_pay42 a) 23#32) 126#32) (k0_pay46 (F := Ideal) (k0_pay40 a) (k0_pay43 (F := Ideal) (k0_pay40 a) (k0_pay41 a) (k0_pay42 a) 23#32) 126#32) (ix2 d q) = a (ix4 0 0 d q) := by
  rw [vA_out, vA_code, vA_scale a d q, vA_row]
  exact deq (by decide) (fun d => a (ix4 0 0 d q)) (fun k => h _ _) d

theorem qB_row (a : Vec Ideal S1x1x64x1024 .bf16) (q : Fin 1024) : k0_pay98 (F := Ideal) a (ix2 0 q) = rowR (fun d => a (ix4 0 0 d q)) := by
  rw [← rowR_bits]
  pointwise [k0_pay98, k0_pay97]
  rfl

theorem qB_code' (f : FVec Ideal S64x1024 .f32) (r : FVec Ideal S1x1024 .f32) (g : IVec S1x1024 32) (d : Fin 64) (q : Fin 1024) :
    k0_pay102 (F := Ideal) f (k0_pay101 (F := Ideal) r g) (ix2 d q) = clipcode (f (ix2 d q)) (k0_pay100 (F := Ideal) r g (ix2 0 q)) := by
  pointwise [k0_pay102, k0_pay101]
  rfl

theorem qB_exp (a : Vec Ideal S1x1x64x1024 .bf16) : (k0_pay100 (F := Ideal) (k0_pay98 a) (k0_pay99 a)) = vexp (k0_pay98 (F := Ideal) a) := by
  rfl

theorem qB_code (a : Vec Ideal S1x1x64x1024 .bf16) (d : Fin 64) (q : Fin 1024) : k0_pay102 (F := Ideal) (k0_pay97 a) (k0_pay101 (F := Ideal) (k0_pay98 a) (k0_pay99 a)) (ix2 d q) = Quant.kcode (a (ix4 0 0 d q)) (k0_pay98 (F := Ideal) a (ix2 0 q)) := by
  refine (qB_code' (k0_pay97 a) (k0_pay98 a) (k0_pay99 a) d q).trans ?_
  rw [qB_exp, vexp_at]
  have hf : (k0_pay97 a) (ix2 d q) = a (ix4 0 0 d q) := by
    pointwise [k0_pay97]
  rw [hf]
  rfl

theorem qB_scale (a : Vec Ideal S1x1x64x1024 .bf16) (d : Fin 64) (q : Fin 1024) : k0_pay103 (F := Ideal) (k0_pay100 (F := Ideal) (k0_pay98 a) (k0_pay99 a)) (ix2 0 q) = Quant.kscale (k0_pay98 (F := Ideal) a (ix2 0 q)) := by
  show Quant.fval (IntOp.addi ((k0_pay100 (F := Ideal) (k0_pay98 a) (k0_pay99 a)) (ix2 0 q)) 127#32) = _
  rw [qB_exp, vexp_at]
  rfl

theorem qB_out (c : FVec Ideal S64x1024 .fp8e4m3) (s : FVec Ideal S1x1024 .f32) (d : Fin 64) (q : Fin 1024) :
    k0_pay126 (F := Ideal) c s (ix2 d q) = c (ix2 d q) * (s (ix2 0 q) * Ideal.ofBits .f32 0x3E000000#32) := by
  pointwise [k0_pay126]

/-- What the kernel dequantises again is what it quantised. -/
theorem qB_deq (a : Vec Ideal S1x1x64x1024 .bf16) (h : ∀ d q, Small (a (ix4 0 0 d q))) (d : Fin 64) (q : Fin 1024) :
    k0_pay126 (F := Ideal) (k0_pay102 (F := Ideal) (k0_pay97 a) (k0_pay101 (F := Ideal) (k0_pay98 a) (k0_pay99 a))) (k0_pay103 (F := Ideal) (k0_pay100 (F := Ideal) (k0_pay98 a) (k0_pay99 a))) (ix2 d q) = a (ix4 0 0 d q) * Ideal.ofBits .f32 0x3E000000#32 := by
  rw [qB_out, qB_code, qB_scale a d q, qB_row, ← mul_assoc]
  exact congrArg (·  * Ideal.ofBits .f32 0x3E000000#32) (deq (by decide) (fun d => a (ix4 0 0 d q)) (fun k => h _ _) d)

theorem kB_row (a : Vec Ideal S1x1x64x1024 .bf16) (d : Fin 64) : k0_pay105 (F := Ideal) a (ix2 d 0) = rowR (fun q => a (ix4 0 0 d q)) := by
  rw [← rowR_bits]
  pointwise [k0_pay105, k0_pay104]
  rfl

theorem kB_code' (f : FVec Ideal S64x1024 .f32) (r : FVec Ideal S64x1 .f32) (g g1 g2 : IVec S64x1 32) (d : Fin 64) (q : Fin 1024) :
    k0_pay111 (F := Ideal) f (k0_pay110 (F := Ideal) r g g1 g2) (ix2 d q) = clipcode (f (ix2 d q)) (k0_pay109 (F := Ideal) r g g1 g2 (ix2 d 0)) := by
  pointwise [k0_pay111, k0_pay110]
  rfl

theorem kB_exp (a : Vec Ideal S1x1x64x1024 .bf16) : (k0_pay109 (F := Ideal) (k0_pay105 a) (k0_pay106 a) (k0_pay107 a) (k0_pay108 a)) = vexp (k0_pay105 (F := Ideal) a) := by
  rfl

theorem kB_code (a : Vec Ideal S1x1x64x1024 .bf16) (d : Fin 64) (q : Fin 1024) : k0_pay111 (F := Ideal) (k0_pay104 a) (k0_pay110 (F := Ideal) (k0_pay105 a) (k0_pay106 a) (k0_pay107 a) (k0_pay108 a)) (ix2 d q) = Quant.kcode (a (ix4 0 0 d q)) (k0_pay105 (F := Ideal) a (ix2 d 0)) := by
  refine (kB_code' (k0_pay104 a) (k0_pay105 a) (k0_pay106 a) (k0_pay107 a) (k0_pay108 a) d q).trans ?_
  rw [kB_exp, vexp_at]
  have hf : (k0_pay104 a) (ix2 d q) = a (ix4 0 0 d q) := by
    pointwise [k0_pay104]
  rw [hf]
  rfl

theorem kB_scale (a : Vec Ideal S1x1x64x1024 .bf16) (d : Fin 64) (q : Fin 1024) : k0_pay112 (F := Ideal) (k0_pay109 (F := Ideal) (k0_pay105 a) (k0_pay106 a) (k0_pay107 a) (k0_pay108 a)) (ix2 d 0) = Quant.kscale (k0_pay105 (F := Ideal) a (ix2 d 0)) := by
  show Quant.fval (IntOp.addi ((k0_pay109 (F := Ideal) (k0_pay105 a) (k0_pay106 a) (k0_pay107 a) (k0_pay108 a)) (ix2 d 0)) 127#32) = _
  rw [kB_exp, vexp_at]
  rfl

theorem kB_out (c : FVec Ideal S64x1024 .fp8e4m3) (s : FVec Ideal S64x1 .f32) (d : Fin 64) (q : Fin 1024) :
    k0_pay127 (F := Ideal) c s (ix2 d q) = c (ix2 d q) * s (ix2 d 0) := by
  pointwise [k0_pay127]

/-- What the kernel dequantises again is what it quantised. -/
theorem kB_deq (a : Vec Ideal S1x1x64x1024 .bf16) (h : ∀ d q, Small (a (ix4 0 0 d q))) (d : Fin 64) (q : Fin 1024) :
    k0_pay127 (F := Ideal) (k0_pay111 (F := Ideal) (k0_pay104 a) (k0_pay110 (F := Ideal) (k0_pay105 a) (k0_pay106 a) (k0_pay107 a) (k0_pay108 a))) (k0_pay112 (F := Ideal) (k0_pay109 (F := Ideal) (k0_pay105 a) (k0_pay106 a) (k0_pay107 a) (k0_pay108 a))) (ix2 d q) = a (ix4 0 0 d q) := by
  rw [kB_out, kB_code, kB_scale a d q, kB_row]
  exact deq (by decide) (fun q => a (ix4 0 0 d q)) (fun k => h _ _) q

theorem vB_row (a : Vec Ideal S1x1x64x1024 .bf16) (q : Fin 1024) : k0_pay114 (F := Ideal) a (ix2 0 q) = rowR (fun d => a (ix4 0 0 d q)) := by
  rw [← rowR_bits]
  pointwise [k0_pay114, k0_pay113]
  rfl

theorem vB_code' (f : FVec Ideal S64x1024 .f32) (g : IVec S1x1024 32) (d : Fin 64) (q : Fin 1024) :
    k0_pay118 (F := Ideal) f g (ix2 d q) = clipcode (f (ix2 d q)) (g (ix2 0 q)) := by
  pointwise [k0_pay118]
  rfl

theorem vB_exp (a : Vec Ideal S1x1x64x1024 .bf16) : (k0_pay117 (F := Ideal) (k0_pay114 a) (k0_pay115 a) (k0_pay116 a)) = vexp (k0_pay114 (F := Ideal) a) := by
  rfl

theorem vB_code (a : Vec Ideal S1x1x64x1024 .bf16) (d : Fin 64) (q : Fin 1024) : k0_pay118 (F := Ideal) (k0_pay113 a) (k0_pay117 (F := Ideal) (k0_pay114 a) (k0_pay115 a) (k0_pay116 a)) (ix2 d q) = Quant.kcode (a (ix4 0 0 d q)) (k0_pay114 (F := Ideal) a (ix2 0 q)) := by
  refine (vB_code' (k0_pay113 a) (k0_pay117 (F := Ideal) (k0_pay114 a) (k0_pay115 a) (k0_pay116 a)) d q).trans ?_
  rw [vB_exp, vexp_at]
  have hf : (k0_pay113 a) (ix2 d q) = a (ix4 0 0 d q) := by
    pointwise [k0_pay113]
  rw [hf]
  rfl

theorem vB_scale (a : Vec Ideal S1x1x64x1024 .bf16) (d : Fin 64) (q : Fin 1024) : k0_pay119 (F := Ideal) (k0_pay117 (F := Ideal) (k0_pay114 a) (k0_pay115 a) (k0_pay116 a)) (ix2 0 q) = Quant.kscale (k0_pay114 (F := Ideal) a (ix2 0 q)) := by
  show Quant.fval (IntOp.addi ((k0_pay117 (F := Ideal) (k0_pay114 a) (k0_pay115 a) (k0_pay116 a)) (ix2 0 q)) 127#32) = _
  rw [vB_exp, vexp_at]
  rfl

theorem vB_out (c : FVec Ideal S64x1024 .fp8e4m3) (s : FVec Ideal S1x1024 .f32) (d : Fin 64) (q : Fin 1024) :
    k0_pay128 (F := Ideal) c s (ix2 d q) = c (ix2 d q) * s (ix2 0 q) := by
  pointwise [k0_pay128]

/-- What the kernel dequantises again is what it quantised. -/
theorem vB_deq (a : Vec Ideal S1x1x64x1024 .bf16) (h : ∀ d q, Small (a (ix4 0 0 d q))) (d : Fin 64) (q : Fin 1024) :
    k0_pay128 (F := Ideal) (k0_pay118 (F := Ideal) (k0_pay113 a) (k0_pay117 (F := Ideal) (k0_pay114 a) (k0_pay115 a) (k0_pay116 a))) (k0_pay119 (F := Ideal) (k0_pay117 (F := Ideal) (k0_pay114 a) (k0_pay115 a) (k0_pay116 a))) (ix2 d q) = a (ix4 0 0 d q) := by
  rw [vB_out, vB_code, vB_scale a d q, vB_row]
  exact deq (by decide) (fun d => a (ix4 0 0 d q)) (fun k => h _ _) d

theorem diag (w : Fin 64 → EReal) (d : Fin 64) :
    (∑ j : Fin 64, Scalar.select (Scalar.cmpi .eq (BitVec.ofNat 32 d.val) (BitVec.ofNat 32 j.val)) (w j) (Ideal.ofBits .f32 0x00000000#32)) = w d := by
  rw [Finset.sum_eq_single d]
  · have h : Scalar.cmpi .eq (BitVec.ofNat 32 d.val) (BitVec.ofNat 32 d.val) = 1#1 := by simp [Scalar.cmpi, IntOp.cmpi]
    rw [h]; rfl
  · intro j _ hj
    have : (BitVec.ofNat 32 d.val) ≠ (BitVec.ofNat 32 j.val) := by
      intro h
      have := congrArg BitVec.toNat h
      simp at this
      exact hj (Fin.ext (by omega))
    have h : Scalar.cmpi .eq (BitVec.ofNat 32 d.val) (BitVec.ofNat 32 j.val) = 0#1 := by
      show BitVec.ofBool (BitVec.ofNat 32 d.val == BitVec.ofNat 32 j.val) = 0#1
      rw [beq_eq_false_iff_ne.2 this]
      rfl
    rw [h]; exact Ideal.ofBits_zero_f32
  · simp

/-- The scales of the cached keys, turned into a column. -/
theorem ksA (w : Vec Ideal S1x1x64 .f32) (d : Fin 64) : k0_pay57 (F := Ideal) w (ix2 d 0) = w (ix3 0 0 d) := by
  refine Eq.trans ?_ (diag (fun j => w (ix3 0 0 j)) d)
  pointwise [k0_pay57]
  rfl

theorem ksB (w : Vec Ideal S1x1x64 .f32) (d : Fin 64) : k0_pay130 (F := Ideal) (k0_pay129 w) (ix2 d 0) = w (ix3 0 0 d) := by
  refine Eq.trans ?_ (diag (fun j => w (ix3 0 0 j)) d)
  pointwise [k0_pay130, k0_pay129]
  rfl

end Cert.KernelIdeal.Gen
-- ==== Proof.KernelIdeal.Mid.lean ====
module

public import proofs.«01_k».proof.Proof.KernelIdeal.Loop
public import proofs.«01_k».proof.Proof.KernelIdeal.Payq

@[expose] public section

set_option maxRecDepth 16384
set_option maxHeartbeats 400000

/-! The blocks of new keys, over the values the scratch buffers hold, and the words of the masks. -/

noncomputable section

namespace Cert.KernelIdeal.Gen

open Idealize.ShloMosaic Idealize.SL.Sem

/-- The element of a block of columns. -/
theorem idx_cols {n m o w : ℕ} (inb : ∀ a : Fin 2, (![0, o] : Fin 2 → ℕ) a + (![m, w] : Fin 2 → ℕ) a ≤ (![n, 1024] : Fin 2 → ℕ) a)
    (a : Fin m) (c : Fin w) (a' : Fin n) (q : Fin 1024) (ha : a'.val = a.val) (hq : q.val = o + c.val) :
    (Rect.unit (s := ⟨2, ![n, 1024]⟩) ![0, o] ![m, w] inb).toLoadRect.idx (ix2 a c) = ix2 a' q := by
  funext b
  apply Fin.ext
  fin_cases b
  · show 0 + 1 * a.val = a'.val
    omega
  · show o + 1 * c.val = q.val
    omega

theorem toInt_small (r : ℕ) (h : r < 2 ^ 31) : (BitVec.ofNat 32 r).toInt = (r : ℤ) := by
  rw [BitVec.toInt_eq_toNat_of_lt (by rw [BitVec.toNat_ofNat]; omega), BitVec.toNat_ofNat, Nat.mod_eq_of_lt (by omega)]

theorem select_sle (r c : ℕ) (hr : r < 2 ^ 31) (hc : c < 2 ^ 31) (x y : EReal) :
    Scalar.select (IntOp.cmpi .sle (BitVec.ofNat 32 r) (BitVec.ofNat 32 c)) x y = if r ≤ c then x else y := by
  show Scalar.select (BitVec.ofBool (BitVec.sle _ _)) x y = _
  rw [BitVec.sle_eq_decide, toInt_small r hr, toInt_small c hc]
  by_cases h : r ≤ c
  · rw [if_pos h, decide_eq_true (by exact_mod_cast h)]; rfl
  · rw [if_neg h, decide_eq_false (by exact_mod_cast h)]; rfl

theorem col_word : ∀ t : Fin 32, Scalar.muli (Scf.iv 0#32 1#32 t.val) 512#32 = BitVec.ofNat 32 (512 * t.val) := by decide

/-- A cached score, at its position. -/
theorem sOld_at (v1 : BitVec 32) (t : ℕ) (ht : t < 32) (kc : Fin 64 → Fin 512 → EReal) (ks q : Fin 64 → EReal) (i : Fin 512) (p : Fin 16384) (hp : p.val = 512 * t + i.val) :
    sOld v1 t kc ks q i = Scalar.select (IntOp.cmpi .slt (BitVec.ofNat 32 p.val) v1) (∑ x, kc x i * ks x * q x) ⊥ := by
  unfold sOld
  rw [maskv_eq, col_word ⟨t, ht⟩]
  have : IntOp.addi (BitVec.ofNat 32 (512 * t)) (BitVec.ofNat 32 i.val) = BitVec.ofNat 32 p.val := by
    show BitVec.ofNat 32 (512 * t) + BitVec.ofNat 32 i.val = _
    rw [← BitVec.ofNat_add, hp]
  rw [this]

/-- A block of new keys, for every query, the maximum stored too. -/
theorem stage_mid (T j o w : ℕ) (ho : o = 256 * j) (hw : o + w = 1024) (hj : 256 * (j + 1) ≤ 1024)
    {sg : RefSig} {κ1 κ2 κ3 : Kind} {sp1 sp2 sp3 : Space}
    (v20 : View sg κ1 sp1 (⟨2, ![64, 1024]⟩ : Shape) .f32) (v21 : View sg κ2 sp2 (⟨2, ![1, 1024]⟩ : Shape) .f32) (v22 : View sg κ3 sp3 (⟨2, ![1, 1024]⟩ : Shape) .f32)
    (f20 : v20.ty.Contents (Elt Ideal)) (f21 : v21.ty.Contents (Elt Ideal)) (f22 : v22.ty.Contents (Elt Ideal))
    (L20 : List (View.Piece (Elt Ideal) (⟨2, ![64, 1024]⟩ : Shape) .f32)) (L21 L22 : List (View.Piece (Elt Ideal) (⟨2, ![1, 1024]⟩ : Shape) .f32))
    (i20 : ∀ a : Fin 2, (![0, o] : Fin 2 → ℕ) a + (![64, w] : Fin 2 → ℕ) a ≤ (![64, 1024] : Fin 2 → ℕ) a)
    (i21 i22 : ∀ a : Fin 2, (![0, o] : Fin 2 → ℕ) a + (![1, w] : Fin 2 → ℕ) a ≤ (![1, 1024] : Fin 2 → ℕ) a)
    (p20 : (⟨2, ![64, w]⟩ : Shape).Idx → EReal) (p21 p22 : (⟨2, ![1, w]⟩ : Shape).Idx → EReal)
    (K V : Fin 64 → Fin 256 → EReal) (Q : Fin 64 → Fin w → EReal) (M : Fin w → EReal) (L : Fin w → EReal) (A : Fin 64 → Fin w → EReal)
    (s : Fin 1024 → Key → EReal) (v : Fin 64 → Key → EReal) (kn qn : Fin 64 → Fin 1024 → EReal)
    (hs : ∀ q i : Fin 1024, s q (Sum.inr i) = if i.val ≤ q.val then ∑ x, kn x i * qn x q else ⊥)
    (hK : ∀ (x : Fin 64) (r : Fin 256) (i : Fin 1024), i.val = o + r.val → K x r = kn x i)
    (hQ : ∀ (x : Fin 64) (c : Fin w) (i : Fin 1024), i.val = o + c.val → Q x c = qn x i)
    (hV : ∀ (d : Fin 64) (r : Fin 256) (i : Fin 1024), i.val = o + r.val → V d r = v d (Sum.inr i))
    (hM : ∀ (c : Fin w) (q : Fin 1024), q.val = o + c.val → M c = v21.read (Elt Ideal) (v21.writes (Elt Ideal) f21 L21) (ix2 0 q))
    (hL : ∀ (c : Fin w) (q : Fin 1024), q.val = o + c.val → L c = v22.read (Elt Ideal) (v22.writes (Elt Ideal) f22 L22) (ix2 0 q))
    (hA : ∀ (d : Fin 64) (c : Fin w) (q : Fin 1024), q.val = o + c.val → A d c = v20.read (Elt Ideal) (v20.writes (Elt Ideal) f20 L20) (ix2 d q))
    (hp21 : ∀ c : Fin w, p21 (ix2 0 c) = mNew (M c) (fun r => sNew K Q r c))
    (hp22 : ∀ c : Fin w, p22 (ix2 0 c) = lNew (M c) (L c) (fun r => sNew K Q r c))
    (hp20 : ∀ (d : Fin 64) (c : Fin w), p20 (ix2 d c) = aNew (M c) (A d c) (fun r => sNew K Q r c) (V d))
    (h : ∀ q d, Attn.Inv (s q) (v d) (met T j q) (v21.read (Elt Ideal) (v21.writes (Elt Ideal) f21 L21) (ix2 0 q))
      (v22.read (Elt Ideal) (v22.writes (Elt Ideal) f22 L22) (ix2 0 q)) (v20.read (Elt Ideal) (v20.writes (Elt Ideal) f20 L20) (ix2 d q)))
    (q : Fin 1024) (d : Fin 64) :
    Attn.Inv (s q) (v d) (met T (j + 1) q)
      (v21.read (Elt Ideal) (v21.writes (Elt Ideal) f21 ((⟨Rect.unit (s := ⟨2, ![1, 1024]⟩) ![0, o] ![1, w] i21, p21⟩ : View.Piece (Elt Ideal) (⟨2, ![1, 1024]⟩ : Shape) .f32) :: L21)) (ix2 0 q))
      (v22.read (Elt Ideal) (v22.writes (Elt Ideal) f22 ((⟨Rect.unit (s := ⟨2, ![1, 1024]⟩) ![0, o] ![1, w] i22, p22⟩ : View.Piece (Elt Ideal) (⟨2, ![1, 1024]⟩ : Shape) .f32) :: L22)) (ix2 0 q))
      (v20.read (Elt Ideal) (v20.writes (Elt Ideal) f20 ((⟨Rect.unit (s := ⟨2, ![64, 1024]⟩) ![0, o] ![64, w] i20, p20⟩ : View.Piece (Elt Ideal) (⟨2, ![64, 1024]⟩ : Shape) .f32) :: L20)) (ix2 d q)) := by
  have hs' : ∀ (r : Fin 256) (c : Fin w) (q : Fin 1024) (i : Fin 1024), q.val = o + c.val → i.val = o + r.val → sNew K Q r c = s q (Sum.inr i) := by
    intro r c q i hq hi
    unfold sNew
    rw [select_sle _ _ (by omega) (by omega), hs, maskv_eq]
    have e : (∑ x, K x r * Q x c) = ∑ x, kn x i * qn x q := Finset.sum_congr rfl fun x _ => by rw [hK x r i hi, hQ x c q hq]
    rw [e]
    by_cases hc : r.val ≤ c.val
    · rw [if_pos hc, if_pos (by omega)]
    · rw [if_neg hc, if_neg (by omega)]
  obtain ⟨m, h1, h2, h3⟩ := stage T j o w ho hw hj v20 v21 v22 f20 f21 f22 L20 L21 L22 i20 i22 p20 p22 K V Q M L A s v hs' hV hM hL hA hp22 hp20 h q d
  refine inv_congr h3 ?_ rfl rfl
  by_cases hq : q.val < o
  · rw [read_cols_lt v21 f21 i21 p21 L21 0 q hq, h2 hq]
  · have hx : q.val - o < w := by omega
    have he : q.val = o + (⟨q.val - o, hx⟩ : Fin w).val := by show q.val = o + (q.val - o); omega
    rw [read_cols_ge v21 f21 i21 p21 L21 0 q ⟨q.val - o, hx⟩ he, h1 ⟨q.val - o, hx⟩ he, hp21]

/-- The last block of new keys, whose maximum is not stored. -/
theorem stage_last (T j o w : ℕ) (ho : o = 256 * j) (hw : o + w = 1024) (hj : 256 * (j + 1) ≤ 1024)
    {sg : RefSig} {κ1 κ2 κ3 : Kind} {sp1 sp2 sp3 : Space}
    (v20 : View sg κ1 sp1 (⟨2, ![64, 1024]⟩ : Shape) .f32) (v21 : View sg κ2 sp2 (⟨2, ![1, 1024]⟩ : Shape) .f32) (v22 : View sg κ3 sp3 (⟨2, ![1, 1024]⟩ : Shape) .f32)
    (f20 : v20.ty.Contents (Elt Ideal)) (f21 : v21.ty.Contents (Elt Ideal)) (f22 : v22.ty.Contents (Elt Ideal))
    (L20 : List (View.Piece (Elt Ideal) (⟨2, ![64, 1024]⟩ : Shape) .f32)) (L21 L22 : List (View.Piece (Elt Ideal) (⟨2, ![1, 1024]⟩ : Shape) .f32))
    (i20 : ∀ a : Fin 2, (![0, o] : Fin 2 → ℕ) a + (![64, w] : Fin 2 → ℕ) a ≤ (![64, 1024] : Fin 2 → ℕ) a)
    (i22 : ∀ a : Fin 2, (![0, o] : Fin 2 → ℕ) a + (![1, w] : Fin 2 → ℕ) a ≤ (![1, 1024] : Fin 2 → ℕ) a)
    (p20 : (⟨2, ![64, w]⟩ : Shape).Idx → EReal) (p22 : (⟨2, ![1, w]⟩ : Shape).Idx → EReal)
    (K V : Fin 64 → Fin 256 → EReal) (Q : Fin 64 → Fin w → EReal) (M : Fin w → EReal) (L : Fin w → EReal) (A : Fin 64 → Fin w → EReal)
    (s : Fin 1024 → Key → EReal) (v : Fin 64 → Key → EReal) (kn qn : Fin 64 → Fin 1024 → EReal)
    (hs : ∀ q i : Fin 1024, s q (Sum.inr i) = if i.val ≤ q.val then ∑ x, kn x i * qn x q else ⊥)
    (hK : ∀ (x : Fin 64) (r : Fin 256) (i : Fin 1024), i.val = o + r.val → K x r = kn x i)
    (hQ : ∀ (x : Fin 64) (c : Fin w) (i : Fin 1024), i.val = o + c.val → Q x c = qn x i)
    (hV : ∀ (d : Fin 64) (r : Fin 256) (i : Fin 1024), i.val = o + r.val → V d r = v d (Sum.inr i))
    (hM : ∀ (c : Fin w) (q : Fin 1024), q.val = o + c.val → M c = v21.read (Elt Ideal) (v21.writes (Elt Ideal) f21 L21) (ix2 0 q))
    (hL : ∀ (c : Fin w) (q : Fin 1024), q.val = o + c.val → L c = v22.read (Elt Ideal) (v22.writes (Elt Ideal) f22 L22) (ix2 0 q))
    (hA : ∀ (d : Fin 64) (c : Fin w) (q : Fin 1024), q.val = o + c.val → A d c = v20.read (Elt Ideal) (v20.writes (Elt Ideal) f20 L20) (ix2 d q))
    (hp22 : ∀ c : Fin w, p22 (ix2 0 c) = lNew (M c) (L c) (fun r => sNew K Q r c))
    (hp20 : ∀ (d : Fin 64) (c : Fin w), p20 (ix2 d c) = aNew (M c) (A d c) (fun r => sNew K Q r c) (V d))
    (h : ∀ q d, Attn.Inv (s q) (v d) (met T j q) (v21.read (Elt Ideal) (v21.writes (Elt Ideal) f21 L21) (ix2 0 q))
      (v22.read (Elt Ideal) (v22.writes (Elt Ideal) f22 L22) (ix2 0 q)) (v20.read (Elt Ideal) (v20.writes (Elt Ideal) f20 L20) (ix2 d q)))
    (q : Fin 1024) (d : Fin 64) :
    ∃ m, Attn.Inv (s q) (v d) (met T (j + 1) q) m
      (v22.read (Elt Ideal) (v22.writes (Elt Ideal) f22 ((⟨Rect.unit (s := ⟨2, ![1, 1024]⟩) ![0, o] ![1, w] i22, p22⟩ : View.Piece (Elt Ideal) (⟨2, ![1, 1024]⟩ : Shape) .f32) :: L22)) (ix2 0 q))
      (v20.read (Elt Ideal) (v20.writes (Elt Ideal) f20 ((⟨Rect.unit (s := ⟨2, ![64, 1024]⟩) ![0, o] ![64, w] i20, p20⟩ : View.Piece (Elt Ideal) (⟨2, ![64, 1024]⟩ : Shape) .f32) :: L20)) (ix2 d q)) := by
  have hs' : ∀ (r : Fin 256) (c : Fin w) (q : Fin 1024) (i : Fin 1024), q.val = o + c.val → i.val = o + r.val → sNew K Q r c = s q (Sum.inr i) := by
    intro r c q i hq hi
    unfold sNew
    rw [select_sle _ _ (by omega) (by omega), hs, maskv_eq]
    have e : (∑ x, K x r * Q x c) = ∑ x, kn x i * qn x q := Finset.sum_congr rfl fun x _ => by rw [hK x r i hi, hQ x c q hq]
    rw [e]
    by_cases hc : r.val ≤ c.val
    · rw [if_pos hc, if_pos (by omega)]
    · rw [if_neg hc, if_neg (by omega)]
  obtain ⟨m, _, _, h3⟩ := stage T j o w ho hw hj v20 v21 v22 f20 f21 f22 L20 L21 L22 i20 i22 p20 p22 K V Q M L A s v hs' hV hM hL hA hp22 hp20 h q d
  exact ⟨m, h3⟩

end Cert.KernelIdeal.Gen
-- ==== Proof.KernelIdeal.Off.lean ====
module

public import proofs.«01_k».proof.Proof.KernelIdeal.Mid
public import proofs.«01_k».proof.Proof.Words

@[expose] public section

set_option maxRecDepth 16384
set_option maxHeartbeats 400000

/-! Where the kernel's loads lie, and what one head computes, as a formula. -/

noncomputable section

namespace Cert.KernelIdeal.Gen

open Idealize.ShloMosaic Idealize.SL.Sem

theorem off1_eq (i : grid0.Coords) : k0_off1 i = ![(i 0).val] := by
  have h0 : (i 0).val < 8 := (i 0).isLt
  exact Affine.vec_cons (Affine.ofNat (i 0).val ⟨rfl, by omega⟩) rfl rfl

theorem off3_eq (i : grid0.Coords) : k0_off3 i = ![0, (2 * (i 1).val + 0) % 8, 0] := by
  have h0 : (i 1).val < 32 := (i 1).isLt
  have z : Affine.IsInt 0#32 0 := Affine.ofNat 0 (by omega)
  exact Affine.vec_cons z rfl <| Affine.vec_cons (Cert.Words.row_spec (i 1).val (by omega) 0 (by omega)) (by omega) <| Affine.vec_cons z rfl rfl

theorem off9_eq (i : grid0.Coords) : k0_off9 i = ![0, (2 * (i 1).val + 1) % 8, 0] := by
  have h0 : (i 1).val < 32 := (i 1).isLt
  have z : Affine.IsInt 0#32 0 := Affine.ofNat 0 (by omega)
  exact Affine.vec_cons z rfl <| Affine.vec_cons (Cert.Words.row_spec (i 1).val (by omega) 1 (by omega)) (by omega) <| Affine.vec_cons z rfl rfl

theorem off4_eq (v : BitVec 32) (k : Fin (k0_t1_loop v).trips) (hk : k.val < 32) : k0_off4 v k = ![0, 0, 0, 512 * k.val] := by
  have z : Affine.IsInt 0#32 0 := Affine.ofNat 0 (by omega)
  exact Affine.vec_cons z rfl <| Affine.vec_cons z rfl <| Affine.vec_cons z rfl <| Affine.vec_cons (Cert.Words.column k hk) (by omega) rfl

theorem off10_eq (v : BitVec 32) (k : Fin (k0_t3_loop v).trips) (hk : k.val < 32) : k0_off10 v k = ![0, 1, 0, 512 * k.val] := by
  have z : Affine.IsInt 0#32 0 := Affine.ofNat 0 (by omega)
  have o : Affine.IsInt 1#32 1 := Affine.ofNat 1 (by omega)
  exact Affine.vec_cons z rfl <| Affine.vec_cons o rfl <| Affine.vec_cons z rfl <| Affine.vec_cons (Cert.Words.column k hk) (by omega) rfl

theorem off5_eq (i : grid0.Coords) (v : BitVec 32) (k : Fin (k0_t1_loop v).trips) (hk : k.val < 32) :
    k0_off5 i v k = ![0, (2 * (i 1).val + 0) % 8, 512 * k.val] := by
  have h0 : (i 1).val < 32 := (i 1).isLt
  have z : Affine.IsInt 0#32 0 := Affine.ofNat 0 (by omega)
  exact Affine.vec_cons z rfl <| Affine.vec_cons (Cert.Words.row_spec (i 1).val (by omega) 0 (by omega)) (by omega) <| Affine.vec_cons (Cert.Words.column k hk) (by omega) rfl

theorem off11_eq (i : grid0.Coords) (v : BitVec 32) (k : Fin (k0_t3_loop v).trips) (hk : k.val < 32) :
    k0_off11 i v k = ![0, (2 * (i 1).val + 1) % 8, 512 * k.val] := by
  have h0 : (i 1).val < 32 := (i 1).isLt
  have z : Affine.IsInt 0#32 0 := Affine.ofNat 0 (by omega)
  exact Affine.vec_cons z rfl <| Affine.vec_cons (Cert.Words.row_spec (i 1).val (by omega) 1 (by omega)) (by omega) <| Affine.vec_cons (Cert.Words.column k hk) (by omega) rfl

theorem idx_at4 {S : Fin 4 → ℕ} {T : Fin 4 → ℕ} (off : Fin 4 → ℕ) (inb : ∀ a : Fin 4, off a + T a ≤ S a) (a b c e : ℕ) (h : off = ![a, b, c, e])
    (x : (⟨4, T⟩ : Shape).Idx) (y : (⟨4, S⟩ : Shape).Idx) (h0 : (y 0).val = a + (x 0).val) (h1 : (y 1).val = b + (x 1).val)
    (h2 : (y 2).val = c + (x 2).val) (h3 : (y 3).val = e + (x 3).val) :
    (Rect.unit (s := ⟨4, S⟩) off T inb).toLoadRect.idx x = y := by
  subst h
  funext z
  apply Fin.ext
  fin_cases z
  · show a + 1 * (x 0).val = (y 0).val
    omega
  · show b + 1 * (x 1).val = (y 1).val
    omega
  · show c + 1 * (x 2).val = (y 2).val
    omega
  · show e + 1 * (x 3).val = (y 3).val
    omega

theorem idx_at3 {S : Fin 3 → ℕ} {T : Fin 3 → ℕ} (off : Fin 3 → ℕ) (inb : ∀ a : Fin 3, off a + T a ≤ S a) (a b c : ℕ) (h : off = ![a, b, c])
    (x : (⟨3, T⟩ : Shape).Idx) (y : (⟨3, S⟩ : Shape).Idx) (h0 : (y 0).val = a + (x 0).val) (h1 : (y 1).val = b + (x 1).val)
    (h2 : (y 2).val = c + (x 2).val) :
    (Rect.unit (s := ⟨3, S⟩) off T inb).toLoadRect.idx x = y := by
  subst h
  funext z
  apply Fin.ext
  fin_cases z
  · show a + 1 * (x 0).val = (y 0).val
    omega
  · show b + 1 * (x 1).val = (y 1).val
    omega
  · show c + 1 * (x 2).val = (y 2).val
    omega

/-- A load of a block of columns of a scratch buffer written whole: the value at those columns. -/
theorem scratch_at {n o w : ℕ} {sg : RefSig} {kd : Kind} {sp : Space} {e : EltTy}
    (v : View sg kd sp (⟨2, ![n, 1024]⟩ : Shape) e) (f : v.ty.Contents (Elt Ideal))
    (inb0 : ∀ a : Fin 2, (![0, 0] : Fin 2 → ℕ) a + (![n, 1024] : Fin 2 → ℕ) a ≤ (![n, 1024] : Fin 2 → ℕ) a)
    (inb : ∀ a : Fin 2, (![0, o] : Fin 2 → ℕ) a + (![n, w] : Fin 2 → ℕ) a ≤ (![n, 1024] : Fin 2 → ℕ) a)
    (p : (⟨2, ![n, 1024]⟩ : Shape).Idx → Elt Ideal e) (L : List (View.Piece (Elt Ideal) (⟨2, ![n, 1024]⟩ : Shape) e)) (val : Fin n → Fin 1024 → Elt Ideal e)
    (hp : ∀ x i, p (ix2 x i) = val x i) (x : Fin n) (c : Fin w) (i : Fin 1024) (hi : i.val = o + c.val) :
    v.readAt (Elt Ideal) (Rect.unit (s := ⟨2, ![n, 1024]⟩) ![0, o] ![n, w] inb).toLoadRect
      (v.writes (Elt Ideal) f ((⟨Rect.unit (s := ⟨2, ![n, 1024]⟩) ![0, 0] ![n, 1024] inb0, p⟩ : View.Piece (Elt Ideal) (⟨2, ![n, 1024]⟩ : Shape) e) :: L)) (ix2 x c) = val x i := by
  rw [View.readAt_apply, idx_cols inb x c x i rfl hi, read_cols_ge v f inb0 p L x i i (by omega), hp]

/-- A load of a block of columns. -/
theorem load_at {n o w : ℕ} {sg : RefSig} {kd : Kind} {sp : Space} {e : EltTy}
    (v : View sg kd sp (⟨2, ![n, 1024]⟩ : Shape) e) (f : v.ty.Contents (Elt Ideal))
    (inb : ∀ a : Fin 2, (![0, o] : Fin 2 → ℕ) a + (![n, w] : Fin 2 → ℕ) a ≤ (![n, 1024] : Fin 2 → ℕ) a)
    (x : Fin n) (c : Fin w) (i : Fin 1024) (hi : i.val = o + c.val) :
    v.readAt (Elt Ideal) (Rect.unit (s := ⟨2, ![n, 1024]⟩) ![0, o] ![n, w] inb).toLoadRect f (ix2 x c) = v.read (Elt Ideal) f (ix2 x i) := by
  rw [View.readAt_apply, idx_cols inb x c x i rfl hi]

/-- The scores of one query of a head. -/
def hS (plen : BitVec 32) (q kn : Fin 64 → Fin 1024 → EReal) (kc : Fin 64 → Fin 16384 → EReal) (ks : Fin 64 → EReal) (i : Fin 1024) : Key → EReal :=
  Sum.elim (fun p => Scalar.select (IntOp.cmpi .slt (BitVec.ofNat 32 p.val) plen) (∑ x, kc x p * ks x * q x i) ⊥)
    (fun j => if j.val ≤ i.val then ∑ x, kn x j * q x i else ⊥)

/-- The values of a head, at one dimension. -/
def hV (vn : Fin 64 → Fin 1024 → EReal) (vc : Fin 64 → Fin 16384 → EReal) (vs : Fin 16384 → EReal) (d : Fin 64) : Key → EReal :=
  Sum.elim (fun p => vc d p * vs p) (fun j => vn d j)

/-- The softmax of the scores `s`, applied to the values `v`. -/
def hOut (s v : Key → EReal) : EReal :=
  Ideal.div (∑ k, v k * Ideal.exp (s k - Finset.univ.sup s)) (∑ k, Ideal.exp (s k - Finset.univ.sup s))

theorem hS_out (plen : BitVec 32) (hp : plen.toInt ≤ 16384) (q kn kc ks) (i : Fin 1024) (k : Key)
    (hk : k ∉ met ((plen.toInt + 511) / 512).toNat 4 i) : hS plen q kn kc ks i k = ⊥ := by
  cases k with
  | inl p =>
    rw [mem_met_inl] at hk
    have h1 : ¬ ((p.val : ℤ) < plen.toInt) := by omega
    show Scalar.select (BitVec.ofBool (BitVec.slt (BitVec.ofNat 32 p.val) plen)) _ ⊥ = ⊥
    rw [BitVec.slt_eq_decide, toInt_small _ (by omega), decide_eq_false h1]
    rfl
  | inr j =>
    rw [mem_met_inr] at hk
    have h1 : ¬ j.val ≤ i.val := fun h => hk ⟨by omega, by omega⟩
    exact if_neg h1

/-- A head's last sums give its output. -/
theorem finish {plen : BitVec 32} (hp : plen.toInt ≤ 16384) {q kn : Fin 64 → Fin 1024 → EReal} {kc : Fin 64 → Fin 16384 → EReal} {ks : Fin 64 → EReal}
    {i : Fin 1024} {v : Key → EReal} {l a : EReal}
    (h : ∃ m, Attn.Inv (hS plen q kn kc ks i) v (met ((plen.toInt + 511) / 512).toNat 4 i) m l a) :
    Ideal.div a l = hOut (hS plen q kn kc ks i) v := by
  obtain ⟨m, h⟩ := h
  have h' := h.all (hS_out plen hp q kn kc ks i)
  rw [h'.hl, h'.ha, h'.hm]
  rfl

theorem pay96_at (a : Vec Ideal S64x1024 .f32) (l : Vec Ideal S1x1024 .f32) (q : Fin 1024) (d : Fin 64) :
    k0_pay96 (F := Ideal) a l (ix3 0 q d) = Ideal.div (a (ix2 d q)) (l (ix2 0 q)) := by
  pointwise [k0_pay96]

theorem pay1_at (a : Vec Ideal S64x1024 .f32) (l : Vec Ideal S1x1024 .f32) (q : Fin 1024) (d : Fin 64) :
    k0_pay1 (F := Ideal) a l (ix3 0 q d) = Ideal.div (a (ix2 d q)) (l (ix2 0 q)) := by
  pointwise [k0_pay1]

theorem pay56_at (a : FVec Ideal S64x1024 .bf16) (d : Fin 64) (q : Fin 1024) : k0_pay56 (F := Ideal) a (ix2 d q) = a (ix2 d q) := by
  pointwise [k0_pay56]

theorem met_zero (q : Fin 1024) : met 0 0 q = ∅ := by
  ext k
  cases k with
  | inl p => rw [mem_met_inl]; simp
  | inr p => rw [mem_met_inr]; simp

theorem init_inv {s v : Key → EReal} {q : Fin 1024} {m l a : EReal} (hm : m = ⊥) (hl : l = 0) (ha : a = 0) : Attn.Inv s v (met 0 0 q) m l a := by
  rw [met_zero, hm, hl, ha]
  exact Attn.Inv.empty s v

theorem pay58_at (c : Fin 1024) : k0_pay58 (F := Ideal) (ix2 0 c) = ⊥ := by
  refine Eq.trans ?_ maskv_eq
  pointwise [k0_pay58]
theorem pay131_at (c : Fin 1024) : k0_pay131 (F := Ideal) (ix2 0 c) = ⊥ := by
  refine Eq.trans ?_ maskv_eq
  pointwise [k0_pay131]
theorem pay59_at (c : Fin 1024) : k0_pay59 (F := Ideal) (ix2 0 c) = 0 := by
  refine Eq.trans ?_ Ideal.ofBits_zero_f32
  pointwise [k0_pay59]
theorem pay132_at (c : Fin 1024) : k0_pay132 (F := Ideal) (ix2 0 c) = 0 := by
  refine Eq.trans ?_ Ideal.ofBits_zero_f32
  pointwise [k0_pay132]
theorem pay60_at (d : Fin 64) (c : Fin 1024) : k0_pay60 (F := Ideal) (ix2 d c) = 0 := by
  refine Eq.trans ?_ Ideal.ofBits_zero_f32
  pointwise [k0_pay60]
theorem pay133_at (d : Fin 64) (c : Fin 1024) : k0_pay133 (F := Ideal) (ix2 d c) = 0 := by
  refine Eq.trans ?_ Ideal.ofBits_zero_f32
  pointwise [k0_pay133]

end Cert.KernelIdeal.Gen
-- ==== Proof.KernelIdeal.Formula.lean ====
module

public import proofs.«01_k».proof.Proof.KernelIdeal.Off

@[expose] public section

/-! The result as one formula over the argument arrays. -/

noncomputable section

namespace Cert.Formula

open Idealize.ShloMosaic Cert.KernelIdeal.Gen

/-- The result at batch entry `b`, query `q`, head `h` and column `d`: scaled queries against the cached keys below
    the cached length and the new keys up to the query itself, softmax over both, and the same for the values. -/
def outF (a0 a1 a2 : Fin 8 → Fin 1024 → Fin 64 → Fin 64 → EReal) (a3 a4 : Fin 8 → Fin 16384 → Fin 64 → Fin 64 → EReal)
    (a5 : Fin 8 → Fin 64 → Fin 64 → EReal) (a6 : Fin 8 → Fin 16384 → Fin 64 → EReal) (a7 : Fin 8 → BitVec 32)
    (b : Fin 8) (q : Fin 1024) (h d : Fin 64) : EReal :=
  hOut (hS (a7 b) (fun d q => a0 b q h d * Ideal.ofBits .f32 0x3E000000#32) (fun d j => a1 b j h d) (fun d p => a3 b p h d) (fun d => a5 b h d) q)
    (hV (fun d j => a2 b j h d) (fun d p => a4 b p h d) (fun p => a6 b p h) d)

end Cert.Formula
-- ==== Proof.KernelIdeal.Blocks.lean ====
module

public import proofs.«01_k».proof.Proof.KernelIdeal.Formula
public import proofs.«01_k».proof.Proof.KernelIdeal.Hyps
public import Idealize.ShloMosaic.Lib.StableHlo.ReadAt
public import Idealize.ShloMosaic.Lib.Pipeline.ValueKit

@[expose] public section

set_option maxRecDepth 16384
set_option maxHeartbeats 1000000

/-! What the kernel's input blocks hold at a grid point, over the argument arrays. -/

noncomputable section

namespace Cert.KernelIdeal.Gen

open Idealize.ShloMosaic Idealize.ShloMosaic.TcCoe Idealize.SL.Sem

variable (m : (ℓ : Loc nD τ sig) → Buf (Elt Ideal) ℓ)

theorem tr_all : ∀ t : Fin grid0.N, cc0_transform_0 (grid0.coords t) = ![t.val / 32, t.val % 32, 0, 0] ∧ cc0_transform_1 (grid0.coords t) = ![t.val / 32, t.val % 32, 0, 0]
    ∧ cc0_transform_2 (grid0.coords t) = ![t.val / 32, t.val % 32, 0, 0] ∧ cc0_transform_3 (grid0.coords t) = ![t.val / 32, t.val % 32, 0, 0]
    ∧ cc0_transform_4 (grid0.coords t) = ![t.val / 32, t.val % 32, 0, 0] ∧ cc0_transform_5 (grid0.coords t) = ![t.val / 32, (t.val % 32) / 4, 0]
    ∧ cc0_transform_6 (grid0.coords t) = ![t.val / 32, (t.val % 32) / 4, 0] ∧ cc0_transform_7 (grid0.coords t) = ![t.val / 32, 0, t.val % 32]
    ∧ (grid0.coords t 0).val = t.val / 32 ∧ (grid0.coords t 1).val = t.val % 32 := by decide +kernel

theorem V0_at (c : Dev nD) (b : Fin 8) (h : Fin 64) (d : Fin 64) (q : Fin 1024) :
    (V m c main_v0 : S8x64x64x1024.Idx → EReal) (ix4 b h d q) = m ((c : Thread nD τ).loc main_arg0) (ix4 b q h d) := by
  entry_read
  pointwise

/-- Window 0: a pair of heads of one batch entry. -/
theorem blk0 (hO : Ok m) (c : Dev nD) (t : Fin (cfgM m hO).N) (e : Fin 2) (d : Fin 64) (q : Fin 1024) (b : Fin 8) (h : Fin 64)
    (hb : b.val = t.val / 32) (hh : h.val = 2 * (t.val % 32) + e.val) :
    iblk m hO c 0 t (ix4 0 e d q) = m ((c : Thread nD τ).loc main_arg0) (ix4 b q h d) := by
  have h0 := (tr_all t).1
  have ea : ∀ a, ((((cfgM m hO).win 0).blk t).view.emb (ix4 0 e d q) a).val = cc0_transform_0 (grid0.coords t) a * (![1, 2, 64, 1024] : Fin 4 → ℕ) a + ((ix4 (0 : Fin 1) e d q) a).val :=
    fun a => ValueKit.rect_emb_unit_val _ _ _ _ a
  have ee : (((cfgM m hO).win 0).blk t).view.emb (ix4 0 e d q) = (ix4 b h d q : S8x64x64x1024.Idx) := by
    funext a
    apply Fin.ext
    rw [ea, h0]
    fin_cases a
    · show t.val / 32 * 1 + 0 = b.val; omega
    · show t.val % 32 * 2 + e.val = h.val; omega
    · show 0 * 64 + d.val = d.val; omega
    · show 0 * 1024 + q.val = q.val; omega
  show (V m c main_v0 : S8x64x64x1024.Idx → EReal) ((((cfgM m hO).win 0).blk t).view.emb (ix4 0 e d q)) = _
  rw [ee]
  exact V0_at m c b h d q

theorem V1_at (c : Dev nD) (b : Fin 8) (h : Fin 64) (d : Fin 64) (q : Fin 1024) :
    (V m c main_v1 : S8x64x64x1024.Idx → EReal) (ix4 b h d q) = m ((c : Thread nD τ).loc main_arg1) (ix4 b q h d) := by
  entry_read
  pointwise

/-- Window 1: a pair of heads of one batch entry. -/
theorem blk1 (hO : Ok m) (c : Dev nD) (t : Fin (cfgM m hO).N) (e : Fin 2) (d : Fin 64) (q : Fin 1024) (b : Fin 8) (h : Fin 64)
    (hb : b.val = t.val / 32) (hh : h.val = 2 * (t.val % 32) + e.val) :
    iblk m hO c 1 t (ix4 0 e d q) = m ((c : Thread nD τ).loc main_arg1) (ix4 b q h d) := by
  have h0 := (tr_all t).2.1
  have ea : ∀ a, ((((cfgM m hO).win 1).blk t).view.emb (ix4 0 e d q) a).val = cc0_transform_1 (grid0.coords t) a * (![1, 2, 64, 1024] : Fin 4 → ℕ) a + ((ix4 (0 : Fin 1) e d q) a).val :=
    fun a => ValueKit.rect_emb_unit_val _ _ _ _ a
  have ee : (((cfgM m hO).win 1).blk t).view.emb (ix4 0 e d q) = (ix4 b h d q : S8x64x64x1024.Idx) := by
    funext a
    apply Fin.ext
    rw [ea, h0]
    fin_cases a
    · show t.val / 32 * 1 + 0 = b.val; omega
    · show t.val % 32 * 2 + e.val = h.val; omega
    · show 0 * 64 + d.val = d.val; omega
    · show 0 * 1024 + q.val = q.val; omega
  show (V m c main_v1 : S8x64x64x1024.Idx → EReal) ((((cfgM m hO).win 1).blk t).view.emb (ix4 0 e d q)) = _
  rw [ee]
  exact V1_at m c b h d q

theorem V2_at (c : Dev nD) (b : Fin 8) (h : Fin 64) (d : Fin 64) (q : Fin 1024) :
    (V m c main_v2 : S8x64x64x1024.Idx → EReal) (ix4 b h d q) = m ((c : Thread nD τ).loc main_arg2) (ix4 b q h d) := by
  entry_read
  pointwise

/-- Window 2: a pair of heads of one batch entry. -/
theorem blk2 (hO : Ok m) (c : Dev nD) (t : Fin (cfgM m hO).N) (e : Fin 2) (d : Fin 64) (q : Fin 1024) (b : Fin 8) (h : Fin 64)
    (hb : b.val = t.val / 32) (hh : h.val = 2 * (t.val % 32) + e.val) :
    iblk m hO c 2 t (ix4 0 e d q) = m ((c : Thread nD τ).loc main_arg2) (ix4 b q h d) := by
  have h0 := (tr_all t).2.2.1
  have ea : ∀ a, ((((cfgM m hO).win 2).blk t).view.emb (ix4 0 e d q) a).val = cc0_transform_2 (grid0.coords t) a * (![1, 2, 64, 1024] : Fin 4 → ℕ) a + ((ix4 (0 : Fin 1) e d q) a).val :=
    fun a => ValueKit.rect_emb_unit_val _ _ _ _ a
  have ee : (((cfgM m hO).win 2).blk t).view.emb (ix4 0 e d q) = (ix4 b h d q : S8x64x64x1024.Idx) := by
    funext a
    apply Fin.ext
    rw [ea, h0]
    fin_cases a
    · show t.val / 32 * 1 + 0 = b.val; omega
    · show t.val % 32 * 2 + e.val = h.val; omega
    · show 0 * 64 + d.val = d.val; omega
    · show 0 * 1024 + q.val = q.val; omega
  show (V m c main_v2 : S8x64x64x1024.Idx → EReal) ((((cfgM m hO).win 2).blk t).view.emb (ix4 0 e d q)) = _
  rw [ee]
  exact V2_at m c b h d q

theorem V3_at (c : Dev nD) (b : Fin 8) (h : Fin 64) (d : Fin 64) (q : Fin 16384) :
    (V m c main_v3 : S8x64x64x16384.Idx → EReal) (ix4 b h d q) = m ((c : Thread nD τ).loc main_arg3) (ix4 b q h d) := by
  entry_read
  pointwise

/-- Window 3: a pair of heads of one batch entry. -/
theorem blk3 (hO : Ok m) (c : Dev nD) (t : Fin (cfgM m hO).N) (e : Fin 2) (d : Fin 64) (q : Fin 16384) (b : Fin 8) (h : Fin 64)
    (hb : b.val = t.val / 32) (hh : h.val = 2 * (t.val % 32) + e.val) :
    iblk m hO c 3 t (ix4 0 e d q) = m ((c : Thread nD τ).loc main_arg3) (ix4 b q h d) := by
  have h0 := (tr_all t).2.2.2.1
  have ea : ∀ a, ((((cfgM m hO).win 3).blk t).view.emb (ix4 0 e d q) a).val = cc0_transform_3 (grid0.coords t) a * (![1, 2, 64, 16384] : Fin 4 → ℕ) a + ((ix4 (0 : Fin 1) e d q) a).val :=
    fun a => ValueKit.rect_emb_unit_val _ _ _ _ a
  have ee : (((cfgM m hO).win 3).blk t).view.emb (ix4 0 e d q) = (ix4 b h d q : S8x64x64x16384.Idx) := by
    funext a
    apply Fin.ext
    rw [ea, h0]
    fin_cases a
    · show t.val / 32 * 1 + 0 = b.val; omega
    · show t.val % 32 * 2 + e.val = h.val; omega
    · show 0 * 64 + d.val = d.val; omega
    · show 0 * 16384 + q.val = q.val; omega
  show (V m c main_v3 : S8x64x64x16384.Idx → EReal) ((((cfgM m hO).win 3).blk t).view.emb (ix4 0 e d q)) = _
  rw [ee]
  exact V3_at m c b h d q

theorem V4_at (c : Dev nD) (b : Fin 8) (h : Fin 64) (d : Fin 64) (q : Fin 16384) :
    (V m c main_v4 : S8x64x64x16384.Idx → EReal) (ix4 b h d q) = m ((c : Thread nD τ).loc main_arg4) (ix4 b q h d) := by
  entry_read
  pointwise

/-- Window 4: a pair of heads of one batch entry. -/
theorem blk4 (hO : Ok m) (c : Dev nD) (t : Fin (cfgM m hO).N) (e : Fin 2) (d : Fin 64) (q : Fin 16384) (b : Fin 8) (h : Fin 64)
    (hb : b.val = t.val / 32) (hh : h.val = 2 * (t.val % 32) + e.val) :
    iblk m hO c 4 t (ix4 0 e d q) = m ((c : Thread nD τ).loc main_arg4) (ix4 b q h d) := by
  have h0 := (tr_all t).2.2.2.2.1
  have ea : ∀ a, ((((cfgM m hO).win 4).blk t).view.emb (ix4 0 e d q) a).val = cc0_transform_4 (grid0.coords t) a * (![1, 2, 64, 16384] : Fin 4 → ℕ) a + ((ix4 (0 : Fin 1) e d q) a).val :=
    fun a => ValueKit.rect_emb_unit_val _ _ _ _ a
  have ee : (((cfgM m hO).win 4).blk t).view.emb (ix4 0 e d q) = (ix4 b h d q : S8x64x64x16384.Idx) := by
    funext a
    apply Fin.ext
    rw [ea, h0]
    fin_cases a
    · show t.val / 32 * 1 + 0 = b.val; omega
    · show t.val % 32 * 2 + e.val = h.val; omega
    · show 0 * 64 + d.val = d.val; omega
    · show 0 * 16384 + q.val = q.val; omega
  show (V m c main_v4 : S8x64x64x16384.Idx → EReal) ((((cfgM m hO).win 4).blk t).view.emb (ix4 0 e d q)) = _
  rw [ee]
  exact V4_at m c b h d q

/-- Window 5: the scales of eight heads of one batch entry. -/
theorem blk5 (hO : Ok m) (c : Dev nD) (t : Fin (cfgM m hO).N) (e : Fin 8) (d : Fin 64) (b : Fin 8) (h : Fin 64)
    (hb : b.val = t.val / 32) (hh : h.val = 8 * ((t.val % 32) / 4) + e.val) :
    iblk m hO c 5 t (ix3 0 e d) = m ((c : Thread nD τ).loc main_arg5) (ix3 b h d) := by
  have h0 := (tr_all t).2.2.2.2.2.1
  have ea : ∀ a, ((((cfgM m hO).win 5).blk t).view.emb (ix3 0 e d) a).val = cc0_transform_5 (grid0.coords t) a * (![1, 8, 64] : Fin 3 → ℕ) a + ((ix3 (0 : Fin 1) e d) a).val :=
    fun a => ValueKit.rect_emb_unit_val _ _ _ _ a
  have ee : (((cfgM m hO).win 5).blk t).view.emb (ix3 0 e d) = (ix3 b h d : S8x64x64.Idx) := by
    funext a
    apply Fin.ext
    rw [ea, h0]
    fin_cases a
    · show t.val / 32 * 1 + 0 = b.val; omega
    · show (t.val % 32) / 4 * 8 + e.val = h.val; omega
    · show 0 * 64 + d.val = d.val; omega
  show (V m c main_arg5 : S8x64x64.Idx → EReal) ((((cfgM m hO).win 5).blk t).view.emb (ix3 0 e d)) = _
  rw [ee]
  exact congrFun (V_main_arg5 m c) _

theorem V6_at (c : Dev nD) (b : Fin 8) (h : Fin 64) (d : Fin 16384) :
    (V m c main_v5 : S8x64x16384.Idx → EReal) (ix3 b h d) = m ((c : Thread nD τ).loc main_arg6) (ix3 b d h) := by
  entry_read
  pointwise

/-- Window 6: the scales of eight heads of one batch entry. -/
theorem blk6 (hO : Ok m) (c : Dev nD) (t : Fin (cfgM m hO).N) (e : Fin 8) (d : Fin 16384) (b : Fin 8) (h : Fin 64)
    (hb : b.val = t.val / 32) (hh : h.val = 8 * ((t.val % 32) / 4) + e.val) :
    iblk m hO c 6 t (ix3 0 e d) = m ((c : Thread nD τ).loc main_arg6) (ix3 b d h) := by
  have h0 := (tr_all t).2.2.2.2.2.2.1
  have ea : ∀ a, ((((cfgM m hO).win 6).blk t).view.emb (ix3 0 e d) a).val = cc0_transform_6 (grid0.coords t) a * (![1, 8, 16384] : Fin 3 → ℕ) a + ((ix3 (0 : Fin 1) e d) a).val :=
    fun a => ValueKit.rect_emb_unit_val _ _ _ _ a
  have ee : (((cfgM m hO).win 6).blk t).view.emb (ix3 0 e d) = (ix3 b h d : S8x64x16384.Idx) := by
    funext a
    apply Fin.ext
    rw [ea, h0]
    fin_cases a
    · show t.val / 32 * 1 + 0 = b.val; omega
    · show (t.val % 32) / 4 * 8 + e.val = h.val; omega
    · show 0 * 16384 + d.val = d.val; omega
  show (V m c main_v5 : S8x64x16384.Idx → EReal) ((((cfgM m hO).win 6).blk t).view.emb (ix3 0 e d)) = _
  rw [ee]
  exact V6_at m c b h d

end Cert.KernelIdeal.Gen
-- ==== Proof.KernelIdeal.Cover.lean ====
module

public import proofs.«01_k».proof.Proof.KernelIdeal.Blocks
public import Idealize.ShloMosaic.Lib.Pipeline.ValueKit

@[expose] public section

set_option maxRecDepth 16384
set_option maxHeartbeats 1000000

/-! The kernel's result array after the run, from what the body leaves in each output block. -/

noncomputable section

namespace Cert.KernelIdeal.Gen

open Idealize.ShloMosaic Idealize.ShloMosaic.TcCoe Idealize.SL.Sem

variable (m : (ℓ : Loc nD τ sig) → Buf (Elt Ideal) ℓ)

/-- Where the output block of a grid point lies. -/
theorem emb7 (hO : Ok m) (t : Fin (cfgM m hO).N) (q : Fin 1024) (e : Fin 128) (b : Fin 8) (x : Fin 4096)
    (hb : b.val = t.val / 32) (hx : x.val = 128 * (t.val % 32) + e.val) :
    (((cfgM m hO).win 7).blk t).view.emb (ix3 0 q e) = (ix3 b q x : S8x1024x4096.Idx) := by
  have h0 := (tr_all t).2.2.2.2.2.2.2.1
  have ea : ∀ a, ((((cfgM m hO).win 7).blk t).view.emb (ix3 0 q e) a).val = cc0_transform_7 (grid0.coords t) a * (![1, 1024, 128] : Fin 3 → ℕ) a + ((ix3 (0 : Fin 1) q e) a).val :=
    fun a => ValueKit.rect_emb_unit_val _ _ _ _ a
  funext a
  apply Fin.ext
  rw [ea, h0]
  fin_cases a
  · show t.val / 32 * 1 + 0 = b.val; omega
  · show 0 * 1024 + q.val = q.val; omega
  · show t.val % 32 * 128 + e.val = x.val; omega

/-- The formula over the argument arrays. -/
def outV (c : Dev nD) (b : Fin 8) (q : Fin 1024) (h d : Fin 64) : EReal :=
  Formula.outF (fun b q h d => m ((c : Thread nD τ).loc main_arg0) (ix4 b q h d)) (fun b q h d => m ((c : Thread nD τ).loc main_arg1) (ix4 b q h d))
    (fun b q h d => m ((c : Thread nD τ).loc main_arg2) (ix4 b q h d)) (fun b q h d => m ((c : Thread nD τ).loc main_arg3) (ix4 b q h d))
    (fun b q h d => m ((c : Thread nD τ).loc main_arg4) (ix4 b q h d)) (fun b h d => m ((c : Thread nD τ).loc main_arg5) (ix3 b h d))
    (fun b p h => m ((c : Thread nD τ).loc main_arg6) (ix3 b p h)) (fun b => m ((c : Thread nD τ).loc main_arg7) (ix1 b)) b q h d

/-- The kernel's result over the argument arrays: head `x / 64`, dimension `x % 64`. -/
def outK (c : Dev nD) : S8x1024x4096.Idx → EReal := fun y =>
  outV m c (y 0) (y 1) ⟨(y 2).val / 64, Nat.div_lt_of_lt_mul (lt_of_lt_of_eq (y 2).isLt rfl)⟩ ⟨(y 2).val % 64, Nat.mod_lt _ (by decide)⟩

theorem outK_at (c : Dev nD) (b : Fin 8) (q : Fin 1024) (x : Fin 4096) (h d : Fin 64) (hh : h.val = x.val / 64) (hd : d.val = x.val % 64) :
    outK m c (ix3 b q x) = outV m c b q h d :=
  congrArg₂ (outV m c b q) (Fin.ext hh.symm) (Fin.ext hd.symm)

/-- The word the body reads from the table is the batch entry's cached length. -/
theorem word_at (i : grid0.Coords) (xt0 : S8.Idx → BitVec 32) (b : Fin 8) (hb : b.val = (i 0).val) :
    tbM0_0.view.readAt (Elt Ideal) (Rect.unit (s := S8) (k0_off1 i) S1.size (k0_off1_inb i)).toLoadRect xt0 (Shape.Idx.first (numel1_S1.symm ▸ Nat.one_pos)) = xt0 (ix1 b) := by
  show xt0 _ = xt0 _
  refine congrArg xt0 (funext fun a => Fin.ext ?_)
  fin_cases a
  refine (ValueKit.rect_emb_unit_val _ _ _ _ _).trans ?_
  have e : k0_off1 i 0 = (i 0).val := congrFun (off1_eq i) 0
  show k0_off1 i 0 + 0 = b.val
  omega

theorem eta7 (y : S1x1024x128.Idx) : y = ix3 0 (y 1) (y 2) := by
  funext a
  match a with
  | ⟨0, _⟩ => exact Subsingleton.elim (α := Fin 1) _ _
  | ⟨1, _⟩ => rfl
  | ⟨2, _⟩ => rfl

theorem eta7' (y : S8x1024x4096.Idx) : ix3 (y 0) (y 1) (y 2) = y := by
  funext a
  match a with
  | ⟨0, _⟩ => rfl
  | ⟨1, _⟩ => rfl
  | ⟨2, _⟩ => rfl

/-- The output blocks cover the result. -/
theorem cover7 (hO : Ok m) (y : S8x1024x4096.Idx) : ∃ t : Fin (cfgM m hO).N, ((cfgM m hO).win 7).flush t = true ∧ y ∈ (((cfgM m hO).win 7).blk t).view.set := by
  have h0 : (y 0).val < 8 := (y 0).isLt
  have h2 : (y 2).val < 4096 := (y 2).isLt
  have hN : 32 * (y 0).val + (y 2).val / 128 < grid0.N := by
    have hg : grid0.N = 256 := by decide
    omega
  have e := emb7 m hO (⟨32 * (y 0).val + (y 2).val / 128, hN⟩ : Fin grid0.N) (y 1) ⟨(y 2).val % 128, Nat.mod_lt _ (by decide)⟩ (y 0) (y 2)
    (by show _ = (32 * (y 0).val + (y 2).val / 128) / 32; omega) (by show _ = 128 * ((32 * (y 0).val + (y 2).val / 128) % 32) + (y 2).val % 128; omega)
  refine ⟨(⟨32 * (y 0).val + (y 2).val / 128, hN⟩ : Fin grid0.N), flush0_7 _ _, ?_⟩
  have hm := View.emb_mem_set (((cfgM m hO).win 7).blk (⟨32 * (y 0).val + (y 2).val / 128, hN⟩ : Fin grid0.N)).view (ix3 0 (y 1) ⟨(y 2).val % 128, Nat.mod_lt _ (by decide)⟩)
  exact Eq.mp (congrArg (fun z => z ∈ (((cfgM m hO).win 7).blk (⟨32 * (y 0).val + (y 2).val / 128, hN⟩ : Fin grid0.N)).view.set) (e.trans (eta7' y))) hm

theorem at7 (hO : Ok m) (hH : Hyps m hO) (c : Dev nD) (t : Fin (cfgM m hO).N) (y : S1x1024x128.Idx)
    (hA : ∀ (q : Fin 1024) (e : Fin 128) (b : Fin 8) (x : Fin 4096), b.val = t.val / 32 → x.val = 128 * (t.val % 32) + e.val →
      outsAt0 m hO hH c t (ix3 0 q e) = outK m c (ix3 b q x)) : outsAt0 m hO hH c t y = outK m c ((((cfgM m hO).win 7).blk t).view.emb y) := by
  have ht : t.val < 256 := lt_of_lt_of_eq t.isLt (by decide : grid0.N = 256)
  have hl : (y 2).val < 128 := (y 2).isLt
  obtain ⟨q, hq⟩ : ∃ q : Fin 1024, q = y 1 := ⟨_, rfl⟩
  obtain ⟨e, he⟩ : ∃ e : Fin 128, e = y 2 := ⟨_, rfl⟩
  have hy : y = ix3 0 q e := by rw [hq, he]; exact eta7 y
  subst hy
  have := emb7 m hO t q e ⟨t.val / 32, by omega⟩ ⟨128 * (t.val % 32) + e.val, by omega⟩ rfl rfl
  exact (hA q e _ _ rfl rfl).trans (congrArg (outK m c) this).symm

/-- The result array is `outK` when every block is. -/
theorem final_of (hO : Ok m) (hH : Hyps m hO) (c : Dev nD)
    (hc : ∀ y : S8x1024x4096.Idx, ∃ t : Fin (cfgM m hO).N, ((cfgM m hO).win 7).flush t = true ∧ y ∈ (((cfgM m hO).win 7).blk t).view.set)
    (hA : ∀ (t : Fin (cfgM m hO).N) (q : Fin 1024) (e : Fin 128) (b : Fin 8) (x : Fin 4096), b.val = t.val / 32 → x.val = 128 * (t.val % 32) + e.val →
      outsAt0 m hO hH c t (ix3 0 q e) = outK m c (ix3 b q x)) :
    (dats m hO hH 0 c).arrAt 7 (cfgM m hO).N = outK m c := by
  refine (dats m hO hH 0 c).arrAt_eq_of_emb 7 _ (fun t _ y => ?_) hc
  blk_simp
  rw [after0_7]
  exact at7 m hO hH c t y (hA t)

end Cert.KernelIdeal.Gen
-- ==== Proof.KernelIdeal.Body.lean ====
module

public import proofs.«01_k».proof.Proof.KernelIdeal.Off
public import proofs.«01_k».proof.Proof.KernelIdeal.Frame
public import Idealize.ShloMosaic.Lib.WholeRead
public import proofs.«01_k».proof.Proof.KernelIdeal.Check

@[expose] public section

set_option maxRecDepth 16384
set_option maxHeartbeats 1000000

/-! Steps shared by the two heads of the program's body. -/

noncomputable section

namespace Cert.KernelIdeal.Gen

open Idealize.ShloMosaic Idealize.ShloMosaic.TcCoe Idealize.SL.Sem

/-- A quotient of two whole loads is that of the two reads. -/
theorem div_whole {sg : RefSig} {k1 k2 : Kind} {s1 s2 : Space} (v20 : View sg k1 s1 (⟨2, ![64, 1024]⟩ : Shape) .f32) (v22 : View sg k2 s2 (⟨2, ![1, 1024]⟩ : Shape) .f32)
    (f20 : v20.ty.Contents (Elt Ideal)) (f22 : v22.ty.Contents (Elt Ideal))
    (i20 : ∀ a : Fin 2, (![0, 0] : Fin 2 → ℕ) a + (![64, 1024] : Fin 2 → ℕ) a ≤ (![64, 1024] : Fin 2 → ℕ) a)
    (i22 : ∀ a : Fin 2, (![0, 0] : Fin 2 → ℕ) a + (![1, 1024] : Fin 2 → ℕ) a ≤ (![1, 1024] : Fin 2 → ℕ) a)
    (d : Fin 64) (q : Fin 1024) {x : EReal} (h : Ideal.div (v20.read (Elt Ideal) f20 (ix2 d q)) (v22.read (Elt Ideal) f22 (ix2 0 q)) = x) :
    Ideal.div (v20.readAt (Elt Ideal) (Rect.unit (s := ⟨2, ![64, 1024]⟩) ![0, 0] ![64, 1024] i20).toLoadRect f20 (ix2 d q))
      (v22.readAt (Elt Ideal) (Rect.unit (s := ⟨2, ![1, 1024]⟩) ![0, 0] ![1, 1024] i22).toLoadRect f22 (ix2 0 q)) = x := by
  rw [load_at v20 f20 i20 d q q (by omega), load_at v22 f22 i22 0 q q (by omega), h]

theorem small_at {m : Memref sig .tc .vmem S1x2x64x1024 .bf16} (h : m.IsWhole) (X : LoadRect S1x2x64x1024) (x : Vec Ideal S1x2x64x1024 .bf16)
    (hx : ∀ y, Small (x y)) (y : X.shape.Idx) : Small (View.readAt (Elt Ideal) m.view X (h.unread x) y) := by
  rw [h.readAt_unread]
  exact hx _

theorem unread_at4 {m : Memref sig .tc .vmem S1x2x64x1024 .bf16} (h : m.IsWhole) (b : Fin 2)
    (inb : ∀ a : Fin 4, (![0, b.val, 0, 0] : Fin 4 → ℕ) a + (![1, 1, 64, 1024] : Fin 4 → ℕ) a ≤ (![1, 2, 64, 1024] : Fin 4 → ℕ) a)
    (x : Vec Ideal S1x2x64x1024 .bf16) (d : Fin 64) (q : Fin 1024) :
    View.readAt (Elt Ideal) m.view (Rect.unit (s := ⟨4, ![1, 2, 64, 1024]⟩) ![0, b.val, 0, 0] ![1, 1, 64, 1024] inb).toLoadRect (h.unread x) (ix4 0 0 d q) = x (ix4 0 b d q) := by
  rw [h.readAt_unread]
  refine congrArg x (idx_at4 _ inb 0 b.val 0 0 rfl (ix4 0 0 d q) (ix4 0 b d q) rfl rfl ?_ ?_)
  · show d.val = 0 + d.val
    omega
  · show q.val = 0 + q.val
    omega

/-- A list that is empty at no step is empty. -/
theorem nil_of {α : Type} (g : ℕ → List α) {n : ℕ} (hn : n = 0) (h0 : g 0 = []) : g n = [] := by
  rw [hn, h0]

theorem met_congr {a b : ℕ} (h : a = b) {s v : Key → EReal} {q : Fin 1024} {m l x : EReal} (hi : Attn.Inv s v (met a 0 q) m l x) : Attn.Inv s v (met b 0 q) m l x := by
  subst h
  exact hi

theorem mul_three {a b c a' b' c' : EReal} (h1 : a = a') (h2 : b = b') (h3 : c = c') : a * b * c = a' * b' * c' := by rw [h1, h2, h3]
theorem mul_two {a b a' b' : EReal} (h1 : a = a') (h2 : b = b') : a * b = a' * b' := by rw [h1, h2]

/-- What the loops over the cached keys leave, read over what came before them. -/
theorem start_congr {sg : RefSig} {k1 k2 k3 : Kind} {s1 s2 s3 : Space} (v20 : View sg k1 s1 (⟨2, ![64, 1024]⟩ : Shape) .f32) (v21 : View sg k2 s2 (⟨2, ![1, 1024]⟩ : Shape) .f32) (v22 : View sg k3 s3 (⟨2, ![1, 1024]⟩ : Shape) .f32)
    (f20 : v20.ty.Contents (Elt Ideal)) (f21 : v21.ty.Contents (Elt Ideal)) (f22 : v22.ty.Contents (Elt Ideal))
    (A20 B20 C20 : List (View.Piece (Elt Ideal) (⟨2, ![64, 1024]⟩ : Shape) .f32)) (A21 B21 C21 A22 B22 C22 : List (View.Piece (Elt Ideal) (⟨2, ![1, 1024]⟩ : Shape) .f32))
    {s v : Key → EReal} {J : Finset Key} (d : Fin 64) (q : Fin 1024) (h20 : A20 = []) (h21 : A21 = []) (h22 : A22 = [])
    (h : Attn.Inv s v J (v21.read (Elt Ideal) (v21.writes (Elt Ideal) (v21.writes (Elt Ideal) f21 C21) B21) (ix2 0 q))
      (v22.read (Elt Ideal) (v22.writes (Elt Ideal) (v22.writes (Elt Ideal) f22 C22) B22) (ix2 0 q)) (v20.read (Elt Ideal) (v20.writes (Elt Ideal) (v20.writes (Elt Ideal) f20 C20) B20) (ix2 d q))) :
    Attn.Inv s v J (v21.read (Elt Ideal) (v21.writes (Elt Ideal) f21 (A21 ++ (B21 ++ C21))) (ix2 0 q))
      (v22.read (Elt Ideal) (v22.writes (Elt Ideal) f22 (A22 ++ (B22 ++ C22))) (ix2 0 q)) (v20.read (Elt Ideal) (v20.writes (Elt Ideal) f20 (A20 ++ (B20 ++ C20))) (ix2 d q)) := by
  subst h20 h21 h22
  rw [List.nil_append, List.nil_append, List.nil_append, View.writes_append, View.writes_append, View.writes_append]
  exact h
-- ==== Proof.KernelIdeal.HeadA.lean ====
module

public import proofs.«01_k».proof.Proof.KernelIdeal.Body
public import proofs.«01_k».proof.Proof.KernelIdeal.Frame
public import Idealize.ShloMosaic.Lib.WholeRead
public import proofs.«01_k».proof.Proof.KernelIdeal.Check

@[expose] public section

set_option maxRecDepth 16384
set_option maxHeartbeats 2000000

/-! What the program's body leaves in its output block. -/

noncomputable section

namespace Cert.KernelIdeal.Gen

open Idealize.ShloMosaic Idealize.ShloMosaic.TcCoe Idealize.SL.Sem

/-- A loop of no trips stores nothing. -/
theorem t2_nil20 (𝒱 : Variants) (c : Dev nD) (bd : Option 𝒱.V) (i : grid0.Coords) (arg2 : Memref sig .tc .smem S8 .i32) (harg2 : arg2.IsWhole) (arg3 : Memref sig .tc .vmem S1x2x64x1024 .bf16) (harg3 : arg3.IsWhole) (arg4 : Memref sig .tc .vmem S1x2x64x1024 .bf16) (harg4 : arg4.IsWhole) (arg5 : Memref sig .tc .vmem S1x2x64x1024 .bf16) (harg5 : arg5.IsWhole) (arg6 : Memref sig .tc .vmem S1x2x64x16384 .fp8e4m3) (harg6 : arg6.IsWhole) (arg7 : Memref sig .tc .vmem S1x2x64x16384 .fp8e4m3) (harg7 : arg7.IsWhole) (arg8 : Memref sig .tc .vmem S1x8x64 .f32) (harg8 : arg8.IsWhole) (arg9 : Memref sig .tc .vmem S1x8x16384 .f32) (harg9 : arg9.IsWhole) (arg10 : Memref sig .tc .vmem S1x1024x128 .bf16) (harg10 : arg10.IsWhole) (arg11 : Memref sig .tc .vmem S1x2x64x1024 .fp8e4m3) (harg11 : arg11.IsWhole) (arg12 : Memref sig .tc .vmem S1x8x1024 .f32) (harg12 : arg12.IsWhole) (arg13 : Memref sig .tc .vmem S1x2x64x1024 .fp8e4m3) (harg13 : arg13.IsWhole) (arg14 : Memref sig .tc .vmem S1x8x64 .f32) (harg14 : arg14.IsWhole) (arg15 : Memref sig .tc .vmem S1x2x64x1024 .fp8e4m3) (harg15 : arg15.IsWhole) (arg16 : Memref sig .tc .vmem S1x8x1024 .f32) (harg16 : arg16.IsWhole) (arg17 : Memref sig .tc .vmem S64x1024 .bf16) (harg17 : arg17.IsWhole) (arg18 : Memref sig .tc .vmem S64x1024 .bf16) (harg18 : arg18.IsWhole) (arg19 : Memref sig .tc .vmem S64x1024 .bf16) (harg19 : arg19.IsWhole) (arg20 : Memref sig .tc .vmem S64x1024 .f32) (harg20 : arg20.IsWhole) (arg21 : Memref sig .tc .vmem S1x1024 .f32) (harg21 : arg21.IsWhole) (arg22 : Memref sig .tc .vmem S1x1024 .f32) (harg22 : arg22.IsWhole) (v1 : Elt Ideal .i32) (k0_hw1 : k0_chk1 i v1) (v13 : BitVec 32) (v349 : FVec Ideal S64x1 .bf16) (v363 : BitVec 32) (c512_i32_134 : BitVec 32) (v364 : BitVec 32) (v369 : BitVec 32) (v371 : BitVec 32) (v385 : BitVec 32) (X_arg6 : BufTy.Contents (Elt Ideal) arg6.view.ty) (X_arg7 : BufTy.Contents (Elt Ideal) arg7.view.ty) (X_arg9 : BufTy.Contents (Elt Ideal) arg9.view.ty) (X_arg17 : BufTy.Contents (Elt Ideal) arg17.view.ty) (G_arg20 : BufTy.Contents (Elt Ideal) arg20.view.ty) (G_arg21 : BufTy.Contents (Elt Ideal) arg21.view.ty) (G_arg22 : BufTy.Contents (Elt Ideal) arg22.view.ty) (init : BitVec 32) (n : ℕ) (hn : n = 0) :
    (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v13 v349 v363 c512_i32_134 v364 v369 v371 v385 X_arg6 X_arg7 X_arg9 X_arg17 G_arg20 G_arg21 G_arg22 init n).2.1 = [] := by
  subst hn
  rfl

/-- A loop of no trips stores nothing. -/
theorem t2_nil21 (𝒱 : Variants) (c : Dev nD) (bd : Option 𝒱.V) (i : grid0.Coords) (arg2 : Memref sig .tc .smem S8 .i32) (harg2 : arg2.IsWhole) (arg3 : Memref sig .tc .vmem S1x2x64x1024 .bf16) (harg3 : arg3.IsWhole) (arg4 : Memref sig .tc .vmem S1x2x64x1024 .bf16) (harg4 : arg4.IsWhole) (arg5 : Memref sig .tc .vmem S1x2x64x1024 .bf16) (harg5 : arg5.IsWhole) (arg6 : Memref sig .tc .vmem S1x2x64x16384 .fp8e4m3) (harg6 : arg6.IsWhole) (arg7 : Memref sig .tc .vmem S1x2x64x16384 .fp8e4m3) (harg7 : arg7.IsWhole) (arg8 : Memref sig .tc .vmem S1x8x64 .f32) (harg8 : arg8.IsWhole) (arg9 : Memref sig .tc .vmem S1x8x16384 .f32) (harg9 : arg9.IsWhole) (arg10 : Memref sig .tc .vmem S1x1024x128 .bf16) (harg10 : arg10.IsWhole) (arg11 : Memref sig .tc .vmem S1x2x64x1024 .fp8e4m3) (harg11 : arg11.IsWhole) (arg12 : Memref sig .tc .vmem S1x8x1024 .f32) (harg12 : arg12.IsWhole) (arg13 : Memref sig .tc .vmem S1x2x64x1024 .fp8e4m3) (harg13 : arg13.IsWhole) (arg14 : Memref sig .tc .vmem S1x8x64 .f32) (harg14 : arg14.IsWhole) (arg15 : Memref sig .tc .vmem S1x2x64x1024 .fp8e4m3) (harg15 : arg15.IsWhole) (arg16 : Memref sig .tc .vmem S1x8x1024 .f32) (harg16 : arg16.IsWhole) (arg17 : Memref sig .tc .vmem S64x1024 .bf16) (harg17 : arg17.IsWhole) (arg18 : Memref sig .tc .vmem S64x1024 .bf16) (harg18 : arg18.IsWhole) (arg19 : Memref sig .tc .vmem S64x1024 .bf16) (harg19 : arg19.IsWhole) (arg20 : Memref sig .tc .vmem S64x1024 .f32) (harg20 : arg20.IsWhole) (arg21 : Memref sig .tc .vmem S1x1024 .f32) (harg21 : arg21.IsWhole) (arg22 : Memref sig .tc .vmem S1x1024 .f32) (harg22 : arg22.IsWhole) (v1 : Elt Ideal .i32) (k0_hw1 : k0_chk1 i v1) (v13 : BitVec 32) (v349 : FVec Ideal S64x1 .bf16) (v363 : BitVec 32) (c512_i32_134 : BitVec 32) (v364 : BitVec 32) (v369 : BitVec 32) (v371 : BitVec 32) (v385 : BitVec 32) (X_arg6 : BufTy.Contents (Elt Ideal) arg6.view.ty) (X_arg7 : BufTy.Contents (Elt Ideal) arg7.view.ty) (X_arg9 : BufTy.Contents (Elt Ideal) arg9.view.ty) (X_arg17 : BufTy.Contents (Elt Ideal) arg17.view.ty) (G_arg20 : BufTy.Contents (Elt Ideal) arg20.view.ty) (G_arg21 : BufTy.Contents (Elt Ideal) arg21.view.ty) (G_arg22 : BufTy.Contents (Elt Ideal) arg22.view.ty) (init : BitVec 32) (n : ℕ) (hn : n = 0) :
    (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v13 v349 v363 c512_i32_134 v364 v369 v371 v385 X_arg6 X_arg7 X_arg9 X_arg17 G_arg20 G_arg21 G_arg22 init n).2.2.1 = [] := by
  subst hn
  rfl

/-- A loop of no trips stores nothing. -/
theorem t2_nil22 (𝒱 : Variants) (c : Dev nD) (bd : Option 𝒱.V) (i : grid0.Coords) (arg2 : Memref sig .tc .smem S8 .i32) (harg2 : arg2.IsWhole) (arg3 : Memref sig .tc .vmem S1x2x64x1024 .bf16) (harg3 : arg3.IsWhole) (arg4 : Memref sig .tc .vmem S1x2x64x1024 .bf16) (harg4 : arg4.IsWhole) (arg5 : Memref sig .tc .vmem S1x2x64x1024 .bf16) (harg5 : arg5.IsWhole) (arg6 : Memref sig .tc .vmem S1x2x64x16384 .fp8e4m3) (harg6 : arg6.IsWhole) (arg7 : Memref sig .tc .vmem S1x2x64x16384 .fp8e4m3) (harg7 : arg7.IsWhole) (arg8 : Memref sig .tc .vmem S1x8x64 .f32) (harg8 : arg8.IsWhole) (arg9 : Memref sig .tc .vmem S1x8x16384 .f32) (harg9 : arg9.IsWhole) (arg10 : Memref sig .tc .vmem S1x1024x128 .bf16) (harg10 : arg10.IsWhole) (arg11 : Memref sig .tc .vmem S1x2x64x1024 .fp8e4m3) (harg11 : arg11.IsWhole) (arg12 : Memref sig .tc .vmem S1x8x1024 .f32) (harg12 : arg12.IsWhole) (arg13 : Memref sig .tc .vmem S1x2x64x1024 .fp8e4m3) (harg13 : arg13.IsWhole) (arg14 : Memref sig .tc .vmem S1x8x64 .f32) (harg14 : arg14.IsWhole) (arg15 : Memref sig .tc .vmem S1x2x64x1024 .fp8e4m3) (harg15 : arg15.IsWhole) (arg16 : Memref sig .tc .vmem S1x8x1024 .f32) (harg16 : arg16.IsWhole) (arg17 : Memref sig .tc .vmem S64x1024 .bf16) (harg17 : arg17.IsWhole) (arg18 : Memref sig .tc .vmem S64x1024 .bf16) (harg18 : arg18.IsWhole) (arg19 : Memref sig .tc .vmem S64x1024 .bf16) (harg19 : arg19.IsWhole) (arg20 : Memref sig .tc .vmem S64x1024 .f32) (harg20 : arg20.IsWhole) (arg21 : Memref sig .tc .vmem S1x1024 .f32) (harg21 : arg21.IsWhole) (arg22 : Memref sig .tc .vmem S1x1024 .f32) (harg22 : arg22.IsWhole) (v1 : Elt Ideal .i32) (k0_hw1 : k0_chk1 i v1) (v13 : BitVec 32) (v349 : FVec Ideal S64x1 .bf16) (v363 : BitVec 32) (c512_i32_134 : BitVec 32) (v364 : BitVec 32) (v369 : BitVec 32) (v371 : BitVec 32) (v385 : BitVec 32) (X_arg6 : BufTy.Contents (Elt Ideal) arg6.view.ty) (X_arg7 : BufTy.Contents (Elt Ideal) arg7.view.ty) (X_arg9 : BufTy.Contents (Elt Ideal) arg9.view.ty) (X_arg17 : BufTy.Contents (Elt Ideal) arg17.view.ty) (G_arg20 : BufTy.Contents (Elt Ideal) arg20.view.ty) (G_arg21 : BufTy.Contents (Elt Ideal) arg21.view.ty) (G_arg22 : BufTy.Contents (Elt Ideal) arg22.view.ty) (init : BitVec 32) (n : ℕ) (hn : n = 0) :
    (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 k0_hw1 v13 v349 v363 c512_i32_134 v364 v369 v371 v385 X_arg6 X_arg7 X_arg9 X_arg17 G_arg20 G_arg21 G_arg22 init n).2.2.2 = [] := by
  subst hn
  rfl

/-- What the program's body leaves for head 0 of the pair, at a query and a dimension: the softmax of the head's scores applied to its values. -/
theorem bodyA (c : Dev nD) (i : grid0.Coords) (arg3 : Memref sig .tc .vmem S1x2x64x1024 .bf16) (harg3 : arg3.IsWhole) (arg4 : Memref sig .tc .vmem S1x2x64x1024 .bf16) (harg4 : arg4.IsWhole) (arg5 : Memref sig .tc .vmem S1x2x64x1024 .bf16) (harg5 : arg5.IsWhole) (arg6 : Memref sig .tc .vmem S1x2x64x16384 .fp8e4m3) (harg6 : arg6.IsWhole) (arg7 : Memref sig .tc .vmem S1x2x64x16384 .fp8e4m3) (harg7 : arg7.IsWhole) (arg8 : Memref sig .tc .vmem S1x8x64 .f32) (harg8 : arg8.IsWhole) (arg9 : Memref sig .tc .vmem S1x8x16384 .f32) (harg9 : arg9.IsWhole) (arg10 : Memref sig .tc .vmem S1x1024x128 .bf16) (harg10 : arg10.IsWhole) (arg11 : Memref sig .tc .vmem S1x2x64x1024 .fp8e4m3) (harg11 : arg11.IsWhole) (arg12 : Memref sig .tc .vmem S1x8x1024 .f32) (harg12 : arg12.IsWhole) (arg13 : Memref sig .tc .vmem S1x2x64x1024 .fp8e4m3) (harg13 : arg13.IsWhole) (arg14 : Memref sig .tc .vmem S1x8x64 .f32) (harg14 : arg14.IsWhole) (arg15 : Memref sig .tc .vmem S1x2x64x1024 .fp8e4m3) (harg15 : arg15.IsWhole) (arg16 : Memref sig .tc .vmem S1x8x1024 .f32) (harg16 : arg16.IsWhole) (arg17 : Memref sig .tc .vmem S64x1024 .bf16) (harg17 : arg17.IsWhole) (arg18 : Memref sig .tc .vmem S64x1024 .bf16) (harg18 : arg18.IsWhole) (arg19 : Memref sig .tc .vmem S64x1024 .bf16) (harg19 : arg19.IsWhole) (arg20 : Memref sig .tc .vmem S64x1024 .f32) (harg20 : arg20.IsWhole) (arg21 : Memref sig .tc .vmem S1x1024 .f32) (harg21 : arg21.IsWhole) (arg22 : Memref sig .tc .vmem S1x1024 .f32) (harg22 : arg22.IsWhole)
    (x0 : Vec Ideal S1x2x64x1024 .bf16) (x1 : Vec Ideal S1x2x64x1024 .bf16) (x2 : Vec Ideal S1x2x64x1024 .bf16) (x3 : Vec Ideal S1x2x64x16384 .fp8e4m3) (x4 : Vec Ideal S1x2x64x16384 .fp8e4m3) (x5 : Vec Ideal S1x8x64 .f32) (x6 : Vec Ideal S1x8x16384 .f32) (xt0 : TbBuf0 (F := Ideal) c tbM0_0)
    (k0_hw1 : k0_chk1 i (tbM0_0.view.readAt (Elt Ideal) (Rect.unit (s := S8) (k0_off1 i) S1.size (k0_off1_inb i)).toLoadRect xt0 (Shape.Idx.first (numel1_S1.symm ▸ Nat.one_pos)))) (hp : BitVec.toInt (tbM0_0.view.readAt (Elt Ideal) (Rect.unit (s := S8) (k0_off1 i) S1.size (k0_off1_inb i)).toLoadRect xt0 (Shape.Idx.first (numel1_S1.symm ▸ Nat.one_pos))) ≤ 16384) (hx0 : ∀ y, Small (x0 y)) (hx1 : ∀ y, Small (x1 y)) (hx2 : ∀ y, Small (x2 y)) (q : Fin 1024) (d : Fin 64) (e : Fin 128) (he : e.val = 0 + d.val) :
    out0_A_7 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1 (ix3 0 q e) = hOut ((fun q => hS (tbM0_0.view.readAt (Elt Ideal) (Rect.unit (s := S8) (k0_off1 i) S1.size (k0_off1_inb i)).toLoadRect xt0 (Shape.Idx.first (numel1_S1.symm ▸ Nat.one_pos))) (fun d q => x0 (ix4 0 0 d q) * Ideal.ofBits .f32 0x3E000000#32) (fun d j => x1 (ix4 0 0 d j)) (fun d p => x3 (ix4 0 0 d p)) (fun d => x5 (ix3 0 ⟨(2 * (i 1).val + 0) % 8, Nat.mod_lt _ (by decide)⟩ d)) q) q) ((fun d => hV (fun d j => x2 (ix4 0 0 d j)) (fun d p => x4 (ix4 0 0 d p)) (fun p => x6 (ix3 0 ⟨(2 * (i 1).val + 0) % 8, Nat.mod_lt _ (by decide)⟩ p)) d) d) := by
  unfold out0_A_7
  refine (View.read_writes_cons_unit_of_not_mem VO0_7 _ _ _ _ (ix3 0 q e) rfl (2 : Fin 3) (Or.inl ?_)).trans ?_
  · show e.val < 64
    omega
  refine (View.read_writes_cons_unit_of_mem VO0_7 _ _ _ _ (ix3 0 q e) (ix3 0 q d) rfl ?_).trans ?_
  · intro a
    fin_cases a
    · rfl
    · show q.val = 0 + q.val
      omega
    · show e.val = 0 + d.val
      omega
  refine (pay96_at _ _ q d).trans ?_
  refine div_whole arg20.view arg22.view _ _ _ _ d q ?_
  refine finish hp ?_
  have hKp : ∀ (x : Fin 64) (j : Fin 1024), _ = (fun d j => x1 (ix4 0 0 d j)) x j := fun x j => (kA_deq (View.readAt (Elt Ideal) arg4.view (Rect.unit (s := S1x2x64x1024) ![0, 0, 0, 0] S1x1x64x1024.size inb_S1x2x64x1024_S1x1x64x1024_0_0_0_0).toLoadRect (harg4.unread x1)) (fun d q => small_at harg4 _ x1 hx1 _) x j).trans (unread_at4 harg4 0 _ x1 x j)
  have hQp : ∀ (x : Fin 64) (j : Fin 1024), _ = (fun d q => x0 (ix4 0 0 d q) * Ideal.ofBits .f32 0x3E000000#32) x j := fun x j => (qA_deq (View.readAt (Elt Ideal) arg3.view (Rect.unit (s := S1x2x64x1024) ![0, 0, 0, 0] S1x1x64x1024.size inb_S1x2x64x1024_S1x1x64x1024_0_0_0_0).toLoadRect (harg3.unread x0)) (fun d q => small_at harg3 _ x0 hx0 _) x j).trans (congrArg (· * Ideal.ofBits .f32 0x3E000000#32) (unread_at4 harg3 0 _ x0 x j))
  have hVp : ∀ (x : Fin 64) (j : Fin 1024), _ = (fun d j => x2 (ix4 0 0 d j)) x j := fun x j => (pay56_at _ x j).trans ((vA_deq (View.readAt (Elt Ideal) arg5.view (Rect.unit (s := S1x2x64x1024) ![0, 0, 0, 0] S1x1x64x1024.size inb_S1x2x64x1024_S1x1x64x1024_0_0_0_0).toLoadRect (harg5.unread x2)) (fun d q => small_at harg5 _ x2 hx2 _) x j).trans (unread_at4 harg5 0 _ x2 x j))
  refine stage_last ((BitVec.toInt (tbM0_0.view.readAt (Elt Ideal) (Rect.unit (s := S8) (k0_off1 i) S1.size (k0_off1_inb i)).toLoadRect xt0 (Shape.Idx.first (numel1_S1.symm ▸ Nat.one_pos))) + 511) / 512).toNat 3 768 256 rfl rfl (by decide) arg20.view arg21.view arg22.view _ arg21.view.junk _ _ (kernelRun0_A.sl.HS4_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3 x4 x5 x6 xt0 k0_hw1) _ _ _ _ _ _ _ _ _ _ _ (fun q => hS (tbM0_0.view.readAt (Elt Ideal) (Rect.unit (s := S8) (k0_off1 i) S1.size (k0_off1_inb i)).toLoadRect xt0 (Shape.Idx.first (numel1_S1.symm ▸ Nat.one_pos))) (fun d q => x0 (ix4 0 0 d q) * Ideal.ofBits .f32 0x3E000000#32) (fun d j => x1 (ix4 0 0 d j)) (fun d p => x3 (ix4 0 0 d p)) (fun d => x5 (ix3 0 ⟨(2 * (i 1).val + 0) % 8, Nat.mod_lt _ (by decide)⟩ d)) q) (fun d => hV (fun d j => x2 (ix4 0 0 d j)) (fun d p => x4 (ix4 0 0 d p)) (fun p => x6 (ix3 0 ⟨(2 * (i 1).val + 0) % 8, Nat.mod_lt _ (by decide)⟩ p)) d) (fun d j => x1 (ix4 0 0 d j)) (fun d q => x0 (ix4 0 0 d q) * Ideal.ofBits .f32 0x3E000000#32) (fun q j => rfl)
    ?_ ?_ ?_ ?hM ?_ ?_
    (fun c => lA3 _ (fun _ => (0 : EReal)) _ _ _ (fun _ => (0 : EReal)) c) (fun d c => aA3 _ _ _ _ (fun _ => (0 : EReal)) _ d c) ?_ q d
  case hM => exact fun c q hq => load_at arg21.view _ _ 0 c q hq
  · exact fun x r j hj => scratch_at arg18.view _ _ _ _ _ (fun d j => x1 (ix4 0 0 d j)) hKp x r j hj
  · exact fun x r j hj => scratch_at arg17.view _ _ _ _ _ (fun d q => x0 (ix4 0 0 d q) * Ideal.ofBits .f32 0x3E000000#32) hQp x r j hj
  · exact fun x r j hj => scratch_at arg19.view _ _ _ _ _ (fun d j => x2 (ix4 0 0 d j)) hVp x r j hj

  · exact fun c q hq => load_at arg22.view _ _ 0 c q hq
  · exact fun d c q hq => load_at arg20.view _ _ d c q hq
  intro q d
  refine stage_mid ((BitVec.toInt (tbM0_0.view.readAt (Elt Ideal) (Rect.unit (s := S8) (k0_off1 i) S1.size (k0_off1_inb i)).toLoadRect xt0 (Shape.Idx.first (numel1_S1.symm ▸ Nat.one_pos))) + 511) / 512).toNat 2 512 512 rfl rfl (by decide) arg20.view arg21.view arg22.view _ _ _ _ _ _ _ _ _ _ _ _ _ _ _ _ _ _ (fun q => hS (tbM0_0.view.readAt (Elt Ideal) (Rect.unit (s := S8) (k0_off1 i) S1.size (k0_off1_inb i)).toLoadRect xt0 (Shape.Idx.first (numel1_S1.symm ▸ Nat.one_pos))) (fun d q => x0 (ix4 0 0 d q) * Ideal.ofBits .f32 0x3E000000#32) (fun d j => x1 (ix4 0 0 d j)) (fun d p => x3 (ix4 0 0 d p)) (fun d => x5 (ix3 0 ⟨(2 * (i 1).val + 0) % 8, Nat.mod_lt _ (by decide)⟩ d)) q) (fun d => hV (fun d j => x2 (ix4 0 0 d j)) (fun d p => x4 (ix4 0 0 d p)) (fun p => x6 (ix3 0 ⟨(2 * (i 1).val + 0) % 8, Nat.mod_lt _ (by decide)⟩ p)) d) (fun d j => x1 (ix4 0 0 d j)) (fun d q => x0 (ix4 0 0 d q) * Ideal.ofBits .f32 0x3E000000#32) (fun q j => rfl)
    ?_ ?_ ?_ ?_ ?_ ?_
    (fun c => mA2 _ (fun _ => (0 : EReal)) _ _ (fun _ => (0 : EReal)) (fun _ => (0 : EReal)) c) (fun c => lA2 _ (fun _ => (0 : EReal)) _ _ _ (fun _ => (0 : EReal)) c) (fun d c => aA2 _ _ _ _ (fun _ => (0 : EReal)) _ d c) ?_ q d
  · exact fun x r j hj => scratch_at arg18.view _ _ _ _ _ (fun d j => x1 (ix4 0 0 d j)) hKp x r j hj
  · exact fun x r j hj => scratch_at arg17.view _ _ _ _ _ (fun d q => x0 (ix4 0 0 d q) * Ideal.ofBits .f32 0x3E000000#32) hQp x r j hj
  · exact fun x r j hj => scratch_at arg19.view _ _ _ _ _ (fun d j => x2 (ix4 0 0 d j)) hVp x r j hj
  · exact fun c q hq => load_at arg21.view _ _ 0 c q hq
  · exact fun c q hq => load_at arg22.view _ _ 0 c q hq
  · exact fun d c q hq => load_at arg20.view _ _ d c q hq
  intro q d
  refine stage_mid ((BitVec.toInt (tbM0_0.view.readAt (Elt Ideal) (Rect.unit (s := S8) (k0_off1 i) S1.size (k0_off1_inb i)).toLoadRect xt0 (Shape.Idx.first (numel1_S1.symm ▸ Nat.one_pos))) + 511) / 512).toNat 1 256 768 rfl rfl (by decide) arg20.view arg21.view arg22.view _ _ _ _ _ _ _ _ _ _ _ _ _ _ _ _ _ _ (fun q => hS (tbM0_0.view.readAt (Elt Ideal) (Rect.unit (s := S8) (k0_off1 i) S1.size (k0_off1_inb i)).toLoadRect xt0 (Shape.Idx.first (numel1_S1.symm ▸ Nat.one_pos))) (fun d q => x0 (ix4 0 0 d q) * Ideal.ofBits .f32 0x3E000000#32) (fun d j => x1 (ix4 0 0 d j)) (fun d p => x3 (ix4 0 0 d p)) (fun d => x5 (ix3 0 ⟨(2 * (i 1).val + 0) % 8, Nat.mod_lt _ (by decide)⟩ d)) q) (fun d => hV (fun d j => x2 (ix4 0 0 d j)) (fun d p => x4 (ix4 0 0 d p)) (fun p => x6 (ix3 0 ⟨(2 * (i 1).val + 0) % 8, Nat.mod_lt _ (by decide)⟩ p)) d) (fun d j => x1 (ix4 0 0 d j)) (fun d q => x0 (ix4 0 0 d q) * Ideal.ofBits .f32 0x3E000000#32) (fun q j => rfl)
    ?_ ?_ ?_ ?_ ?_ ?_
    (fun c => mA1 _ (fun _ => (0 : EReal)) _ _ (fun _ => (0 : EReal)) (fun _ => (0 : EReal)) c) (fun c => lA1 _ (fun _ => (0 : EReal)) _ _ _ (fun _ => (0 : EReal)) c) (fun d c => aA1 _ _ _ _ (fun _ => (0 : EReal)) _ d c) ?_ q d
  · exact fun x r j hj => scratch_at arg18.view _ _ _ _ _ (fun d j => x1 (ix4 0 0 d j)) hKp x r j hj
  · exact fun x r j hj => scratch_at arg17.view _ _ _ _ _ (fun d q => x0 (ix4 0 0 d q) * Ideal.ofBits .f32 0x3E000000#32) hQp x r j hj
  · exact fun x r j hj => scratch_at arg19.view _ _ _ _ _ (fun d j => x2 (ix4 0 0 d j)) hVp x r j hj
  · exact fun c q hq => load_at arg21.view _ _ 0 c q hq
  · exact fun c q hq => load_at arg22.view _ _ 0 c q hq
  · exact fun d c q hq => load_at arg20.view _ _ d c q hq
  intro q d
  refine stage_mid ((BitVec.toInt (tbM0_0.view.readAt (Elt Ideal) (Rect.unit (s := S8) (k0_off1 i) S1.size (k0_off1_inb i)).toLoadRect xt0 (Shape.Idx.first (numel1_S1.symm ▸ Nat.one_pos))) + 511) / 512).toNat 0 0 1024 rfl rfl (by decide) arg20.view arg21.view arg22.view _ _ _ _ _ _ _ _ _ _ _ _ _ _ _ _ _ _ (fun q => hS (tbM0_0.view.readAt (Elt Ideal) (Rect.unit (s := S8) (k0_off1 i) S1.size (k0_off1_inb i)).toLoadRect xt0 (Shape.Idx.first (numel1_S1.symm ▸ Nat.one_pos))) (fun d q => x0 (ix4 0 0 d q) * Ideal.ofBits .f32 0x3E000000#32) (fun d j => x1 (ix4 0 0 d j)) (fun d p => x3 (ix4 0 0 d p)) (fun d => x5 (ix3 0 ⟨(2 * (i 1).val + 0) % 8, Nat.mod_lt _ (by decide)⟩ d)) q) (fun d => hV (fun d j => x2 (ix4 0 0 d j)) (fun d p => x4 (ix4 0 0 d p)) (fun p => x6 (ix3 0 ⟨(2 * (i 1).val + 0) % 8, Nat.mod_lt _ (by decide)⟩ p)) d) (fun d j => x1 (ix4 0 0 d j)) (fun d q => x0 (ix4 0 0 d q) * Ideal.ofBits .f32 0x3E000000#32) (fun q j => rfl)
    ?_ ?_ ?_ ?_ ?_ ?_
    (fun c => mA0 _ (fun _ => (0 : EReal)) _ _ (fun _ => (0 : EReal)) (fun _ => (0 : EReal)) c) (fun c => lA0 _ (fun _ => (0 : EReal)) _ _ _ (fun _ => (0 : EReal)) c) (fun d c => aA0 _ _ _ _ (fun _ => (0 : EReal)) _ d c) ?_ q d
  · exact fun x r j hj => scratch_at arg18.view _ _ _ _ _ (fun d j => x1 (ix4 0 0 d j)) hKp x r j hj
  · exact fun x r j hj => scratch_at arg17.view _ _ _ _ _ (fun d q => x0 (ix4 0 0 d q) * Ideal.ofBits .f32 0x3E000000#32) hQp x r j hj
  · exact fun x r j hj => scratch_at arg19.view _ _ _ _ _ (fun d j => x2 (ix4 0 0 d j)) hVp x r j hj
  · exact fun c q hq => load_at arg21.view _ _ 0 c q hq
  · exact fun c q hq => load_at arg22.view _ _ 0 c q hq
  · exact fun d c q hq => load_at arg20.view _ _ d c q hq
  intro q d
  have hT : (k0_t1_loop (tbM0_0.view.readAt (Elt Ideal) (Rect.unit (s := S8) (k0_off1 i) S1.size (k0_off1_inb i)).toLoadRect xt0 (Shape.Idx.first (numel1_S1.symm ▸ Nat.one_pos)))).trips = ((BitVec.toInt (tbM0_0.view.readAt (Elt Ideal) (Rect.unit (s := S8) (k0_off1 i) S1.size (k0_off1_inb i)).toLoadRect xt0 (Shape.Idx.first (numel1_S1.symm ▸ Nat.one_pos))) + 511) / 512).toNat := t1_trips _ hp
  have hk : ∀ k : Fin (k0_t1_loop (tbM0_0.view.readAt (Elt Ideal) (Rect.unit (s := S8) (k0_off1 i) S1.size (k0_off1_inb i)).toLoadRect xt0 (Shape.Idx.first (numel1_S1.symm ▸ Nat.one_pos)))).trips, k.val < 32 := fun k => lt_of_lt_of_le k.isLt (by omega)
  refine start_congr arg20.view arg21.view arg22.view _ _ _ _ _ _ _ _ _ _ _ _ d q ?_ ?_ ?_ ?_
  · exact t2_nil20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (t2_trips _ hp)
  · exact t2_nil21 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (t2_trips _ hp)
  · exact t2_nil22 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (t2_trips _ hp)
  refine met_congr hT ?_
  refine loopA_inv Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (tbM0_0.view.readAt (Elt Ideal) (Rect.unit (s := S8) (k0_off1 i) S1.size (k0_off1_inb i)).toLoadRect xt0 (Shape.Idx.first (numel1_S1.symm ▸ Nat.one_pos))) k0_hw1 _ _ _ _ _ _ _ _ _ _ _ _ _ _ _ (by omega) (fun q => hS (tbM0_0.view.readAt (Elt Ideal) (Rect.unit (s := S8) (k0_off1 i) S1.size (k0_off1_inb i)).toLoadRect xt0 (Shape.Idx.first (numel1_S1.symm ▸ Nat.one_pos))) (fun d q => x0 (ix4 0 0 d q) * Ideal.ofBits .f32 0x3E000000#32) (fun d j => x1 (ix4 0 0 d j)) (fun d p => x3 (ix4 0 0 d p)) (fun d => x5 (ix3 0 ⟨(2 * (i 1).val + 0) % 8, Nat.mod_lt _ (by decide)⟩ d)) q) (fun d => hV (fun d j => x2 (ix4 0 0 d j)) (fun d p => x4 (ix4 0 0 d p)) (fun p => x6 (ix3 0 ⟨(2 * (i 1).val + 0) % 8, Nat.mod_lt _ (by decide)⟩ p)) d) ?_ ?_ ?_ _ (le_refl _) q d
  · intro k q j p hj
    refine (sOld_at _ _ (hk k) _ _ _ j p hj).trans ?_
    refine congrArg (fun z => Scalar.select (IntOp.cmpi .slt (BitVec.ofNat 32 p.val) (tbM0_0.view.readAt (Elt Ideal) (Rect.unit (s := S8) (k0_off1 i) S1.size (k0_off1_inb i)).toLoadRect xt0 (Shape.Idx.first (numel1_S1.symm ▸ Nat.one_pos)))) z ⊥) (Finset.sum_congr rfl fun x _ => mul_three ?_ ?_ ?_)
    · exact (harg6.readAt_unread x3 _ _).trans (congrArg x3 (idx_at4 _ _ 0 0 0 (512 * k.val) (off4_eq _ k (hk k)) (ix4 0 0 x j) (ix4 0 0 x p) rfl rfl (Nat.zero_add _).symm hj))
    · exact (ksA _ x).trans ((harg8.readAt_unread x5 _ _).trans (congrArg x5 (idx_at3 _ _ 0 ((2 * (i 1).val + 0) % 8) 0 (off3_eq i) (ix3 0 0 x) (ix3 0 ⟨(2 * (i 1).val + 0) % 8, Nat.mod_lt _ (by decide)⟩ x) rfl rfl (Nat.zero_add _).symm)))
    · exact scratch_at arg17.view _ _ _ _ _ (fun d q => x0 (ix4 0 0 d q) * Ideal.ofBits .f32 0x3E000000#32) hQp x q q (by omega)
  · intro k d j p hj
    refine mul_two ?_ ?_
    · exact (harg7.readAt_unread x4 _ _).trans (congrArg x4 (idx_at4 _ _ 0 0 0 (512 * k.val) (off4_eq _ k (hk k)) (ix4 0 0 d j) (ix4 0 0 d p) rfl rfl (Nat.zero_add _).symm hj))
    · exact (harg9.readAt_unread x6 _ _).trans (congrArg x6 (idx_at3 _ _ 0 ((2 * (i 1).val + 0) % 8) (512 * k.val) (off5_eq i _ k (hk k)) (ix3 0 0 j) (ix3 0 ⟨(2 * (i 1).val + 0) % 8, Nat.mod_lt _ (by decide)⟩ p) rfl rfl hj))
  · intro q d
    refine init_inv ?_ ?_ ?_
    · exact (read_cols_ge arg21.view _ _ _ _ 0 q q (by omega)).trans (pay58_at q)
    · exact (read_cols_ge arg22.view _ _ _ _ 0 q q (by omega)).trans (pay59_at q)
    · exact (read_cols_ge arg20.view _ _ _ _ d q q (by omega)).trans (pay60_at d q)

end Cert.KernelIdeal.Gen
-- ==== Proof.KernelIdeal.HeadB.lean ====
module

public import proofs.«01_k».proof.Proof.KernelIdeal.Body
public import proofs.«01_k».proof.Proof.KernelIdeal.Frame
public import Idealize.ShloMosaic.Lib.WholeRead
public import proofs.«01_k».proof.Proof.KernelIdeal.Check

@[expose] public section

set_option maxRecDepth 16384
set_option maxHeartbeats 1000000

/-! What the program's body leaves in its output block. -/

noncomputable section

namespace Cert.KernelIdeal.Gen

open Idealize.ShloMosaic Idealize.ShloMosaic.TcCoe Idealize.SL.Sem

/-- What the program's body leaves for head 1 of the pair, at a query and a dimension: the softmax of the head's scores applied to its values. -/
theorem bodyB (c : Dev nD) (i : grid0.Coords) (arg3 : Memref sig .tc .vmem S1x2x64x1024 .bf16) (harg3 : arg3.IsWhole) (arg4 : Memref sig .tc .vmem S1x2x64x1024 .bf16) (harg4 : arg4.IsWhole) (arg5 : Memref sig .tc .vmem S1x2x64x1024 .bf16) (harg5 : arg5.IsWhole) (arg6 : Memref sig .tc .vmem S1x2x64x16384 .fp8e4m3) (harg6 : arg6.IsWhole) (arg7 : Memref sig .tc .vmem S1x2x64x16384 .fp8e4m3) (harg7 : arg7.IsWhole) (arg8 : Memref sig .tc .vmem S1x8x64 .f32) (harg8 : arg8.IsWhole) (arg9 : Memref sig .tc .vmem S1x8x16384 .f32) (harg9 : arg9.IsWhole) (arg10 : Memref sig .tc .vmem S1x1024x128 .bf16) (harg10 : arg10.IsWhole) (arg11 : Memref sig .tc .vmem S1x2x64x1024 .fp8e4m3) (harg11 : arg11.IsWhole) (arg12 : Memref sig .tc .vmem S1x8x1024 .f32) (harg12 : arg12.IsWhole) (arg13 : Memref sig .tc .vmem S1x2x64x1024 .fp8e4m3) (harg13 : arg13.IsWhole) (arg14 : Memref sig .tc .vmem S1x8x64 .f32) (harg14 : arg14.IsWhole) (arg15 : Memref sig .tc .vmem S1x2x64x1024 .fp8e4m3) (harg15 : arg15.IsWhole) (arg16 : Memref sig .tc .vmem S1x8x1024 .f32) (harg16 : arg16.IsWhole) (arg17 : Memref sig .tc .vmem S64x1024 .bf16) (harg17 : arg17.IsWhole) (arg18 : Memref sig .tc .vmem S64x1024 .bf16) (harg18 : arg18.IsWhole) (arg19 : Memref sig .tc .vmem S64x1024 .bf16) (harg19 : arg19.IsWhole) (arg20 : Memref sig .tc .vmem S64x1024 .f32) (harg20 : arg20.IsWhole) (arg21 : Memref sig .tc .vmem S1x1024 .f32) (harg21 : arg21.IsWhole) (arg22 : Memref sig .tc .vmem S1x1024 .f32) (harg22 : arg22.IsWhole)
    (x0 : Vec Ideal S1x2x64x1024 .bf16) (x1 : Vec Ideal S1x2x64x1024 .bf16) (x2 : Vec Ideal S1x2x64x1024 .bf16) (x3 : Vec Ideal S1x2x64x16384 .fp8e4m3) (x4 : Vec Ideal S1x2x64x16384 .fp8e4m3) (x5 : Vec Ideal S1x8x64 .f32) (x6 : Vec Ideal S1x8x16384 .f32) (xt0 : TbBuf0 (F := Ideal) c tbM0_0)
    (k0_hw1 : k0_chk1 i (tbM0_0.view.readAt (Elt Ideal) (Rect.unit (s := S8) (k0_off1 i) S1.size (k0_off1_inb i)).toLoadRect xt0 (Shape.Idx.first (numel1_S1.symm ▸ Nat.one_pos)))) (hp : BitVec.toInt (tbM0_0.view.readAt (Elt Ideal) (Rect.unit (s := S8) (k0_off1 i) S1.size (k0_off1_inb i)).toLoadRect xt0 (Shape.Idx.first (numel1_S1.symm ▸ Nat.one_pos))) ≤ 16384) (hx0 : ∀ y, Small (x0 y)) (hx1 : ∀ y, Small (x1 y)) (hx2 : ∀ y, Small (x2 y)) (q : Fin 1024) (d : Fin 64) (e : Fin 128) (he : e.val = 64 + d.val) :
    out0_A_7 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1 (ix3 0 q e) = hOut ((fun q => hS (tbM0_0.view.readAt (Elt Ideal) (Rect.unit (s := S8) (k0_off1 i) S1.size (k0_off1_inb i)).toLoadRect xt0 (Shape.Idx.first (numel1_S1.symm ▸ Nat.one_pos))) (fun d q => x0 (ix4 0 1 d q) * Ideal.ofBits .f32 0x3E000000#32) (fun d j => x1 (ix4 0 1 d j)) (fun d p => x3 (ix4 0 1 d p)) (fun d => x5 (ix3 0 ⟨(2 * (i 1).val + 1) % 8, Nat.mod_lt _ (by decide)⟩ d)) q) q) ((fun d => hV (fun d j => x2 (ix4 0 1 d j)) (fun d p => x4 (ix4 0 1 d p)) (fun p => x6 (ix3 0 ⟨(2 * (i 1).val + 1) % 8, Nat.mod_lt _ (by decide)⟩ p)) d) d) := by
  unfold out0_A_7
  refine (View.read_writes_cons_unit_of_mem VO0_7 _ _ _ _ (ix3 0 q e) (ix3 0 q d) rfl ?_).trans ?_
  · intro a
    fin_cases a
    · rfl
    · show q.val = 0 + q.val
      omega
    · show e.val = 64 + d.val
      omega
  refine (pay1_at _ _ q d).trans ?_
  refine div_whole arg20.view arg22.view _ _ _ _ d q ?_
  refine finish hp ?_
  have hKp : ∀ (x : Fin 64) (j : Fin 1024), _ = (fun d j => x1 (ix4 0 1 d j)) x j := fun x j => (kB_deq (View.readAt (Elt Ideal) arg4.view (Rect.unit (s := S1x2x64x1024) ![0, 1, 0, 0] S1x1x64x1024.size inb_S1x2x64x1024_S1x1x64x1024_0_1_0_0).toLoadRect (harg4.unread x1)) (fun d q => small_at harg4 _ x1 hx1 _) x j).trans (unread_at4 harg4 1 _ x1 x j)
  have hQp : ∀ (x : Fin 64) (j : Fin 1024), _ = (fun d q => x0 (ix4 0 1 d q) * Ideal.ofBits .f32 0x3E000000#32) x j := fun x j => (qB_deq (View.readAt (Elt Ideal) arg3.view (Rect.unit (s := S1x2x64x1024) ![0, 1, 0, 0] S1x1x64x1024.size inb_S1x2x64x1024_S1x1x64x1024_0_1_0_0).toLoadRect (harg3.unread x0)) (fun d q => small_at harg3 _ x0 hx0 _) x j).trans (congrArg (· * Ideal.ofBits .f32 0x3E000000#32) (unread_at4 harg3 1 _ x0 x j))
  have hVp : ∀ (x : Fin 64) (j : Fin 1024), _ = (fun d j => x2 (ix4 0 1 d j)) x j := fun x j => (vB_deq (View.readAt (Elt Ideal) arg5.view (Rect.unit (s := S1x2x64x1024) ![0, 1, 0, 0] S1x1x64x1024.size inb_S1x2x64x1024_S1x1x64x1024_0_1_0_0).toLoadRect (harg5.unread x2)) (fun d q => small_at harg5 _ x2 hx2 _) x j).trans (unread_at4 harg5 1 _ x2 x j)
  refine stage_last ((BitVec.toInt (tbM0_0.view.readAt (Elt Ideal) (Rect.unit (s := S8) (k0_off1 i) S1.size (k0_off1_inb i)).toLoadRect xt0 (Shape.Idx.first (numel1_S1.symm ▸ Nat.one_pos))) + 511) / 512).toNat 3 768 256 rfl rfl (by decide) arg20.view arg21.view arg22.view _ arg21.view.junk _ _ (kernelRun0_A.sl.HS4_3_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1) _ _ _ _ _ _ _ _ _ _ _ (fun q => hS (tbM0_0.view.readAt (Elt Ideal) (Rect.unit (s := S8) (k0_off1 i) S1.size (k0_off1_inb i)).toLoadRect xt0 (Shape.Idx.first (numel1_S1.symm ▸ Nat.one_pos))) (fun d q => x0 (ix4 0 1 d q) * Ideal.ofBits .f32 0x3E000000#32) (fun d j => x1 (ix4 0 1 d j)) (fun d p => x3 (ix4 0 1 d p)) (fun d => x5 (ix3 0 ⟨(2 * (i 1).val + 1) % 8, Nat.mod_lt _ (by decide)⟩ d)) q) (fun d => hV (fun d j => x2 (ix4 0 1 d j)) (fun d p => x4 (ix4 0 1 d p)) (fun p => x6 (ix3 0 ⟨(2 * (i 1).val + 1) % 8, Nat.mod_lt _ (by decide)⟩ p)) d) (fun d j => x1 (ix4 0 1 d j)) (fun d q => x0 (ix4 0 1 d q) * Ideal.ofBits .f32 0x3E000000#32) (fun q j => rfl)
    ?_ ?_ ?_ ?hM ?_ ?_
    (fun c => lB3 _ (fun _ => (0 : EReal)) _ _ _ (fun _ => (0 : EReal)) c) (fun d c => aB3 _ _ _ _ (fun _ => (0 : EReal)) _ d c) ?_ q d
  case hM => exact fun c q hq => load_at arg21.view _ _ 0 c q hq
  · exact fun x r j hj => scratch_at arg18.view _ _ _ _ _ (fun d j => x1 (ix4 0 1 d j)) hKp x r j hj
  · exact fun x r j hj => scratch_at arg17.view _ _ _ _ _ (fun d q => x0 (ix4 0 1 d q) * Ideal.ofBits .f32 0x3E000000#32) hQp x r j hj
  · exact fun x r j hj => scratch_at arg19.view _ _ _ _ _ (fun d j => x2 (ix4 0 1 d j)) hVp x r j hj

  · exact fun c q hq => load_at arg22.view _ _ 0 c q hq
  · exact fun d c q hq => load_at arg20.view _ _ d c q hq
  intro q d
  refine stage_mid ((BitVec.toInt (tbM0_0.view.readAt (Elt Ideal) (Rect.unit (s := S8) (k0_off1 i) S1.size (k0_off1_inb i)).toLoadRect xt0 (Shape.Idx.first (numel1_S1.symm ▸ Nat.one_pos))) + 511) / 512).toNat 2 512 512 rfl rfl (by decide) arg20.view arg21.view arg22.view _ _ _ _ _ _ _ _ _ _ _ _ _ _ _ _ _ _ (fun q => hS (tbM0_0.view.readAt (Elt Ideal) (Rect.unit (s := S8) (k0_off1 i) S1.size (k0_off1_inb i)).toLoadRect xt0 (Shape.Idx.first (numel1_S1.symm ▸ Nat.one_pos))) (fun d q => x0 (ix4 0 1 d q) * Ideal.ofBits .f32 0x3E000000#32) (fun d j => x1 (ix4 0 1 d j)) (fun d p => x3 (ix4 0 1 d p)) (fun d => x5 (ix3 0 ⟨(2 * (i 1).val + 1) % 8, Nat.mod_lt _ (by decide)⟩ d)) q) (fun d => hV (fun d j => x2 (ix4 0 1 d j)) (fun d p => x4 (ix4 0 1 d p)) (fun p => x6 (ix3 0 ⟨(2 * (i 1).val + 1) % 8, Nat.mod_lt _ (by decide)⟩ p)) d) (fun d j => x1 (ix4 0 1 d j)) (fun d q => x0 (ix4 0 1 d q) * Ideal.ofBits .f32 0x3E000000#32) (fun q j => rfl)
    ?_ ?_ ?_ ?_ ?_ ?_
    (fun c => mB2 _ (fun _ => (0 : EReal)) _ _ (fun _ => (0 : EReal)) (fun _ => (0 : EReal)) c) (fun c => lB2 _ (fun _ => (0 : EReal)) _ _ _ (fun _ => (0 : EReal)) c) (fun d c => aB2 _ _ _ _ (fun _ => (0 : EReal)) _ d c) ?_ q d
  · exact fun x r j hj => scratch_at arg18.view _ _ _ _ _ (fun d j => x1 (ix4 0 1 d j)) hKp x r j hj
  · exact fun x r j hj => scratch_at arg17.view _ _ _ _ _ (fun d q => x0 (ix4 0 1 d q) * Ideal.ofBits .f32 0x3E000000#32) hQp x r j hj
  · exact fun x r j hj => scratch_at arg19.view _ _ _ _ _ (fun d j => x2 (ix4 0 1 d j)) hVp x r j hj
  · exact fun c q hq => load_at arg21.view _ _ 0 c q hq
  · exact fun c q hq => load_at arg22.view _ _ 0 c q hq
  · exact fun d c q hq => load_at arg20.view _ _ d c q hq
  intro q d
  refine stage_mid ((BitVec.toInt (tbM0_0.view.readAt (Elt Ideal) (Rect.unit (s := S8) (k0_off1 i) S1.size (k0_off1_inb i)).toLoadRect xt0 (Shape.Idx.first (numel1_S1.symm ▸ Nat.one_pos))) + 511) / 512).toNat 1 256 768 rfl rfl (by decide) arg20.view arg21.view arg22.view _ _ _ _ _ _ _ _ _ _ _ _ _ _ _ _ _ _ (fun q => hS (tbM0_0.view.readAt (Elt Ideal) (Rect.unit (s := S8) (k0_off1 i) S1.size (k0_off1_inb i)).toLoadRect xt0 (Shape.Idx.first (numel1_S1.symm ▸ Nat.one_pos))) (fun d q => x0 (ix4 0 1 d q) * Ideal.ofBits .f32 0x3E000000#32) (fun d j => x1 (ix4 0 1 d j)) (fun d p => x3 (ix4 0 1 d p)) (fun d => x5 (ix3 0 ⟨(2 * (i 1).val + 1) % 8, Nat.mod_lt _ (by decide)⟩ d)) q) (fun d => hV (fun d j => x2 (ix4 0 1 d j)) (fun d p => x4 (ix4 0 1 d p)) (fun p => x6 (ix3 0 ⟨(2 * (i 1).val + 1) % 8, Nat.mod_lt _ (by decide)⟩ p)) d) (fun d j => x1 (ix4 0 1 d j)) (fun d q => x0 (ix4 0 1 d q) * Ideal.ofBits .f32 0x3E000000#32) (fun q j => rfl)
    ?_ ?_ ?_ ?_ ?_ ?_
    (fun c => mB1 _ (fun _ => (0 : EReal)) _ _ (fun _ => (0 : EReal)) (fun _ => (0 : EReal)) c) (fun c => lB1 _ (fun _ => (0 : EReal)) _ _ _ (fun _ => (0 : EReal)) c) (fun d c => aB1 _ _ _ _ (fun _ => (0 : EReal)) _ d c) ?_ q d
  · exact fun x r j hj => scratch_at arg18.view _ _ _ _ _ (fun d j => x1 (ix4 0 1 d j)) hKp x r j hj
  · exact fun x r j hj => scratch_at arg17.view _ _ _ _ _ (fun d q => x0 (ix4 0 1 d q) * Ideal.ofBits .f32 0x3E000000#32) hQp x r j hj
  · exact fun x r j hj => scratch_at arg19.view _ _ _ _ _ (fun d j => x2 (ix4 0 1 d j)) hVp x r j hj
  · exact fun c q hq => load_at arg21.view _ _ 0 c q hq
  · exact fun c q hq => load_at arg22.view _ _ 0 c q hq
  · exact fun d c q hq => load_at arg20.view _ _ d c q hq
  intro q d
  refine stage_mid ((BitVec.toInt (tbM0_0.view.readAt (Elt Ideal) (Rect.unit (s := S8) (k0_off1 i) S1.size (k0_off1_inb i)).toLoadRect xt0 (Shape.Idx.first (numel1_S1.symm ▸ Nat.one_pos))) + 511) / 512).toNat 0 0 1024 rfl rfl (by decide) arg20.view arg21.view arg22.view _ _ _ _ _ _ _ _ _ _ _ _ _ _ _ _ _ _ (fun q => hS (tbM0_0.view.readAt (Elt Ideal) (Rect.unit (s := S8) (k0_off1 i) S1.size (k0_off1_inb i)).toLoadRect xt0 (Shape.Idx.first (numel1_S1.symm ▸ Nat.one_pos))) (fun d q => x0 (ix4 0 1 d q) * Ideal.ofBits .f32 0x3E000000#32) (fun d j => x1 (ix4 0 1 d j)) (fun d p => x3 (ix4 0 1 d p)) (fun d => x5 (ix3 0 ⟨(2 * (i 1).val + 1) % 8, Nat.mod_lt _ (by decide)⟩ d)) q) (fun d => hV (fun d j => x2 (ix4 0 1 d j)) (fun d p => x4 (ix4 0 1 d p)) (fun p => x6 (ix3 0 ⟨(2 * (i 1).val + 1) % 8, Nat.mod_lt _ (by decide)⟩ p)) d) (fun d j => x1 (ix4 0 1 d j)) (fun d q => x0 (ix4 0 1 d q) * Ideal.ofBits .f32 0x3E000000#32) (fun q j => rfl)
    ?_ ?_ ?_ ?_ ?_ ?_
    (fun c => mB0 _ (fun _ => (0 : EReal)) _ _ (fun _ => (0 : EReal)) (fun _ => (0 : EReal)) c) (fun c => lB0 _ (fun _ => (0 : EReal)) _ _ _ (fun _ => (0 : EReal)) c) (fun d c => aB0 _ _ _ _ (fun _ => (0 : EReal)) _ d c) ?_ q d
  · exact fun x r j hj => scratch_at arg18.view _ _ _ _ _ (fun d j => x1 (ix4 0 1 d j)) hKp x r j hj
  · exact fun x r j hj => scratch_at arg17.view _ _ _ _ _ (fun d q => x0 (ix4 0 1 d q) * Ideal.ofBits .f32 0x3E000000#32) hQp x r j hj
  · exact fun x r j hj => scratch_at arg19.view _ _ _ _ _ (fun d j => x2 (ix4 0 1 d j)) hVp x r j hj
  · exact fun c q hq => load_at arg21.view _ _ 0 c q hq
  · exact fun c q hq => load_at arg22.view _ _ 0 c q hq
  · exact fun d c q hq => load_at arg20.view _ _ d c q hq
  intro q d
  have hT : (k0_t3_loop (tbM0_0.view.readAt (Elt Ideal) (Rect.unit (s := S8) (k0_off1 i) S1.size (k0_off1_inb i)).toLoadRect xt0 (Shape.Idx.first (numel1_S1.symm ▸ Nat.one_pos)))).trips = ((BitVec.toInt (tbM0_0.view.readAt (Elt Ideal) (Rect.unit (s := S8) (k0_off1 i) S1.size (k0_off1_inb i)).toLoadRect xt0 (Shape.Idx.first (numel1_S1.symm ▸ Nat.one_pos))) + 511) / 512).toNat := t3_trips _ hp
  have hk : ∀ k : Fin (k0_t3_loop (tbM0_0.view.readAt (Elt Ideal) (Rect.unit (s := S8) (k0_off1 i) S1.size (k0_off1_inb i)).toLoadRect xt0 (Shape.Idx.first (numel1_S1.symm ▸ Nat.one_pos)))).trips, k.val < 32 := fun k => lt_of_lt_of_le k.isLt (by omega)
  refine start_congr arg20.view arg21.view arg22.view _ _ _ _ _ _ _ _ _ _ _ _ d q ?_ ?_ ?_ ?_
  · exact nil_of (fun n => (st_k0_t4 (F := Ideal) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (tbM0_0.view.readAt (Elt Ideal) (Rect.unit (s := S8) (k0_off1 i) S1.size (k0_off1_inb i)).toLoadRect xt0 (Shape.Idx.first (numel1_S1.symm ▸ Nat.one_pos))) k0_hw1 _ _ _ _ _ _ _ _ _ _ _ _ _ _ n).2.1) (t4_trips _ hp) rfl
  · exact nil_of (fun n => (st_k0_t4 (F := Ideal) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (tbM0_0.view.readAt (Elt Ideal) (Rect.unit (s := S8) (k0_off1 i) S1.size (k0_off1_inb i)).toLoadRect xt0 (Shape.Idx.first (numel1_S1.symm ▸ Nat.one_pos))) k0_hw1 _ _ _ _ _ _ _ _ _ _ _ _ _ _ n).2.2.1) (t4_trips _ hp) rfl
  · exact nil_of (fun n => (st_k0_t4 (F := Ideal) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (tbM0_0.view.readAt (Elt Ideal) (Rect.unit (s := S8) (k0_off1 i) S1.size (k0_off1_inb i)).toLoadRect xt0 (Shape.Idx.first (numel1_S1.symm ▸ Nat.one_pos))) k0_hw1 _ _ _ _ _ _ _ _ _ _ _ _ _ _ n).2.2.2) (t4_trips _ hp) rfl
  refine met_congr hT ?_
  refine loopB_inv Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (tbM0_0.view.readAt (Elt Ideal) (Rect.unit (s := S8) (k0_off1 i) S1.size (k0_off1_inb i)).toLoadRect xt0 (Shape.Idx.first (numel1_S1.symm ▸ Nat.one_pos))) k0_hw1 _ _ _ _ _ _ _ _ _ _ _ _ _ (by omega) (fun q => hS (tbM0_0.view.readAt (Elt Ideal) (Rect.unit (s := S8) (k0_off1 i) S1.size (k0_off1_inb i)).toLoadRect xt0 (Shape.Idx.first (numel1_S1.symm ▸ Nat.one_pos))) (fun d q => x0 (ix4 0 1 d q) * Ideal.ofBits .f32 0x3E000000#32) (fun d j => x1 (ix4 0 1 d j)) (fun d p => x3 (ix4 0 1 d p)) (fun d => x5 (ix3 0 ⟨(2 * (i 1).val + 1) % 8, Nat.mod_lt _ (by decide)⟩ d)) q) (fun d => hV (fun d j => x2 (ix4 0 1 d j)) (fun d p => x4 (ix4 0 1 d p)) (fun p => x6 (ix3 0 ⟨(2 * (i 1).val + 1) % 8, Nat.mod_lt _ (by decide)⟩ p)) d) ?_ ?_ ?_ _ (le_refl _) q d
  · intro k q j p hj
    refine (sOld_at _ _ (hk k) _ _ _ j p hj).trans ?_
    refine congrArg (fun z => Scalar.select (IntOp.cmpi .slt (BitVec.ofNat 32 p.val) (tbM0_0.view.readAt (Elt Ideal) (Rect.unit (s := S8) (k0_off1 i) S1.size (k0_off1_inb i)).toLoadRect xt0 (Shape.Idx.first (numel1_S1.symm ▸ Nat.one_pos)))) z ⊥) (Finset.sum_congr rfl fun x _ => mul_three ?_ ?_ ?_)
    · exact (harg6.readAt_unread x3 _ _).trans (congrArg x3 (idx_at4 _ _ 0 1 0 (512 * k.val) (off10_eq _ k (hk k)) (ix4 0 0 x j) (ix4 0 1 x p) rfl rfl (Nat.zero_add _).symm hj))
    · exact (ksB _ x).trans ((harg8.readAt_unread x5 _ _).trans (congrArg x5 (idx_at3 _ _ 0 ((2 * (i 1).val + 1) % 8) 0 (off9_eq i) (ix3 0 0 x) (ix3 0 ⟨(2 * (i 1).val + 1) % 8, Nat.mod_lt _ (by decide)⟩ x) rfl rfl (Nat.zero_add _).symm)))
    · exact scratch_at arg17.view _ _ _ _ _ (fun d q => x0 (ix4 0 1 d q) * Ideal.ofBits .f32 0x3E000000#32) hQp x q q (by omega)
  · intro k d j p hj
    refine mul_two ?_ ?_
    · exact (harg7.readAt_unread x4 _ _).trans (congrArg x4 (idx_at4 _ _ 0 1 0 (512 * k.val) (off10_eq _ k (hk k)) (ix4 0 0 d j) (ix4 0 1 d p) rfl rfl (Nat.zero_add _).symm hj))
    · exact (harg9.readAt_unread x6 _ _).trans (congrArg x6 (idx_at3 _ _ 0 ((2 * (i 1).val + 1) % 8) (512 * k.val) (off11_eq i _ k (hk k)) (ix3 0 0 j) (ix3 0 ⟨(2 * (i 1).val + 1) % 8, Nat.mod_lt _ (by decide)⟩ p) rfl rfl hj))
  · intro q d
    refine init_inv ?_ ?_ ?_
    · exact (read_cols_ge arg21.view _ _ _ _ 0 q q (by omega)).trans (pay131_at q)
    · exact (read_cols_ge arg22.view _ _ _ _ 0 q q (by omega)).trans (pay132_at q)
    · exact (read_cols_ge arg20.view _ _ _ _ d q q (by omega)).trans (pay133_at d q)

end Cert.KernelIdeal.Gen
-- ==== Proof.KernelIdeal.Out.lean ====
module

public import proofs.«01_k».proof.Proof.KernelIdeal.Cover
public import proofs.«01_k».proof.Proof.KernelIdeal.HeadA
public import proofs.«01_k».proof.Proof.KernelIdeal.HeadB

@[expose] public section

set_option maxRecDepth 16384
set_option maxHeartbeats 1000000

/-! The kernel's result array over the argument arrays. -/

noncomputable section

namespace Cert.KernelIdeal.Gen

open Idealize.ShloMosaic Idealize.ShloMosaic.TcCoe Idealize.SL.Sem

variable (m : (ℓ : Loc nD τ sig) → Buf (Elt Ideal) ℓ)

theorem eta_pair (y : S1x2x64x1024.Idx) : ∃ (e : Fin 2) (d : Fin 64) (q : Fin 1024), y = ix4 0 e d q := by
  refine ⟨y 1, y 2, y 3, ?_⟩
  funext a
  match a with
  | ⟨0, _⟩ => exact Subsingleton.elim (α := Fin 1) _ _
  | ⟨1, _⟩ => rfl
  | ⟨2, _⟩ => rfl
  | ⟨3, _⟩ => rfl

theorem small0 (hO : Ok m) (c : Dev nD) (t : Fin (cfgM m hO).N) (s : ∀ i : S8x1024x64x64.Idx, Small (m ((c : Thread nD τ).loc main_arg0) i))
    (y : S1x2x64x1024.Idx) : Small ((iblk m hO c 0 t : Vec Ideal S1x2x64x1024 .bf16) y) := by
  have ht : t.val < 256 := lt_of_lt_of_eq t.isLt (by decide : grid0.N = 256)
  obtain ⟨e, d, q, rfl⟩ := eta_pair y
  have he := e.isLt
  have hv := blk0 m hO c t e d q ⟨t.val / 32, by omega⟩ ⟨2 * (t.val % 32) + e.val, by omega⟩ rfl rfl
  obtain ⟨r, hr, hb⟩ := s (ix4 ⟨t.val / 32, by omega⟩ q ⟨2 * (t.val % 32) + e.val, by omega⟩ d)
  exact ⟨r, hv.trans hr, hb⟩

theorem small1 (hO : Ok m) (c : Dev nD) (t : Fin (cfgM m hO).N) (s : ∀ i : S8x1024x64x64.Idx, Small (m ((c : Thread nD τ).loc main_arg1) i))
    (y : S1x2x64x1024.Idx) : Small ((iblk m hO c 1 t : Vec Ideal S1x2x64x1024 .bf16) y) := by
  have ht : t.val < 256 := lt_of_lt_of_eq t.isLt (by decide : grid0.N = 256)
  obtain ⟨e, d, q, rfl⟩ := eta_pair y
  have he := e.isLt
  have hv := blk1 m hO c t e d q ⟨t.val / 32, by omega⟩ ⟨2 * (t.val % 32) + e.val, by omega⟩ rfl rfl
  obtain ⟨r, hr, hb⟩ := s (ix4 ⟨t.val / 32, by omega⟩ q ⟨2 * (t.val % 32) + e.val, by omega⟩ d)
  exact ⟨r, hv.trans hr, hb⟩

theorem small2 (hO : Ok m) (c : Dev nD) (t : Fin (cfgM m hO).N) (s : ∀ i : S8x1024x64x64.Idx, Small (m ((c : Thread nD τ).loc main_arg2) i))
    (y : S1x2x64x1024.Idx) : Small ((iblk m hO c 2 t : Vec Ideal S1x2x64x1024 .bf16) y) := by
  have ht : t.val < 256 := lt_of_lt_of_eq t.isLt (by decide : grid0.N = 256)
  obtain ⟨e, d, q, rfl⟩ := eta_pair y
  have he := e.isLt
  have hv := blk2 m hO c t e d q ⟨t.val / 32, by omega⟩ ⟨2 * (t.val % 32) + e.val, by omega⟩ rfl rfl
  obtain ⟨r, hr, hb⟩ := s (ix4 ⟨t.val / 32, by omega⟩ q ⟨2 * (t.val % 32) + e.val, by omega⟩ d)
  exact ⟨r, hv.trans hr, hb⟩

/-- The formula from the blocks' values. -/
theorem outF_of {a0 a1 a2 : Fin 8 → Fin 1024 → Fin 64 → Fin 64 → EReal} {a3 a4 : Fin 8 → Fin 16384 → Fin 64 → Fin 64 → EReal}
    {a5 : Fin 8 → Fin 64 → Fin 64 → EReal} {a6 : Fin 8 → Fin 16384 → Fin 64 → EReal} {a7 : Fin 8 → BitVec 32}
    {b : Fin 8} {q : Fin 1024} {h d : Fin 64} {W : BitVec 32} {Q K V1 : Fin 64 → Fin 1024 → EReal} {KC VC : Fin 64 → Fin 16384 → EReal} {KS : Fin 64 → EReal} {VS : Fin 16384 → EReal}
    (hW : W = a7 b) (h0 : ∀ d q, Q d q = a0 b q h d * Ideal.ofBits .f32 0x3E000000#32) (h1 : ∀ d j, K d j = a1 b j h d) (h3 : ∀ d p, KC d p = a3 b p h d)
    (h5 : ∀ d, KS d = a5 b h d) (h2 : ∀ d j, V1 d j = a2 b j h d) (h4 : ∀ d p, VC d p = a4 b p h d) (h6 : ∀ p, VS p = a6 b p h) :
    hOut ((fun q => hS W Q K KC KS q) q) ((fun d => hV V1 VC VS d) d) = Formula.outF a0 a1 a2 a3 a4 a5 a6 a7 b q h d := by
  obtain rfl : Q = fun d q => a0 b q h d * Ideal.ofBits .f32 0x3E000000#32 := funext fun d => funext fun q => h0 d q
  obtain rfl : K = fun d j => a1 b j h d := funext fun d => funext fun q => h1 d q
  obtain rfl : KC = fun d p => a3 b p h d := funext fun d => funext fun q => h3 d q
  obtain rfl : KS = fun d => a5 b h d := funext fun d => h5 d
  obtain rfl : V1 = fun d j => a2 b j h d := funext fun d => funext fun q => h2 d q
  obtain rfl : VC = fun d p => a4 b p h d := funext fun d => funext fun q => h4 d q
  obtain rfl : VS = fun p => a6 b p h := funext fun d => h6 d
  subst hW
  rfl

/-- What the body leaves for head 0 of a pair is the formula's value. -/
theorem headA (hO : Ok m) (hH : Hyps m hO) (c : Dev nD) (hlen : ∀ i : S8.Idx, BitVec.toInt ((tbl m 0 : S8.Idx → BitVec 32) i) ≤ 16384)
    (htbl : (tbl m 0 : S8.Idx → BitVec 32) = m ((c : Thread nD τ).loc main_arg7))
    (s0 : ∀ i : S8x1024x64x64.Idx, Small (m ((c : Thread nD τ).loc main_arg0) i)) (s1 : ∀ i : S8x1024x64x64.Idx, Small (m ((c : Thread nD τ).loc main_arg1) i))
    (s2 : ∀ i : S8x1024x64x64.Idx, Small (m ((c : Thread nD τ).loc main_arg2) i))
    (t : Fin (cfgM m hO).N) (q : Fin 1024) (e : Fin 128) (d : Fin 64) (he : e.val = 64 * 0 + d.val) (b : Fin 8) (h : Fin 64) (hb : b.val = t.val / 32)
    (hh : h.val = 2 * (t.val % 32) + 0) : outsAt0 m hO hH c t (ix3 0 q e) = outV m c b q h d := by
  have hc := (tr_all t).2.2.2.2.2.2.2.2
  have ht : (grid0.coords t 1).val = t.val % 32 := hc.2
  unfold outsAt0
  refine (bodyA c _ _ _ _ _ _ _ _ _ _ _ _ _ _ _ _ _ _ _ _ _ _ _ _ _ _ _ _ _ _ _ _ _ _ _ _ _ _ _ _ _ _ _ _ _ _ _ _ _ _ ((congrArg BitVec.toInt (word_at _ (tbl m 0) b (hb.trans hc.1.symm))).trans_le (hlen _)) (small0 m hO c t s0) (small1 m hO c t s1) (small2 m hO c t s2) q d e (by omega)).trans ?_
  refine outF_of ((word_at _ (tbl m 0) b (hb.trans hc.1.symm)).trans (congrFun htbl _)) ?_ ?_ ?_ ?_ ?_ ?_ ?_
  · exact fun d q => congrArg (fun z => z * Ideal.ofBits .f32 0x3E000000#32) (blk0 m hO c t 0 d q b h hb hh)
  · exact fun d j => blk1 m hO c t 0 d j b h hb hh
  · exact fun d p => blk3 m hO c t 0 d p b h hb hh
  · exact fun d => blk5 m hO c t _ d b h hb (by show h.val = 8 * (t.val % 32 / 4) + (2 * (grid0.coords t 1).val + 0) % 8; omega)
  · exact fun d j => blk2 m hO c t 0 d j b h hb hh
  · exact fun d p => blk4 m hO c t 0 d p b h hb hh
  · exact fun p => blk6 m hO c t _ p b h hb (by show h.val = 8 * (t.val % 32 / 4) + (2 * (grid0.coords t 1).val + 0) % 8; omega)

/-- What the body leaves for head 1 of a pair is the formula's value. -/
theorem headB (hO : Ok m) (hH : Hyps m hO) (c : Dev nD) (hlen : ∀ i : S8.Idx, BitVec.toInt ((tbl m 0 : S8.Idx → BitVec 32) i) ≤ 16384)
    (htbl : (tbl m 0 : S8.Idx → BitVec 32) = m ((c : Thread nD τ).loc main_arg7))
    (s0 : ∀ i : S8x1024x64x64.Idx, Small (m ((c : Thread nD τ).loc main_arg0) i)) (s1 : ∀ i : S8x1024x64x64.Idx, Small (m ((c : Thread nD τ).loc main_arg1) i))
    (s2 : ∀ i : S8x1024x64x64.Idx, Small (m ((c : Thread nD τ).loc main_arg2) i))
    (t : Fin (cfgM m hO).N) (q : Fin 1024) (e : Fin 128) (d : Fin 64) (he : e.val = 64 * 1 + d.val) (b : Fin 8) (h : Fin 64) (hb : b.val = t.val / 32)
    (hh : h.val = 2 * (t.val % 32) + 1) : outsAt0 m hO hH c t (ix3 0 q e) = outV m c b q h d := by
  have hc := (tr_all t).2.2.2.2.2.2.2.2
  have ht : (grid0.coords t 1).val = t.val % 32 := hc.2
  unfold outsAt0
  refine (bodyB c _ _ _ _ _ _ _ _ _ _ _ _ _ _ _ _ _ _ _ _ _ _ _ _ _ _ _ _ _ _ _ _ _ _ _ _ _ _ _ _ _ _ _ _ _ _ _ _ _ _ ((congrArg BitVec.toInt (word_at _ (tbl m 0) b (hb.trans hc.1.symm))).trans_le (hlen _)) (small0 m hO c t s0) (small1 m hO c t s1) (small2 m hO c t s2) q d e (by omega)).trans ?_
  refine outF_of ((word_at _ (tbl m 0) b (hb.trans hc.1.symm)).trans (congrFun htbl _)) ?_ ?_ ?_ ?_ ?_ ?_ ?_
  · exact fun d q => congrArg (fun z => z * Ideal.ofBits .f32 0x3E000000#32) (blk0 m hO c t 1 d q b h hb hh)
  · exact fun d j => blk1 m hO c t 1 d j b h hb hh
  · exact fun d p => blk3 m hO c t 1 d p b h hb hh
  · exact fun d => blk5 m hO c t _ d b h hb (by show h.val = 8 * (t.val % 32 / 4) + (2 * (grid0.coords t 1).val + 1) % 8; omega)
  · exact fun d j => blk2 m hO c t 1 d j b h hb hh
  · exact fun d p => blk4 m hO c t 1 d p b h hb hh
  · exact fun p => blk6 m hO c t _ p b h hb (by show h.val = 8 * (t.val % 32 / 4) + (2 * (grid0.coords t 1).val + 1) % 8; omega)

/-- The kernel's result array after the run. -/
theorem final (hO : Ok m) (hH : Hyps m hO) (c : Dev nD) (hlen : ∀ i : S8.Idx, BitVec.toInt ((tbl m 0 : S8.Idx → BitVec 32) i) ≤ 16384)
    (htbl : (tbl m 0 : S8.Idx → BitVec 32) = m ((c : Thread nD τ).loc main_arg7))
    (s0 : ∀ i : S8x1024x64x64.Idx, Small (m ((c : Thread nD τ).loc main_arg0) i)) (s1 : ∀ i : S8x1024x64x64.Idx, Small (m ((c : Thread nD τ).loc main_arg1) i))
    (s2 : ∀ i : S8x1024x64x64.Idx, Small (m ((c : Thread nD τ).loc main_arg2) i)) :
    (dats m hO hH 0 c).arrAt 7 (cfgM m hO).N = outK m c := by
  refine final_of m hO hH c (cover7 m hO) fun t q e b x hb hx => ?_
  have ht : t.val < 256 := lt_of_lt_of_eq t.isLt (by decide : grid0.N = 256)
  have hl := e.isLt
  by_cases h : e.val < 64
  · refine (headA m hO hH c hlen htbl s0 s1 s2 t q e ⟨e.val, h⟩ (by show e.val = 64 * 0 + e.val; omega) b ⟨2 * (t.val % 32) + 0, by omega⟩ hb rfl).trans ?_
    exact (outK_at m c b q x _ _ (by show 2 * (t.val % 32) + 0 = x.val / 64; omega) (by show e.val = x.val % 64; omega)).symm
  · refine (headB m hO hH c hlen htbl s0 s1 s2 t q e ⟨e.val - 64, by omega⟩ (by show e.val = 64 * 1 + (e.val - 64); omega) b ⟨2 * (t.val % 32) + 1, by omega⟩ hb rfl).trans ?_
    exact (outK_at m c b q x _ _ (by show 2 * (t.val % 32) + 1 = x.val / 64; omega) (by show e.val - 64 = x.val % 64; omega)).symm

end Cert.KernelIdeal.Gen
-- ==== Proof.ReferenceIdeal.Codesq.lean ====
module

public import proofs.«01_k».proof.Proof.Gen.ReferenceIdeal.Frame
public import proofs.«01_k».proof.Proof.Quant
public import Idealize.ShloMosaic.Lib.StableHlo.ReadAt
public import Idealize.ShloMosaic.Lib.Pointwise
public import Idealize.ShloMosaic.Lib.Pipeline.ValueKit

@[expose] public section

set_option maxRecDepth 16384
set_option maxHeartbeats 1000000

/-! The queries as the reference quantises them: their codes and their scales. -/

noncomputable section

namespace Cert.ReferenceIdeal.Gen

open Idealize.ShloMosaic Idealize.ShloMosaic.TcCoe Idealize.SL.Sem

theorem q_m' (W : Valuation τ sig (Elt Ideal)) (x : S8x1024x64x64.Idx → EReal) (hx : W (Proc.devRef .tc main_arg0) = x) (b : Fin 8) (q : Fin 1024) (h : Fin 64) (f : EReal → EReal) (r : EReal) (hr : r = f (Finset.univ.fold max ⊥ fun k : Fin 64 => max (x (ix4 b q h k)) (-(x (ix4 b q h k))))) :
    f ((StableHlo.after (List.take 4 hostOps0) W (Proc.devRef .tc main_v2) : S8x1024x64.Idx → EReal) (ix3 b q h)) = r := by
  subst hx
  after_reads_at
  rw [Quant.neg_inf]
  exact hr.symm

theorem q_e' (W : Valuation τ sig (Elt Ideal)) (a : S8x1024x64.Idx → EReal) (ha : W (Proc.devRef .tc main_v2) = a) (b : Fin 8) (q : Fin 1024) (h : Fin 64) :
    (StableHlo.after (List.drop 4 hostOps0) W (Proc.devRef .tc main_v14) : S8x1024x64x1.Idx → EReal) (ix4 b q h 0)
      = max (Ideal.liftRound Int.floor (Ideal.div (Ideal.log (a (ix3 b q h) * Ideal.ofBits .f32 0x3B124925#32)) (Ideal.log (Ideal.ofBits .f32 0x40000000#32))) + Ideal.ofBits .f32 0x3F800000#32)
          (Ideal.ofBits .f32 0xC2FC0000#32) := by
  subst ha
  after_reads_at
  all_goals rfl

theorem q_c' (W : Valuation τ sig (Elt Ideal)) (a : S8x1024x64.Idx → EReal) (ha : W (Proc.devRef .tc main_v2) = a) (b : Fin 8) (q : Fin 1024) (h : Fin 64) :
    (StableHlo.after (List.drop 4 hostOps0) W (Proc.devRef .tc main_v16) : S8x1024x64x1.Idx → BitVec 1) (ix4 b q h 0) = Ideal.cmp .oeq (a (ix3 b q h)) (Ideal.ofBits .f32 0x00000000#32) := by
  subst ha
  after_reads_at
  all_goals rfl

theorem q_split (W : Valuation τ sig (Elt Ideal)) :
    StableHlo.after hostOps0 W = StableHlo.after (List.drop 4 hostOps0) (StableHlo.after (List.take 4 hostOps0) W) := by
  rw [← StableHlo.after_append, List.take_append_drop]

theorem q_e (W : Valuation τ sig (Elt Ideal)) (x : S8x1024x64x64.Idx → EReal) (hx : W (Proc.devRef .tc main_arg0) = x) (b : Fin 8) (q : Fin 1024) (h : Fin 64) :
    ((StableHlo.after hostOps0 W (Proc.devRef .tc main_v14)) : S8x1024x64x1.Idx → EReal) (ix4 b q h 0)
      = max (Ideal.liftRound Int.floor (Ideal.div (Ideal.log ((Finset.univ.fold max ⊥ fun k : Fin 64 => max (x (ix4 b q h k)) (-(x (ix4 b q h k)))) * Ideal.ofBits .f32 0x3B124925#32)) (Ideal.log (Ideal.ofBits .f32 0x40000000#32))) + Ideal.ofBits .f32 0x3F800000#32)
          (Ideal.ofBits .f32 0xC2FC0000#32) := by
  rw [q_split]
  refine (q_e' _ _ rfl b q h).trans ?_
  rw [q_m' W x hx b q h (fun t => t) _ rfl]

theorem q_c (W : Valuation τ sig (Elt Ideal)) (x : S8x1024x64x64.Idx → EReal) (hx : W (Proc.devRef .tc main_arg0) = x) (b : Fin 8) (q : Fin 1024) (h : Fin 64) :
    ((StableHlo.after hostOps0 W (Proc.devRef .tc main_v16)) : S8x1024x64x1.Idx → BitVec 1) (ix4 b q h 0) = Ideal.cmp .oeq (Finset.univ.fold max ⊥ fun k : Fin 64 => max (x (ix4 b q h k)) (-(x (ix4 b q h k)))) (Ideal.ofBits .f32 0x00000000#32) := by
  rw [q_split]
  refine (q_c' _ _ rfl b q h).trans ?_
  rw [q_m' W x hx b q h (fun t => t) _ rfl]

theorem q_x (W : Valuation τ sig (Elt Ideal)) (x : S8x1024x64x64.Idx → EReal) (hx : W (Proc.devRef .tc main_arg0) = x) (i : S8x1024x64x64.Idx) :
    ((StableHlo.after hostOps0 W (Proc.devRef .tc main_v0)) : S8x1024x64x64.Idx → EReal) i = x i := by
  subst hx
  after_reads_simp
  try rfl

theorem q_z (W : Valuation τ sig (Elt Ideal)) :
    ((StableHlo.after hostOps0 W (Proc.devRef .tc main_cst_5)) : S_.Idx → EReal) ix0 = Ideal.ofBits .f32 0x00000000#32 := by
  after_reads_simp
  rfl

theorem q_code' (W : Valuation τ sig (Elt Ideal)) (y : S8x1024x64x64.Idx → EReal) (hy : W (Proc.devRef .tc main_v0) = y) (c : S8x1024x64x1.Idx → BitVec 1) (hc : W (Proc.devRef .tc main_v16) = c) (e : S8x1024x64x1.Idx → EReal) (he : W (Proc.devRef .tc main_v14) = e) (z : S_.Idx → EReal) (hz : W (Proc.devRef .tc main_cst_5) = z)
    (b : Fin 8) (q : Fin 1024) (h d : Fin 64) :
    (StableHlo.after hostOps0_4 (StableHlo.after hostOps0_3 (StableHlo.after hostOps0_2 (StableHlo.after hostOps0_1 W))) (Proc.devRef .tc main_v24) : S8x1024x64x64.Idx → EReal) (ix4 b q h d)
      = min (Ideal.ofBits .f32 0x43E00000#32) (max (Ideal.ofBits .f32 0xC3E00000#32) (y (ix4 b q h d) * Ideal.pow (Ideal.ofBits .f32 0x40000000#32) (-(Scalar.select (c (ix4 b q h 0)) (z ix0) (e (ix4 b q h 0)))))) := by
  subst hy hc he hz
  rw [← StableHlo.after_append, ← StableHlo.after_append, ← StableHlo.after_append]
  after_reads_at
  all_goals rfl

theorem q_scale' (W : Valuation τ sig (Elt Ideal)) (y : S8x1024x64x64.Idx → EReal) (hy : W (Proc.devRef .tc main_v0) = y) (c : S8x1024x64x1.Idx → BitVec 1) (hc : W (Proc.devRef .tc main_v16) = c) (e : S8x1024x64x1.Idx → EReal) (he : W (Proc.devRef .tc main_v14) = e) (z : S_.Idx → EReal) (hz : W (Proc.devRef .tc main_cst_5) = z)
    (b : Fin 8) (q : Fin 1024) (h : Fin 64) :
    (StableHlo.after hostOps0_4 (StableHlo.after hostOps0_3 (StableHlo.after hostOps0_2 (StableHlo.after hostOps0_1 W))) (Proc.devRef .tc main_v27) : S8x1024x64.Idx → EReal) (ix3 b q h) = Ideal.pow (Ideal.ofBits .f32 0x40000000#32) (Scalar.select (c (ix4 b q h 0)) (z ix0) (e (ix4 b q h 0))) := by
  subst hy hc he hz
  rw [← StableHlo.after_append, ← StableHlo.after_append, ← StableHlo.after_append]
  after_reads_at
  all_goals rfl

/-- The codes of the queries. -/
theorem q_code (W : Valuation τ sig (Elt Ideal)) (x : S8x1024x64x64.Idx → EReal) (hx : W (Proc.devRef .tc main_arg0) = x) (b : Fin 8) (q : Fin 1024) (h d : Fin 64) :
    (StableHlo.after hostOps0_4 (StableHlo.after hostOps0_3 (StableHlo.after hostOps0_2 (StableHlo.after hostOps0_1 (StableHlo.after hostOps0 W)))) (Proc.devRef .tc main_v24) : S8x1024x64x64.Idx → EReal) (ix4 b q h d) = Quant.rcode (x (ix4 b q h d)) (Finset.univ.fold max ⊥ fun k : Fin 64 => max (x (ix4 b q h k)) (-(x (ix4 b q h k)))) := by
  refine (q_code' _ _ rfl _ rfl _ rfl _ rfl b q h d).trans ?_
  rw [q_e W x hx, q_c W x hx, q_x W x hx, q_z W]
  rfl

/-- The scales of the queries. -/
theorem q_scale (W : Valuation τ sig (Elt Ideal)) (x : S8x1024x64x64.Idx → EReal) (hx : W (Proc.devRef .tc main_arg0) = x) (b : Fin 8) (q : Fin 1024) (h : Fin 64) :
    (StableHlo.after hostOps0_4 (StableHlo.after hostOps0_3 (StableHlo.after hostOps0_2 (StableHlo.after hostOps0_1 (StableHlo.after hostOps0 W)))) (Proc.devRef .tc main_v27) : S8x1024x64.Idx → EReal) (ix3 b q h) = Quant.rscale (Finset.univ.fold max ⊥ fun k : Fin 64 => max (x (ix4 b q h k)) (-(x (ix4 b q h k)))) := by
  refine (q_scale' _ _ rfl _ rfl _ rfl _ rfl b q h).trans ?_
  rw [q_e W x hx, q_c W x hx, q_z W]
  rfl

end Cert.ReferenceIdeal.Gen
-- ==== Proof.ReferenceIdeal.Codesk.lean ====
module

public import proofs.«01_k».proof.Proof.Gen.ReferenceIdeal.Frame
public import proofs.«01_k».proof.Proof.Quant
public import Idealize.ShloMosaic.Lib.StableHlo.ReadAt
public import Idealize.ShloMosaic.Lib.Pointwise
public import Idealize.ShloMosaic.Lib.Pipeline.ValueKit

@[expose] public section

set_option maxRecDepth 16384
set_option maxHeartbeats 1000000

/-! The new keys as the reference quantises them: their codes and their scales. -/

noncomputable section

namespace Cert.ReferenceIdeal.Gen

open Idealize.ShloMosaic Idealize.ShloMosaic.TcCoe Idealize.SL.Sem

theorem k_m' (W : Valuation τ sig (Elt Ideal)) (x : S8x1024x64x64.Idx → EReal) (hx : W (Proc.devRef .tc main_arg1) = x) (b : Fin 8) (h d : Fin 64) (f : EReal → EReal) (r : EReal) (hr : r = f (Finset.univ.fold max ⊥ fun k : Fin 1024 => max (x (ix4 b k h d)) (-(x (ix4 b k h d))))) :
    f ((StableHlo.after (List.take 9 hostOps0_4) W (Proc.devRef .tc main_v30) : S8x64x64.Idx → EReal) (ix3 b h d)) = r := by
  subst hx
  after_reads_at
  rw [Quant.neg_inf]
  exact hr.symm

theorem k_e' (W : Valuation τ sig (Elt Ideal)) (a : S8x64x64.Idx → EReal) (ha : W (Proc.devRef .tc main_v30) = a) (b : Fin 8) (h d : Fin 64) :
    (StableHlo.after (List.drop 9 hostOps0_4) W (Proc.devRef .tc main_v42) : S8x1x64x64.Idx → EReal) (ix4 b 0 h d)
      = max (Ideal.liftRound Int.floor (Ideal.div (Ideal.log (a (ix3 b h d) * Ideal.ofBits .f32 0x3B124925#32)) (Ideal.log (Ideal.ofBits .f32 0x40000000#32))) + Ideal.ofBits .f32 0x3F800000#32)
          (Ideal.ofBits .f32 0xC2FC0000#32) := by
  subst ha
  after_reads_at
  all_goals rfl

theorem k_c' (W : Valuation τ sig (Elt Ideal)) (a : S8x64x64.Idx → EReal) (ha : W (Proc.devRef .tc main_v30) = a) (b : Fin 8) (h d : Fin 64) :
    (StableHlo.after (List.drop 9 hostOps0_4) W (Proc.devRef .tc main_v44) : S8x1x64x64.Idx → BitVec 1) (ix4 b 0 h d) = Ideal.cmp .oeq (a (ix3 b h d)) (Ideal.ofBits .f32 0x00000000#32) := by
  subst ha
  after_reads_at
  all_goals rfl

theorem k_split (W : Valuation τ sig (Elt Ideal)) :
    StableHlo.after hostOps0_4 W = StableHlo.after (List.drop 9 hostOps0_4) (StableHlo.after (List.take 9 hostOps0_4) W) := by
  rw [← StableHlo.after_append, List.take_append_drop]

theorem k_e (W : Valuation τ sig (Elt Ideal)) (x : S8x1024x64x64.Idx → EReal) (hx : W (Proc.devRef .tc main_arg1) = x) (b : Fin 8) (h d : Fin 64) :
    ((StableHlo.after hostOps0_4 W (Proc.devRef .tc main_v42)) : S8x1x64x64.Idx → EReal) (ix4 b 0 h d)
      = max (Ideal.liftRound Int.floor (Ideal.div (Ideal.log ((Finset.univ.fold max ⊥ fun k : Fin 1024 => max (x (ix4 b k h d)) (-(x (ix4 b k h d)))) * Ideal.ofBits .f32 0x3B124925#32)) (Ideal.log (Ideal.ofBits .f32 0x40000000#32))) + Ideal.ofBits .f32 0x3F800000#32)
          (Ideal.ofBits .f32 0xC2FC0000#32) := by
  rw [k_split]
  refine (k_e' _ _ rfl b h d).trans ?_
  rw [k_m' W x hx b h d (fun t => t) _ rfl]

theorem k_c (W : Valuation τ sig (Elt Ideal)) (x : S8x1024x64x64.Idx → EReal) (hx : W (Proc.devRef .tc main_arg1) = x) (b : Fin 8) (h d : Fin 64) :
    ((StableHlo.after hostOps0_4 W (Proc.devRef .tc main_v44)) : S8x1x64x64.Idx → BitVec 1) (ix4 b 0 h d) = Ideal.cmp .oeq (Finset.univ.fold max ⊥ fun k : Fin 1024 => max (x (ix4 b k h d)) (-(x (ix4 b k h d)))) (Ideal.ofBits .f32 0x00000000#32) := by
  rw [k_split]
  refine (k_c' _ _ rfl b h d).trans ?_
  rw [k_m' W x hx b h d (fun t => t) _ rfl]

theorem k_x (W : Valuation τ sig (Elt Ideal)) (x : S8x1024x64x64.Idx → EReal) (hx : W (Proc.devRef .tc main_arg1) = x) (i : S8x1024x64x64.Idx) :
    ((StableHlo.after hostOps0_4 W (Proc.devRef .tc main_v28)) : S8x1024x64x64.Idx → EReal) i = x i := by
  subst hx
  after_reads_simp
  try rfl

theorem k_z (W : Valuation τ sig (Elt Ideal)) :
    ((StableHlo.after hostOps0_4 W (Proc.devRef .tc main_cst_16)) : S_.Idx → EReal) ix0 = Ideal.ofBits .f32 0x00000000#32 := by
  after_reads_simp
  rfl

theorem k_code' (W : Valuation τ sig (Elt Ideal)) (y : S8x1024x64x64.Idx → EReal) (hy : W (Proc.devRef .tc main_v28) = y) (c : S8x1x64x64.Idx → BitVec 1) (hc : W (Proc.devRef .tc main_v44) = c) (e : S8x1x64x64.Idx → EReal) (he : W (Proc.devRef .tc main_v42) = e) (z : S_.Idx → EReal) (hz : W (Proc.devRef .tc main_cst_16) = z)
    (b : Fin 8) (q : Fin 1024) (h d : Fin 64) :
    (StableHlo.after hostOps0_8 (StableHlo.after hostOps0_7 (StableHlo.after hostOps0_6 (StableHlo.after hostOps0_5 W))) (Proc.devRef .tc main_v52) : S8x1024x64x64.Idx → EReal) (ix4 b q h d)
      = min (Ideal.ofBits .f32 0x43E00000#32) (max (Ideal.ofBits .f32 0xC3E00000#32) (y (ix4 b q h d) * Ideal.pow (Ideal.ofBits .f32 0x40000000#32) (-(Scalar.select (c (ix4 b 0 h d)) (z ix0) (e (ix4 b 0 h d)))))) := by
  subst hy hc he hz
  rw [← StableHlo.after_append, ← StableHlo.after_append, ← StableHlo.after_append]
  after_reads_at
  all_goals rfl

theorem k_scale' (W : Valuation τ sig (Elt Ideal)) (y : S8x1024x64x64.Idx → EReal) (hy : W (Proc.devRef .tc main_v28) = y) (c : S8x1x64x64.Idx → BitVec 1) (hc : W (Proc.devRef .tc main_v44) = c) (e : S8x1x64x64.Idx → EReal) (he : W (Proc.devRef .tc main_v42) = e) (z : S_.Idx → EReal) (hz : W (Proc.devRef .tc main_cst_16) = z)
    (b : Fin 8) (h d : Fin 64) :
    (StableHlo.after hostOps0_8 (StableHlo.after hostOps0_7 (StableHlo.after hostOps0_6 (StableHlo.after hostOps0_5 W))) (Proc.devRef .tc main_v55) : S8x64x64.Idx → EReal) (ix3 b h d) = Ideal.pow (Ideal.ofBits .f32 0x40000000#32) (Scalar.select (c (ix4 b 0 h d)) (z ix0) (e (ix4 b 0 h d))) := by
  subst hy hc he hz
  rw [← StableHlo.after_append, ← StableHlo.after_append, ← StableHlo.after_append]
  after_reads_at
  all_goals rfl

/-- The codes of the new keys. -/
theorem k_code (W : Valuation τ sig (Elt Ideal)) (x : S8x1024x64x64.Idx → EReal) (hx : W (Proc.devRef .tc main_arg1) = x) (b : Fin 8) (q : Fin 1024) (h d : Fin 64) :
    (StableHlo.after hostOps0_8 (StableHlo.after hostOps0_7 (StableHlo.after hostOps0_6 (StableHlo.after hostOps0_5 (StableHlo.after hostOps0_4 W)))) (Proc.devRef .tc main_v52) : S8x1024x64x64.Idx → EReal) (ix4 b q h d) = Quant.rcode (x (ix4 b q h d)) (Finset.univ.fold max ⊥ fun k : Fin 1024 => max (x (ix4 b k h d)) (-(x (ix4 b k h d)))) := by
  refine (k_code' _ _ rfl _ rfl _ rfl _ rfl b q h d).trans ?_
  rw [k_e W x hx, k_c W x hx, k_x W x hx, k_z W]
  rfl

/-- The scales of the new keys. -/
theorem k_scale (W : Valuation τ sig (Elt Ideal)) (x : S8x1024x64x64.Idx → EReal) (hx : W (Proc.devRef .tc main_arg1) = x) (b : Fin 8) (h d : Fin 64) :
    (StableHlo.after hostOps0_8 (StableHlo.after hostOps0_7 (StableHlo.after hostOps0_6 (StableHlo.after hostOps0_5 (StableHlo.after hostOps0_4 W)))) (Proc.devRef .tc main_v55) : S8x64x64.Idx → EReal) (ix3 b h d) = Quant.rscale (Finset.univ.fold max ⊥ fun k : Fin 1024 => max (x (ix4 b k h d)) (-(x (ix4 b k h d)))) := by
  refine (k_scale' _ _ rfl _ rfl _ rfl _ rfl b h d).trans ?_
  rw [k_e W x hx, k_c W x hx, k_z W]
  rfl

end Cert.ReferenceIdeal.Gen
-- ==== Proof.ReferenceIdeal.Codesv.lean ====
module

public import proofs.«01_k».proof.Proof.Gen.ReferenceIdeal.Frame
public import proofs.«01_k».proof.Proof.Quant
public import Idealize.ShloMosaic.Lib.StableHlo.ReadAt
public import Idealize.ShloMosaic.Lib.Pointwise
public import Idealize.ShloMosaic.Lib.Pipeline.ValueKit

@[expose] public section

set_option maxRecDepth 16384
set_option maxHeartbeats 1000000

/-! The new values as the reference quantises them: their codes and their scales. -/

noncomputable section

namespace Cert.ReferenceIdeal.Gen

open Idealize.ShloMosaic Idealize.ShloMosaic.TcCoe Idealize.SL.Sem

theorem v_m' (W : Valuation τ sig (Elt Ideal)) (x : S8x1024x64x64.Idx → EReal) (hx : W (Proc.devRef .tc main_arg2) = x) (b : Fin 8) (q : Fin 1024) (h : Fin 64) (f : EReal → EReal) (r : EReal) (hr : r = f (Finset.univ.fold max ⊥ fun k : Fin 64 => max (x (ix4 b q h k)) (-(x (ix4 b q h k))))) :
    f ((StableHlo.after (List.take 9 hostOps0_8) W (Proc.devRef .tc main_v58) : S8x1024x64.Idx → EReal) (ix3 b q h)) = r := by
  subst hx
  after_reads_at
  rw [Quant.neg_inf]
  exact hr.symm

theorem v_e' (W : Valuation τ sig (Elt Ideal)) (a : S8x1024x64.Idx → EReal) (ha : W (Proc.devRef .tc main_v58) = a) (b : Fin 8) (q : Fin 1024) (h : Fin 64) :
    (StableHlo.after (List.drop 9 hostOps0_8) W (Proc.devRef .tc main_v70) : S8x1024x64x1.Idx → EReal) (ix4 b q h 0)
      = max (Ideal.liftRound Int.floor (Ideal.div (Ideal.log (a (ix3 b q h) * Ideal.ofBits .f32 0x3B124925#32)) (Ideal.log (Ideal.ofBits .f32 0x40000000#32))) + Ideal.ofBits .f32 0x3F800000#32)
          (Ideal.ofBits .f32 0xC2FC0000#32) := by
  subst ha
  after_reads_at
  all_goals rfl

theorem v_c' (W : Valuation τ sig (Elt Ideal)) (a : S8x1024x64.Idx → EReal) (ha : W (Proc.devRef .tc main_v58) = a) (b : Fin 8) (q : Fin 1024) (h : Fin 64) :
    (StableHlo.after (List.drop 9 hostOps0_8) W (Proc.devRef .tc main_v72) : S8x1024x64x1.Idx → BitVec 1) (ix4 b q h 0) = Ideal.cmp .oeq (a (ix3 b q h)) (Ideal.ofBits .f32 0x00000000#32) := by
  subst ha
  after_reads_at
  all_goals rfl

theorem v_split (W : Valuation τ sig (Elt Ideal)) :
    StableHlo.after hostOps0_8 W = StableHlo.after (List.drop 9 hostOps0_8) (StableHlo.after (List.take 9 hostOps0_8) W) := by
  rw [← StableHlo.after_append, List.take_append_drop]

theorem v_e (W : Valuation τ sig (Elt Ideal)) (x : S8x1024x64x64.Idx → EReal) (hx : W (Proc.devRef .tc main_arg2) = x) (b : Fin 8) (q : Fin 1024) (h : Fin 64) :
    ((StableHlo.after hostOps0_8 W (Proc.devRef .tc main_v70)) : S8x1024x64x1.Idx → EReal) (ix4 b q h 0)
      = max (Ideal.liftRound Int.floor (Ideal.div (Ideal.log ((Finset.univ.fold max ⊥ fun k : Fin 64 => max (x (ix4 b q h k)) (-(x (ix4 b q h k)))) * Ideal.ofBits .f32 0x3B124925#32)) (Ideal.log (Ideal.ofBits .f32 0x40000000#32))) + Ideal.ofBits .f32 0x3F800000#32)
          (Ideal.ofBits .f32 0xC2FC0000#32) := by
  rw [v_split]
  refine (v_e' _ _ rfl b q h).trans ?_
  rw [v_m' W x hx b q h (fun t => t) _ rfl]

theorem v_c (W : Valuation τ sig (Elt Ideal)) (x : S8x1024x64x64.Idx → EReal) (hx : W (Proc.devRef .tc main_arg2) = x) (b : Fin 8) (q : Fin 1024) (h : Fin 64) :
    ((StableHlo.after hostOps0_8 W (Proc.devRef .tc main_v72)) : S8x1024x64x1.Idx → BitVec 1) (ix4 b q h 0) = Ideal.cmp .oeq (Finset.univ.fold max ⊥ fun k : Fin 64 => max (x (ix4 b q h k)) (-(x (ix4 b q h k)))) (Ideal.ofBits .f32 0x00000000#32) := by
  rw [v_split]
  refine (v_c' _ _ rfl b q h).trans ?_
  rw [v_m' W x hx b q h (fun t => t) _ rfl]

theorem v_x (W : Valuation τ sig (Elt Ideal)) (x : S8x1024x64x64.Idx → EReal) (hx : W (Proc.devRef .tc main_arg2) = x) (i : S8x1024x64x64.Idx) :
    ((StableHlo.after hostOps0_8 W (Proc.devRef .tc main_v56)) : S8x1024x64x64.Idx → EReal) i = x i := by
  subst hx
  after_reads_simp
  try rfl

theorem v_z (W : Valuation τ sig (Elt Ideal)) :
    ((StableHlo.after hostOps0_8 W (Proc.devRef .tc main_cst_27)) : S_.Idx → EReal) ix0 = Ideal.ofBits .f32 0x00000000#32 := by
  after_reads_simp
  rfl

theorem v_code' (W : Valuation τ sig (Elt Ideal)) (y : S8x1024x64x64.Idx → EReal) (hy : W (Proc.devRef .tc main_v56) = y) (c : S8x1024x64x1.Idx → BitVec 1) (hc : W (Proc.devRef .tc main_v72) = c) (e : S8x1024x64x1.Idx → EReal) (he : W (Proc.devRef .tc main_v70) = e) (z : S_.Idx → EReal) (hz : W (Proc.devRef .tc main_cst_27) = z)
    (b : Fin 8) (q : Fin 1024) (h d : Fin 64) :
    (StableHlo.after hostOps0_12 (StableHlo.after hostOps0_11 (StableHlo.after hostOps0_10 (StableHlo.after hostOps0_9 W))) (Proc.devRef .tc main_v80) : S8x1024x64x64.Idx → EReal) (ix4 b q h d)
      = min (Ideal.ofBits .f32 0x43E00000#32) (max (Ideal.ofBits .f32 0xC3E00000#32) (y (ix4 b q h d) * Ideal.pow (Ideal.ofBits .f32 0x40000000#32) (-(Scalar.select (c (ix4 b q h 0)) (z ix0) (e (ix4 b q h 0)))))) := by
  subst hy hc he hz
  rw [← StableHlo.after_append, ← StableHlo.after_append, ← StableHlo.after_append]
  after_reads_at
  all_goals rfl

theorem v_scale' (W : Valuation τ sig (Elt Ideal)) (y : S8x1024x64x64.Idx → EReal) (hy : W (Proc.devRef .tc main_v56) = y) (c : S8x1024x64x1.Idx → BitVec 1) (hc : W (Proc.devRef .tc main_v72) = c) (e : S8x1024x64x1.Idx → EReal) (he : W (Proc.devRef .tc main_v70) = e) (z : S_.Idx → EReal) (hz : W (Proc.devRef .tc main_cst_27) = z)
    (b : Fin 8) (q : Fin 1024) (h : Fin 64) :
    (StableHlo.after hostOps0_12 (StableHlo.after hostOps0_11 (StableHlo.after hostOps0_10 (StableHlo.after hostOps0_9 W))) (Proc.devRef .tc main_v83) : S8x1024x64.Idx → EReal) (ix3 b q h) = Ideal.pow (Ideal.ofBits .f32 0x40000000#32) (Scalar.select (c (ix4 b q h 0)) (z ix0) (e (ix4 b q h 0))) := by
  subst hy hc he hz
  rw [← StableHlo.after_append, ← StableHlo.after_append, ← StableHlo.after_append]
  after_reads_at
  all_goals rfl

/-- The codes of the new values. -/
theorem v_code (W : Valuation τ sig (Elt Ideal)) (x : S8x1024x64x64.Idx → EReal) (hx : W (Proc.devRef .tc main_arg2) = x) (b : Fin 8) (q : Fin 1024) (h d : Fin 64) :
    (StableHlo.after hostOps0_12 (StableHlo.after hostOps0_11 (StableHlo.after hostOps0_10 (StableHlo.after hostOps0_9 (StableHlo.after hostOps0_8 W)))) (Proc.devRef .tc main_v80) : S8x1024x64x64.Idx → EReal) (ix4 b q h d) = Quant.rcode (x (ix4 b q h d)) (Finset.univ.fold max ⊥ fun k : Fin 64 => max (x (ix4 b q h k)) (-(x (ix4 b q h k)))) := by
  refine (v_code' _ _ rfl _ rfl _ rfl _ rfl b q h d).trans ?_
  rw [v_e W x hx, v_c W x hx, v_x W x hx, v_z W]
  rfl

/-- The scales of the new values. -/
theorem v_scale (W : Valuation τ sig (Elt Ideal)) (x : S8x1024x64x64.Idx → EReal) (hx : W (Proc.devRef .tc main_arg2) = x) (b : Fin 8) (q : Fin 1024) (h : Fin 64) :
    (StableHlo.after hostOps0_12 (StableHlo.after hostOps0_11 (StableHlo.after hostOps0_10 (StableHlo.after hostOps0_9 (StableHlo.after hostOps0_8 W)))) (Proc.devRef .tc main_v83) : S8x1024x64.Idx → EReal) (ix3 b q h) = Quant.rscale (Finset.univ.fold max ⊥ fun k : Fin 64 => max (x (ix4 b q h k)) (-(x (ix4 b q h k)))) := by
  refine (v_scale' _ _ rfl _ rfl _ rfl _ rfl b q h).trans ?_
  rw [v_e W x hx, v_c W x hx, v_z W]
  rfl

end Cert.ReferenceIdeal.Gen
-- ==== Proof.ReferenceIdeal.Reads.lean ====
module

public import proofs.«01_k».proof.Proof.ReferenceIdeal.Codesq
public import proofs.«01_k».proof.Proof.ReferenceIdeal.Codesk
public import proofs.«01_k».proof.Proof.ReferenceIdeal.Codesv

@[expose] public section

set_option maxRecDepth 16384
set_option maxHeartbeats 1000000

/-! The codes and scales of all three tensors as the reference's first part leaves them. -/

noncomputable section

namespace Cert.ReferenceIdeal.Gen

open Idealize.ShloMosaic Idealize.ShloMosaic.TcCoe Idealize.SL.Sem

variable (m : (ℓ : Loc nD τ sig) → Buf (Elt Ideal) ℓ)

theorem V0_eq (c : Dev nD) : V0 m c = (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b))))))))))))))) := by
  unfold V0
  rw [List.flatten_cons, List.flatten_cons, List.flatten_cons, List.flatten_cons, List.flatten_cons, List.flatten_cons, List.flatten_cons, List.flatten_cons, List.flatten_cons, List.flatten_cons, List.flatten_cons, List.flatten_cons, List.flatten_cons, List.flatten_nil, List.append_nil, StableHlo.after_append, StableHlo.after_append, StableHlo.after_append, StableHlo.after_append, StableHlo.after_append, StableHlo.after_append, StableHlo.after_append, StableHlo.after_append, StableHlo.after_append, StableHlo.after_append, StableHlo.after_append, StableHlo.after_append]

/-- The codes, at the end of the reference's first part. -/
theorem q_codes (c : Dev nD) (x : S8x1024x64x64.Idx → EReal) (hx : m ((c : Thread nD τ).loc main_arg0) = x) (b : Fin 8) (q : Fin 1024) (h d : Fin 64) :
    (V0 m c (Proc.devRef .tc main_v24) : S8x1024x64x64.Idx → EReal) (ix4 b q h d) = Quant.rcode (x (ix4 b q h d)) (Finset.univ.fold max ⊥ fun k : Fin 64 => max (x (ix4 b q h k)) (-(x (ix4 b q h k)))) := by
  rw [V0_eq]
  refine (congrFun (StableHlo.after_unwritten (ops := hostOps0_12) [main_v80, main_cst_31, main_v81, main_v82, main_v83] rfl (r := main_v24) (by decide) _) _).trans ?_
  refine (congrFun (StableHlo.after_unwritten (ops := hostOps0_11) [main_call5_v0, main_call5_v1, main_call5_v2, main_call5_v3, main_call5_v4, main_v79] rfl (r := main_v24) (by decide) _) _).trans ?_
  refine (congrFun (StableHlo.after_unwritten (ops := hostOps0_10) [main_v74, main_cst_28, main_v75, main_v76, main_v77, main_v78, main_cst_29, main_cst_30] rfl (r := main_v24) (by decide) _) _).trans ?_
  refine (congrFun (StableHlo.after_unwritten (ops := hostOps0_9) [main_call4_v0, main_call4_v1, main_v73] rfl (r := main_v24) (by decide) _) _).trans ?_
  refine (congrFun (StableHlo.after_unwritten (ops := hostOps0_8) [main_v52, main_cst_20, main_v53, main_v54, main_v55, main_v56, main_v57, main_cst_21, main_v58, main_v59, main_cst_22, main_v60, main_v61, main_v62, main_cst_23, main_v63, main_v64, main_v65, main_v66, main_cst_24, main_v67, main_v68, main_cst_25, main_v69, main_v70, main_cst_26, main_v71, main_v72, main_cst_27] rfl (r := main_v24) (by decide) _) _).trans ?_
  refine (congrFun (StableHlo.after_unwritten (ops := hostOps0_7) [main_call3_v0, main_call3_v1, main_call3_v2, main_call3_v3, main_call3_v4, main_v51] rfl (r := main_v24) (by decide) _) _).trans ?_
  refine (congrFun (StableHlo.after_unwritten (ops := hostOps0_6) [main_v46, main_cst_17, main_v47, main_v48, main_v49, main_v50, main_cst_18, main_cst_19] rfl (r := main_v24) (by decide) _) _).trans ?_
  refine (congrFun (StableHlo.after_unwritten (ops := hostOps0_5) [main_call2_v0, main_call2_v1, main_v45] rfl (r := main_v24) (by decide) _) _).trans ?_
  refine q_code _ x ?_ b q h d
  exact hx

/-- The scales, at the end of the reference's first part. -/
theorem q_scales (c : Dev nD) (x : S8x1024x64x64.Idx → EReal) (hx : m ((c : Thread nD τ).loc main_arg0) = x) (b : Fin 8) (q : Fin 1024) (h : Fin 64) :
    (V0 m c (Proc.devRef .tc main_v27) : S8x1024x64.Idx → EReal) (ix3 b q h) = Quant.rscale (Finset.univ.fold max ⊥ fun k : Fin 64 => max (x (ix4 b q h k)) (-(x (ix4 b q h k)))) := by
  rw [V0_eq]
  refine (congrFun (StableHlo.after_unwritten (ops := hostOps0_12) [main_v80, main_cst_31, main_v81, main_v82, main_v83] rfl (r := main_v27) (by decide) _) _).trans ?_
  refine (congrFun (StableHlo.after_unwritten (ops := hostOps0_11) [main_call5_v0, main_call5_v1, main_call5_v2, main_call5_v3, main_call5_v4, main_v79] rfl (r := main_v27) (by decide) _) _).trans ?_
  refine (congrFun (StableHlo.after_unwritten (ops := hostOps0_10) [main_v74, main_cst_28, main_v75, main_v76, main_v77, main_v78, main_cst_29, main_cst_30] rfl (r := main_v27) (by decide) _) _).trans ?_
  refine (congrFun (StableHlo.after_unwritten (ops := hostOps0_9) [main_call4_v0, main_call4_v1, main_v73] rfl (r := main_v27) (by decide) _) _).trans ?_
  refine (congrFun (StableHlo.after_unwritten (ops := hostOps0_8) [main_v52, main_cst_20, main_v53, main_v54, main_v55, main_v56, main_v57, main_cst_21, main_v58, main_v59, main_cst_22, main_v60, main_v61, main_v62, main_cst_23, main_v63, main_v64, main_v65, main_v66, main_cst_24, main_v67, main_v68, main_cst_25, main_v69, main_v70, main_cst_26, main_v71, main_v72, main_cst_27] rfl (r := main_v27) (by decide) _) _).trans ?_
  refine (congrFun (StableHlo.after_unwritten (ops := hostOps0_7) [main_call3_v0, main_call3_v1, main_call3_v2, main_call3_v3, main_call3_v4, main_v51] rfl (r := main_v27) (by decide) _) _).trans ?_
  refine (congrFun (StableHlo.after_unwritten (ops := hostOps0_6) [main_v46, main_cst_17, main_v47, main_v48, main_v49, main_v50, main_cst_18, main_cst_19] rfl (r := main_v27) (by decide) _) _).trans ?_
  refine (congrFun (StableHlo.after_unwritten (ops := hostOps0_5) [main_call2_v0, main_call2_v1, main_v45] rfl (r := main_v27) (by decide) _) _).trans ?_
  refine q_scale _ x ?_ b q h
  exact hx

/-- The codes, at the end of the reference's first part. -/
theorem k_codes (c : Dev nD) (x : S8x1024x64x64.Idx → EReal) (hx : m ((c : Thread nD τ).loc main_arg1) = x) (b : Fin 8) (q : Fin 1024) (h d : Fin 64) :
    (V0 m c (Proc.devRef .tc main_v52) : S8x1024x64x64.Idx → EReal) (ix4 b q h d) = Quant.rcode (x (ix4 b q h d)) (Finset.univ.fold max ⊥ fun k : Fin 1024 => max (x (ix4 b k h d)) (-(x (ix4 b k h d)))) := by
  rw [V0_eq]
  refine (congrFun (StableHlo.after_unwritten (ops := hostOps0_12) [main_v80, main_cst_31, main_v81, main_v82, main_v83] rfl (r := main_v52) (by decide) _) _).trans ?_
  refine (congrFun (StableHlo.after_unwritten (ops := hostOps0_11) [main_call5_v0, main_call5_v1, main_call5_v2, main_call5_v3, main_call5_v4, main_v79] rfl (r := main_v52) (by decide) _) _).trans ?_
  refine (congrFun (StableHlo.after_unwritten (ops := hostOps0_10) [main_v74, main_cst_28, main_v75, main_v76, main_v77, main_v78, main_cst_29, main_cst_30] rfl (r := main_v52) (by decide) _) _).trans ?_
  refine (congrFun (StableHlo.after_unwritten (ops := hostOps0_9) [main_call4_v0, main_call4_v1, main_v73] rfl (r := main_v52) (by decide) _) _).trans ?_
  refine k_code _ x ?_ b q h d
  refine (StableHlo.after_unwritten (ops := hostOps0_3) [main_call1_v0, main_call1_v1, main_call1_v2, main_call1_v3, main_call1_v4, main_v23] rfl (r := main_arg1) (by decide) _).trans ?_
  refine (StableHlo.after_unwritten (ops := hostOps0_2) [main_v18, main_cst_6, main_v19, main_v20, main_v21, main_v22, main_cst_7, main_cst_8] rfl (r := main_arg1) (by decide) _).trans ?_
  refine (StableHlo.after_unwritten (ops := hostOps0_1) [main_call0_v0, main_call0_v1, main_v17] rfl (r := main_arg1) (by decide) _).trans ?_
  refine (StableHlo.after_unwritten (ops := hostOps0) [main_v0, main_v1, main_cst, main_v2, main_v3, main_cst_0, main_v4, main_v5, main_v6, main_cst_1, main_v7, main_v8, main_v9, main_v10, main_cst_2, main_v11, main_v12, main_cst_3, main_v13, main_v14, main_cst_4, main_v15, main_v16, main_cst_5] rfl (r := main_arg1) (by decide) _).trans ?_
  exact hx

/-- The scales, at the end of the reference's first part. -/
theorem k_scales (c : Dev nD) (x : S8x1024x64x64.Idx → EReal) (hx : m ((c : Thread nD τ).loc main_arg1) = x) (b : Fin 8) (h d : Fin 64) :
    (V0 m c (Proc.devRef .tc main_v55) : S8x64x64.Idx → EReal) (ix3 b h d) = Quant.rscale (Finset.univ.fold max ⊥ fun k : Fin 1024 => max (x (ix4 b k h d)) (-(x (ix4 b k h d)))) := by
  rw [V0_eq]
  refine (congrFun (StableHlo.after_unwritten (ops := hostOps0_12) [main_v80, main_cst_31, main_v81, main_v82, main_v83] rfl (r := main_v55) (by decide) _) _).trans ?_
  refine (congrFun (StableHlo.after_unwritten (ops := hostOps0_11) [main_call5_v0, main_call5_v1, main_call5_v2, main_call5_v3, main_call5_v4, main_v79] rfl (r := main_v55) (by decide) _) _).trans ?_
  refine (congrFun (StableHlo.after_unwritten (ops := hostOps0_10) [main_v74, main_cst_28, main_v75, main_v76, main_v77, main_v78, main_cst_29, main_cst_30] rfl (r := main_v55) (by decide) _) _).trans ?_
  refine (congrFun (StableHlo.after_unwritten (ops := hostOps0_9) [main_call4_v0, main_call4_v1, main_v73] rfl (r := main_v55) (by decide) _) _).trans ?_
  refine k_scale _ x ?_ b h d
  refine (StableHlo.after_unwritten (ops := hostOps0_3) [main_call1_v0, main_call1_v1, main_call1_v2, main_call1_v3, main_call1_v4, main_v23] rfl (r := main_arg1) (by decide) _).trans ?_
  refine (StableHlo.after_unwritten (ops := hostOps0_2) [main_v18, main_cst_6, main_v19, main_v20, main_v21, main_v22, main_cst_7, main_cst_8] rfl (r := main_arg1) (by decide) _).trans ?_
  refine (StableHlo.after_unwritten (ops := hostOps0_1) [main_call0_v0, main_call0_v1, main_v17] rfl (r := main_arg1) (by decide) _).trans ?_
  refine (StableHlo.after_unwritten (ops := hostOps0) [main_v0, main_v1, main_cst, main_v2, main_v3, main_cst_0, main_v4, main_v5, main_v6, main_cst_1, main_v7, main_v8, main_v9, main_v10, main_cst_2, main_v11, main_v12, main_cst_3, main_v13, main_v14, main_cst_4, main_v15, main_v16, main_cst_5] rfl (r := main_arg1) (by decide) _).trans ?_
  exact hx

/-- The codes, at the end of the reference's first part. -/
theorem v_codes (c : Dev nD) (x : S8x1024x64x64.Idx → EReal) (hx : m ((c : Thread nD τ).loc main_arg2) = x) (b : Fin 8) (q : Fin 1024) (h d : Fin 64) :
    (V0 m c (Proc.devRef .tc main_v80) : S8x1024x64x64.Idx → EReal) (ix4 b q h d) = Quant.rcode (x (ix4 b q h d)) (Finset.univ.fold max ⊥ fun k : Fin 64 => max (x (ix4 b q h k)) (-(x (ix4 b q h k)))) := by
  rw [V0_eq]
  refine v_code _ x ?_ b q h d
  refine (StableHlo.after_unwritten (ops := hostOps0_7) [main_call3_v0, main_call3_v1, main_call3_v2, main_call3_v3, main_call3_v4, main_v51] rfl (r := main_arg2) (by decide) _).trans ?_
  refine (StableHlo.after_unwritten (ops := hostOps0_6) [main_v46, main_cst_17, main_v47, main_v48, main_v49, main_v50, main_cst_18, main_cst_19] rfl (r := main_arg2) (by decide) _).trans ?_
  refine (StableHlo.after_unwritten (ops := hostOps0_5) [main_call2_v0, main_call2_v1, main_v45] rfl (r := main_arg2) (by decide) _).trans ?_
  refine (StableHlo.after_unwritten (ops := hostOps0_4) [main_v24, main_cst_9, main_v25, main_v26, main_v27, main_v28, main_v29, main_cst_10, main_v30, main_v31, main_cst_11, main_v32, main_v33, main_v34, main_cst_12, main_v35, main_v36, main_v37, main_v38, main_cst_13, main_v39, main_v40, main_cst_14, main_v41, main_v42, main_cst_15, main_v43, main_v44, main_cst_16] rfl (r := main_arg2) (by decide) _).trans ?_
  refine (StableHlo.after_unwritten (ops := hostOps0_3) [main_call1_v0, main_call1_v1, main_call1_v2, main_call1_v3, main_call1_v4, main_v23] rfl (r := main_arg2) (by decide) _).trans ?_
  refine (StableHlo.after_unwritten (ops := hostOps0_2) [main_v18, main_cst_6, main_v19, main_v20, main_v21, main_v22, main_cst_7, main_cst_8] rfl (r := main_arg2) (by decide) _).trans ?_
  refine (StableHlo.after_unwritten (ops := hostOps0_1) [main_call0_v0, main_call0_v1, main_v17] rfl (r := main_arg2) (by decide) _).trans ?_
  refine (StableHlo.after_unwritten (ops := hostOps0) [main_v0, main_v1, main_cst, main_v2, main_v3, main_cst_0, main_v4, main_v5, main_v6, main_cst_1, main_v7, main_v8, main_v9, main_v10, main_cst_2, main_v11, main_v12, main_cst_3, main_v13, main_v14, main_cst_4, main_v15, main_v16, main_cst_5] rfl (r := main_arg2) (by decide) _).trans ?_
  exact hx

/-- The scales, at the end of the reference's first part. -/
theorem v_scales (c : Dev nD) (x : S8x1024x64x64.Idx → EReal) (hx : m ((c : Thread nD τ).loc main_arg2) = x) (b : Fin 8) (q : Fin 1024) (h : Fin 64) :
    (V0 m c (Proc.devRef .tc main_v83) : S8x1024x64.Idx → EReal) (ix3 b q h) = Quant.rscale (Finset.univ.fold max ⊥ fun k : Fin 64 => max (x (ix4 b q h k)) (-(x (ix4 b q h k)))) := by
  rw [V0_eq]
  refine v_scale _ x ?_ b q h
  refine (StableHlo.after_unwritten (ops := hostOps0_7) [main_call3_v0, main_call3_v1, main_call3_v2, main_call3_v3, main_call3_v4, main_v51] rfl (r := main_arg2) (by decide) _).trans ?_
  refine (StableHlo.after_unwritten (ops := hostOps0_6) [main_v46, main_cst_17, main_v47, main_v48, main_v49, main_v50, main_cst_18, main_cst_19] rfl (r := main_arg2) (by decide) _).trans ?_
  refine (StableHlo.after_unwritten (ops := hostOps0_5) [main_call2_v0, main_call2_v1, main_v45] rfl (r := main_arg2) (by decide) _).trans ?_
  refine (StableHlo.after_unwritten (ops := hostOps0_4) [main_v24, main_cst_9, main_v25, main_v26, main_v27, main_v28, main_v29, main_cst_10, main_v30, main_v31, main_cst_11, main_v32, main_v33, main_v34, main_cst_12, main_v35, main_v36, main_v37, main_v38, main_cst_13, main_v39, main_v40, main_cst_14, main_v41, main_v42, main_cst_15, main_v43, main_v44, main_cst_16] rfl (r := main_arg2) (by decide) _).trans ?_
  refine (StableHlo.after_unwritten (ops := hostOps0_3) [main_call1_v0, main_call1_v1, main_call1_v2, main_call1_v3, main_call1_v4, main_v23] rfl (r := main_arg2) (by decide) _).trans ?_
  refine (StableHlo.after_unwritten (ops := hostOps0_2) [main_v18, main_cst_6, main_v19, main_v20, main_v21, main_v22, main_cst_7, main_cst_8] rfl (r := main_arg2) (by decide) _).trans ?_
  refine (StableHlo.after_unwritten (ops := hostOps0_1) [main_call0_v0, main_call0_v1, main_v17] rfl (r := main_arg2) (by decide) _).trans ?_
  refine (StableHlo.after_unwritten (ops := hostOps0) [main_v0, main_v1, main_cst, main_v2, main_v3, main_cst_0, main_v4, main_v5, main_v6, main_cst_1, main_v7, main_v8, main_v9, main_v10, main_cst_2, main_v11, main_v12, main_cst_3, main_v13, main_v14, main_cst_4, main_v15, main_v16, main_cst_5] rfl (r := main_arg2) (by decide) _).trans ?_
  exact hx

end Cert.ReferenceIdeal.Gen
-- ==== Proof.ReferenceIdeal.Tail.lean ====
module

public import proofs.«01_k».proof.Proof.Gen.ReferenceIdeal.Frame
public import proofs.«01_k».proof.Proof.Quant
public import Idealize.ShloMosaic.Lib.StableHlo.ReadAt
public import Idealize.ShloMosaic.Lib.Pointwise
public import Idealize.ShloMosaic.Lib.Pipeline.ValueKit

@[expose] public section

set_option maxRecDepth 16384
set_option maxHeartbeats 1000000

/-! What the reference computes after its casts: scores, softmax and the weighted sum of the values. -/

noncomputable section

namespace Cert.ReferenceIdeal.Gen

open Idealize.ShloMosaic Idealize.ShloMosaic.TcCoe Idealize.SL.Sem

theorem t127 (W : Valuation τ sig (Elt Ideal)) (x : S8x64x1024x16384.Idx → EReal) (hx : W (Proc.devRef .tc main_v123) = x) (b : Fin 8) (h : Fin 64) (q : Fin 1024) (f : EReal → EReal) (r : EReal)
    (hr : r = f (Finset.univ.fold max ⊥ fun p : Fin 16384 => x (ix4 b h q p))) :
    f ((StableHlo.after (List.take 6 hostOps1_4) W (Proc.devRef .tc main_v127) : S8x64x1024x1.Idx → EReal) (ix4 b h q 0)) = r := by
  subst hx
  after_reads_at
  rw [Quant.neg_inf]
  exact hr.symm

theorem t129 (W : Valuation τ sig (Elt Ideal)) (y : S8x64x1024x1024.Idx → EReal) (hy : W (Proc.devRef .tc main_v125) = y) (b : Fin 8) (h : Fin 64) (q : Fin 1024) (f : EReal → EReal) (r : EReal)
    (hr : r = f (Finset.univ.fold max ⊥ fun p : Fin 1024 => y (ix4 b h q p))) :
    f ((StableHlo.after (List.take 6 hostOps1_4) W (Proc.devRef .tc main_v129) : S8x64x1024x1.Idx → EReal) (ix4 b h q 0)) = r := by
  subst hy
  after_reads_at
  rw [Quant.neg_inf]
  exact hr.symm

theorem t133 (W : Valuation τ sig (Elt Ideal)) (u v : S8x64x1024x1.Idx → EReal) (hu : W (Proc.devRef .tc main_v127) = u) (hv : W (Proc.devRef .tc main_v129) = v)
    (x : S8x64x1024x16384.Idx → EReal) (hx : W (Proc.devRef .tc main_v123) = x) (b : Fin 8) (h : Fin 64) (q : Fin 1024) (p : Fin 16384) :
    (StableHlo.after (List.take 7 (List.drop 6 hostOps1_4)) W (Proc.devRef .tc main_v133) : S8x64x1024x16384.Idx → EReal) (ix4 b h q p)
      = Ideal.exp (x (ix4 b h q p) - max (u (ix4 b h q 0)) (v (ix4 b h q 0))) := by
  subst hu hv hx
  after_reads_at
  all_goals rfl

theorem t136 (W : Valuation τ sig (Elt Ideal)) (u v : S8x64x1024x1.Idx → EReal) (hu : W (Proc.devRef .tc main_v127) = u) (hv : W (Proc.devRef .tc main_v129) = v)
    (x : S8x64x1024x1024.Idx → EReal) (hx : W (Proc.devRef .tc main_v125) = x) (b : Fin 8) (h : Fin 64) (q : Fin 1024) (p : Fin 1024) :
    (StableHlo.after (List.take 7 (List.drop 6 hostOps1_4)) W (Proc.devRef .tc main_v136) : S8x64x1024x1024.Idx → EReal) (ix4 b h q p)
      = Ideal.exp (x (ix4 b h q p) - max (u (ix4 b h q 0)) (v (ix4 b h q 0))) := by
  subst hu hv hx
  after_reads_at
  all_goals rfl

theorem t148 (W : Valuation τ sig (Elt Ideal)) (e : S8x64x1024x16384.Idx → EReal) (he : W (Proc.devRef .tc main_v133) = e) (n : S8x64x1024x1024.Idx → EReal) (hn : W (Proc.devRef .tc main_v136) = n)
    (vc : S8x16384x64x64.Idx → EReal) (hvc : W (Proc.devRef .tc main_v106) = vc) (vn : S8x1024x64x64.Idx → EReal) (hvn : W (Proc.devRef .tc main_v98) = vn)
    (b : Fin 8) (h : Fin 64) (q : Fin 1024) (d : Fin 64) :
    (StableHlo.after (List.take 14 (List.drop 13 hostOps1_4)) W (Proc.devRef .tc main_v148) : S8x64x1024x64.Idx → EReal) (ix4 b h q d)
      = Ideal.div ((∑ p, e (ix4 b h q p) * vc (ix4 b p h d)) + ∑ p, n (ix4 b h q p) * vn (ix4 b p h d)) ((∑ p, e (ix4 b h q p)) + ∑ p, n (ix4 b h q p)) := by
  subst he hn hvc hvn
  after_reads_at
  all_goals rfl

theorem t151 (W : Valuation τ sig (Elt Ideal)) (o : S8x64x1024x64.Idx → EReal) (ho : W (Proc.devRef .tc main_v148) = o) (b : Fin 8) (q : Fin 1024) (e : Fin 4096) :
    (StableHlo.after (List.drop 14 (List.drop 13 hostOps1_4)) W (Proc.devRef .tc main_v151) : S8x1024x4096.Idx → EReal) (ix3 b q e)
      = o (ix4 b ⟨e.val / 64, by omega⟩ q ⟨e.val % 64, by omega⟩) := by
  subst ho
  after_reads_at
  all_goals rfl

theorem t123 (W : Valuation τ sig (Elt Ideal)) (qc : S8x1024x64x64.Idx → EReal) (hqc : W (Proc.devRef .tc main_v84_0) = qc) (kc : S8x16384x64x64.Idx → EReal) (hkc : W (Proc.devRef .tc main_v84_3) = kc)
    (qs : S8x1024x64.Idx → EReal) (hqs : W (Proc.devRef .tc main_v27) = qs) (ks : S8x64x64.Idx → EReal) (hks : W (Proc.devRef .tc main_arg5) = ks) (n : S8.Idx → BitVec 32) (hn : W (Proc.devRef .tc main_arg7) = n)
    (b : Fin 8) (h : Fin 64) (q : Fin 1024) (p : Fin 16384) :
    (StableHlo.after (hostOps1 ++ (hostOps1_1 ++ (hostOps1_2 ++ hostOps1_3))) W (Proc.devRef .tc main_v123) : S8x64x1024x16384.Idx → EReal) (ix4 b h q p)
      = Scalar.select (IntOp.cmpi .slt (BitVec.ofNat 32 p.val) (n (ix1 b))) (∑ x, qc (ix4 b q h x) * (qs (ix3 b q h) * Ideal.ofBits .f32 0x3E000000#32) * (kc (ix4 b p h x) * ks (ix3 b h x))) (Ideal.ofBits .f32 0xFF800000#32) := by
  subst hqc hkc hqs hks hn
  after_reads_at
  all_goals rfl

theorem t125 (W : Valuation τ sig (Elt Ideal)) (qc : S8x1024x64x64.Idx → EReal) (hqc : W (Proc.devRef .tc main_v84_0) = qc) (kc : S8x1024x64x64.Idx → EReal) (hkc : W (Proc.devRef .tc main_v84_1) = kc)
    (qs : S8x1024x64.Idx → EReal) (hqs : W (Proc.devRef .tc main_v27) = qs) (ks : S8x64x64.Idx → EReal) (hks : W (Proc.devRef .tc main_v55) = ks)
    (b : Fin 8) (h : Fin 64) (q : Fin 1024) (p : Fin 1024) :
    (StableHlo.after (hostOps1 ++ (hostOps1_1 ++ (hostOps1_2 ++ hostOps1_3))) W (Proc.devRef .tc main_v125) : S8x64x1024x1024.Idx → EReal) (ix4 b h q p)
      = Scalar.select (IntOp.cmpi .sle (BitVec.ofNat 32 p.val) (BitVec.ofNat 32 q.val)) (∑ x, qc (ix4 b q h x) * (qs (ix3 b q h) * Ideal.ofBits .f32 0x3E000000#32) * (kc (ix4 b p h x) * ks (ix3 b h x))) (Ideal.ofBits .f32 0xFF800000#32) := by
  subst hqc hkc hqs hks
  after_reads_at
  all_goals rfl

theorem t106 (W : Valuation τ sig (Elt Ideal)) (vc : S8x16384x64x64.Idx → EReal) (hvc : W (Proc.devRef .tc main_v84_4) = vc) (vs : S8x16384x64.Idx → EReal) (hvs : W (Proc.devRef .tc main_arg6) = vs)
    (b : Fin 8) (h : Fin 64) (p : Fin 16384) (d : Fin 64) :
    (StableHlo.after (hostOps1 ++ (hostOps1_1 ++ (hostOps1_2 ++ hostOps1_3))) W (Proc.devRef .tc main_v106) : S8x16384x64x64.Idx → EReal) (ix4 b p h d) = vc (ix4 b p h d) * vs (ix3 b p h) := by
  subst hvc hvs
  after_reads_at
  all_goals rfl

theorem t98 (W : Valuation τ sig (Elt Ideal)) (vc : S8x1024x64x64.Idx → EReal) (hvc : W (Proc.devRef .tc main_v84_2) = vc) (vs : S8x1024x64.Idx → EReal) (hvs : W (Proc.devRef .tc main_v83) = vs)
    (b : Fin 8) (h : Fin 64) (p : Fin 1024) (d : Fin 64) :
    (StableHlo.after (hostOps1 ++ (hostOps1_1 ++ (hostOps1_2 ++ hostOps1_3))) W (Proc.devRef .tc main_v98) : S8x1024x64x64.Idx → EReal) (ix4 b p h d) = vc (ix4 b p h d) * vs (ix3 b p h) := by
  subst hvc hvs
  after_reads_at
  all_goals rfl

end Cert.ReferenceIdeal.Gen
-- ==== Proof.ReferenceIdeal.Casts.lean ====
module

public import proofs.«01_k».proof.Proof.Gen.ReferenceIdeal.Frame
public import Idealize.ShloMosaic.Lib.Pointwise
public import Idealize.ShloMosaic.Lib.Pipeline.ValueKit

@[expose] public section

set_option maxRecDepth 16384
set_option maxHeartbeats 1000000

/-! The arrays the reference's casts leave: each holds what its source holds. -/

noncomputable section

namespace Cert.ReferenceIdeal.Gen

open Idealize.ShloMosaic Idealize.ShloMosaic.TcCoe Idealize.SL.Sem

variable (m : (ℓ : Loc nD τ sig) → Buf (Elt Ideal) ℓ)

theorem pay1 (x : Vec Ideal S8x1024x64x64 .fp8e4m3) (j : S8x1024x64x64.Idx) : (k0_pay1 x : S8x1024x64x64.Idx → EReal) j = x j := by
  unfold k0_pay1
  rw [shapeCast_self]
  rfl

theorem whole0 (c : Dev nD) (j : S8x1024x64x64.Idx) : (iblk m c 0 t0_0 : S8x1024x64x64.Idx → EReal) j = (V m c (Pipeline.arrRef spec0 0) : S8x1024x64x64.Idx → EReal) j := by
  unfold iblk
  generalize V m c (Pipeline.arrRef spec0 0) = v
  refine congrArg v (funext fun a => Fin.ext ?_)
  refine (ValueKit.rect_emb_unit_val _ _ _ _ a).trans ?_
  refine (congrArg (· + (j a).val) (show _ = 0 from ?_)).trans (Nat.zero_add _)
  fin_cases a <;> rfl

/-- The array of window 5 ends as the array of window 0 began. -/
theorem cast5 (c : Dev nD) : ((dats m 0 c).arrAt 5 cfg0.N : S8x1024x64x64.Idx → EReal) = (V m c (Pipeline.arrRef spec0 0) : S8x1024x64x64.Idx → EReal) := by
  refine (dats m 0 c).arrAt_eq_of_after_last 5 t0_0 (by decide +kernel) _ fun j => ?_
  blk_simp
  rw [after0_5]
  frame_out
  exact (pay1 _ j).trans (whole0 m c j)

theorem pay2 (x : Vec Ideal S8x1024x64x64 .fp8e4m3) (j : S8x1024x64x64.Idx) : (k0_pay2 x : S8x1024x64x64.Idx → EReal) j = x j := by
  unfold k0_pay2
  rw [shapeCast_self]
  rfl

theorem whole1 (c : Dev nD) (j : S8x1024x64x64.Idx) : (iblk m c 1 t0_0 : S8x1024x64x64.Idx → EReal) j = (V m c (Pipeline.arrRef spec0 1) : S8x1024x64x64.Idx → EReal) j := by
  unfold iblk
  generalize V m c (Pipeline.arrRef spec0 1) = v
  refine congrArg v (funext fun a => Fin.ext ?_)
  refine (ValueKit.rect_emb_unit_val _ _ _ _ a).trans ?_
  refine (congrArg (· + (j a).val) (show _ = 0 from ?_)).trans (Nat.zero_add _)
  fin_cases a <;> rfl

/-- The array of window 6 ends as the array of window 1 began. -/
theorem cast6 (c : Dev nD) : ((dats m 0 c).arrAt 6 cfg0.N : S8x1024x64x64.Idx → EReal) = (V m c (Pipeline.arrRef spec0 1) : S8x1024x64x64.Idx → EReal) := by
  refine (dats m 0 c).arrAt_eq_of_after_last 6 t0_0 (by decide +kernel) _ fun j => ?_
  blk_simp
  rw [after0_6]
  frame_out
  exact (pay2 _ j).trans (whole1 m c j)

theorem pay3 (x : Vec Ideal S8x1024x64x64 .fp8e4m3) (j : S8x1024x64x64.Idx) : (k0_pay3 x : S8x1024x64x64.Idx → EReal) j = x j := by
  unfold k0_pay3
  rw [shapeCast_self]
  rfl

theorem whole2 (c : Dev nD) (j : S8x1024x64x64.Idx) : (iblk m c 2 t0_0 : S8x1024x64x64.Idx → EReal) j = (V m c (Pipeline.arrRef spec0 2) : S8x1024x64x64.Idx → EReal) j := by
  unfold iblk
  generalize V m c (Pipeline.arrRef spec0 2) = v
  refine congrArg v (funext fun a => Fin.ext ?_)
  refine (ValueKit.rect_emb_unit_val _ _ _ _ a).trans ?_
  refine (congrArg (· + (j a).val) (show _ = 0 from ?_)).trans (Nat.zero_add _)
  fin_cases a <;> rfl

/-- The array of window 7 ends as the array of window 2 began. -/
theorem cast7 (c : Dev nD) : ((dats m 0 c).arrAt 7 cfg0.N : S8x1024x64x64.Idx → EReal) = (V m c (Pipeline.arrRef spec0 2) : S8x1024x64x64.Idx → EReal) := by
  refine (dats m 0 c).arrAt_eq_of_after_last 7 t0_0 (by decide +kernel) _ fun j => ?_
  blk_simp
  rw [after0_7]
  frame_out
  exact (pay3 _ j).trans (whole2 m c j)

theorem pay4 (x : Vec Ideal S8x16384x64x64 .fp8e4m3) (j : S8x16384x64x64.Idx) : (k0_pay4 x : S8x16384x64x64.Idx → EReal) j = x j := by
  unfold k0_pay4
  rfl

theorem whole3 (c : Dev nD) (j : S8x16384x64x64.Idx) : (iblk m c 3 t0_0 : S8x16384x64x64.Idx → EReal) j = (V m c (Pipeline.arrRef spec0 3) : S8x16384x64x64.Idx → EReal) j := by
  unfold iblk
  generalize V m c (Pipeline.arrRef spec0 3) = v
  refine congrArg v (funext fun a => Fin.ext ?_)
  refine (ValueKit.rect_emb_unit_val _ _ _ _ a).trans ?_
  refine (congrArg (· + (j a).val) (show _ = 0 from ?_)).trans (Nat.zero_add _)
  fin_cases a <;> rfl

/-- The array of window 8 ends as the array of window 3 began. -/
theorem cast8 (c : Dev nD) : ((dats m 0 c).arrAt 8 cfg0.N : S8x16384x64x64.Idx → EReal) = (V m c (Pipeline.arrRef spec0 3) : S8x16384x64x64.Idx → EReal) := by
  refine (dats m 0 c).arrAt_eq_of_after_last 8 t0_0 (by decide +kernel) _ fun j => ?_
  blk_simp
  rw [after0_8]
  frame_out
  exact (pay4 _ j).trans (whole3 m c j)

theorem pay5 (x : Vec Ideal S8x16384x64x64 .fp8e4m3) (j : S8x16384x64x64.Idx) : (k0_pay5 x : S8x16384x64x64.Idx → EReal) j = x j := by
  unfold k0_pay5
  rfl

theorem whole4 (c : Dev nD) (j : S8x16384x64x64.Idx) : (iblk m c 4 t0_0 : S8x16384x64x64.Idx → EReal) j = (V m c (Pipeline.arrRef spec0 4) : S8x16384x64x64.Idx → EReal) j := by
  unfold iblk
  generalize V m c (Pipeline.arrRef spec0 4) = v
  refine congrArg v (funext fun a => Fin.ext ?_)
  refine (ValueKit.rect_emb_unit_val _ _ _ _ a).trans ?_
  refine (congrArg (· + (j a).val) (show _ = 0 from ?_)).trans (Nat.zero_add _)
  fin_cases a <;> rfl

/-- The array of window 9 ends as the array of window 4 began. -/
theorem cast9 (c : Dev nD) : ((dats m 0 c).arrAt 9 cfg0.N : S8x16384x64x64.Idx → EReal) = (V m c (Pipeline.arrRef spec0 4) : S8x16384x64x64.Idx → EReal) := by
  refine (dats m 0 c).arrAt_eq_of_after_last 9 t0_0 (by decide +kernel) _ fun j => ?_
  blk_simp
  rw [after0_9]
  frame_out
  exact (pay5 _ j).trans (whole4 m c j)

end Cert.ReferenceIdeal.Gen
-- ==== Proof.ReferenceIdeal.Value.lean ====
module

public import proofs.«01_k».proof.Proof.ReferenceIdeal.Reads
public import proofs.«01_k».proof.Proof.ReferenceIdeal.Tail
public import proofs.«01_k».proof.Proof.ReferenceIdeal.Casts
public import proofs.«01_k».proof.Proof.KernelIdeal.Formula

@[expose] public section

set_option maxRecDepth 16384
set_option maxHeartbeats 1000000

/-! The reference's result over the argument arrays. -/

noncomputable section

namespace Cert.ReferenceIdeal.Gen

open Idealize.ShloMosaic Idealize.ShloMosaic.TcCoe Idealize.SL.Sem
open Cert.KernelIdeal.Gen (Key hOut hS hV Small toInt_small)

theorem keepA_v123 (W : Valuation τ sig (Elt Ideal)) : StableHlo.after (List.take 6 hostOps1_4) W (Proc.devRef .tc main_v123) = W (Proc.devRef .tc main_v123) :=
  StableHlo.after_unwritten [main_cst_35, main_v126, main_v127, main_cst_36, main_v128, main_v129] rfl (by decide) W

theorem keepA_v125 (W : Valuation τ sig (Elt Ideal)) : StableHlo.after (List.take 6 hostOps1_4) W (Proc.devRef .tc main_v125) = W (Proc.devRef .tc main_v125) :=
  StableHlo.after_unwritten [main_cst_35, main_v126, main_v127, main_cst_36, main_v128, main_v129] rfl (by decide) W

theorem keepA_v106 (W : Valuation τ sig (Elt Ideal)) : StableHlo.after (List.take 6 hostOps1_4) W (Proc.devRef .tc main_v106) = W (Proc.devRef .tc main_v106) :=
  StableHlo.after_unwritten [main_cst_35, main_v126, main_v127, main_cst_36, main_v128, main_v129] rfl (by decide) W

theorem keepA_v98 (W : Valuation τ sig (Elt Ideal)) : StableHlo.after (List.take 6 hostOps1_4) W (Proc.devRef .tc main_v98) = W (Proc.devRef .tc main_v98) :=
  StableHlo.after_unwritten [main_cst_35, main_v126, main_v127, main_cst_36, main_v128, main_v129] rfl (by decide) W

theorem keepB_v106 (W : Valuation τ sig (Elt Ideal)) : StableHlo.after (List.take 7 (List.drop 6 hostOps1_4)) W (Proc.devRef .tc main_v106) = W (Proc.devRef .tc main_v106) :=
  StableHlo.after_unwritten [main_v130, main_v131, main_v132, main_v133, main_v134, main_v135, main_v136] rfl (by decide) W

theorem keepB_v98 (W : Valuation τ sig (Elt Ideal)) : StableHlo.after (List.take 7 (List.drop 6 hostOps1_4)) W (Proc.devRef .tc main_v98) = W (Proc.devRef .tc main_v98) :=
  StableHlo.after_unwritten [main_v130, main_v131, main_v132, main_v133, main_v134, main_v135, main_v136] rfl (by decide) W

theorem tail_split (W : Valuation τ sig (Elt Ideal)) : StableHlo.after (List.flatten [hostOps1, hostOps1_1, hostOps1_2, hostOps1_3, hostOps1_4]) W
    = StableHlo.after (List.drop 14 (List.drop 13 hostOps1_4)) (StableHlo.after (List.take 14 (List.drop 13 hostOps1_4)) (StableHlo.after (List.take 7 (List.drop 6 hostOps1_4))
        (StableHlo.after (List.take 6 hostOps1_4) (StableHlo.after (hostOps1 ++ (hostOps1_1 ++ (hostOps1_2 ++ hostOps1_3))) W)))) := by
  rw [← StableHlo.after_append, ← StableHlo.after_append, ← StableHlo.after_append, ← StableHlo.after_append]
  rfl

/-- The softmax over two families of keys, each family summed and maximised by itself. -/
theorem hOut_two (s₁ v₁ : Fin 16384 → EReal) (s₂ v₂ : Fin 1024 → EReal) :
    hOut (Sum.elim s₁ s₂) (Sum.elim v₁ v₂)
      = Ideal.div ((∑ p, Ideal.exp (s₁ p - max (Finset.univ.fold max ⊥ s₁) (Finset.univ.fold max ⊥ s₂)) * v₁ p) + ∑ p, Ideal.exp (s₂ p - max (Finset.univ.fold max ⊥ s₁) (Finset.univ.fold max ⊥ s₂)) * v₂ p)
          ((∑ p, Ideal.exp (s₁ p - max (Finset.univ.fold max ⊥ s₁) (Finset.univ.fold max ⊥ s₂))) + ∑ p, Ideal.exp (s₂ p - max (Finset.univ.fold max ⊥ s₁) (Finset.univ.fold max ⊥ s₂))) := by
  have hs : (Finset.univ.sup (Sum.elim s₁ s₂ : Key → EReal)) = max (Finset.univ.sup s₁) (Finset.univ.sup s₂) := by
    apply le_antisymm
    · refine Finset.sup_le ?_
      rintro (p | p) _
      · exact le_max_of_le_left (Finset.le_sup (f := s₁) (Finset.mem_univ p))
      · exact le_max_of_le_right (Finset.le_sup (f := s₂) (Finset.mem_univ p))
    · exact max_le (Finset.sup_le fun p _ => Finset.le_sup (f := (Sum.elim s₁ s₂ : Key → EReal)) (Finset.mem_univ (Sum.inl p)))
        (Finset.sup_le fun p _ => Finset.le_sup (f := (Sum.elim s₁ s₂ : Key → EReal)) (Finset.mem_univ (Sum.inr p)))
  have f₁ : Finset.univ.fold max ⊥ s₁ = Finset.univ.sup s₁ := by rw [Finset.sup_def, Finset.fold, Multiset.sup]
  have f₂ : Finset.univ.fold max ⊥ s₂ = Finset.univ.sup s₂ := by rw [Finset.sup_def, Finset.fold, Multiset.sup]
  unfold hOut
  rw [hs, f₁, f₂, Fintype.sum_sum_type, Fintype.sum_sum_type]
  simp only [Sum.elim_inl, Sum.elim_inr]
  rw [Finset.sum_congr rfl fun p _ => mul_comm (v₁ p) _, Finset.sum_congr rfl fun p _ => mul_comm (v₂ p) _]

/-- The reference's last part, over what it reads. -/
theorem tail_value (W : Valuation τ sig (Elt Ideal)) (qc : S8x1024x64x64.Idx → EReal) (hqc : W (Proc.devRef .tc main_v84_0) = qc) (qs : S8x1024x64.Idx → EReal) (hqs : W (Proc.devRef .tc main_v27) = qs) (nc : S8x1024x64x64.Idx → EReal) (hnc : W (Proc.devRef .tc main_v84_1) = nc) (ns : S8x64x64.Idx → EReal) (hns : W (Proc.devRef .tc main_v55) = ns) (uc : S8x1024x64x64.Idx → EReal) (huc : W (Proc.devRef .tc main_v84_2) = uc) (us : S8x1024x64.Idx → EReal) (hus : W (Proc.devRef .tc main_v83) = us) (kc : S8x16384x64x64.Idx → EReal) (hkc : W (Proc.devRef .tc main_v84_3) = kc) (ks : S8x64x64.Idx → EReal) (hks : W (Proc.devRef .tc main_arg5) = ks) (vc : S8x16384x64x64.Idx → EReal) (hvc : W (Proc.devRef .tc main_v84_4) = vc) (vs : S8x16384x64.Idx → EReal) (hvs : W (Proc.devRef .tc main_arg6) = vs) (n : S8.Idx → BitVec 32) (hn : W (Proc.devRef .tc main_arg7) = n)
    (b : Fin 8) (q : Fin 1024) (e : Fin 4096) (h d : Fin 64) (hh : h = ⟨e.val / 64, by omega⟩) (hd : d = ⟨e.val % 64, by omega⟩) :
    (StableHlo.after (List.flatten [hostOps1, hostOps1_1, hostOps1_2, hostOps1_3, hostOps1_4]) W (Proc.devRef .tc main_v151) : S8x1024x4096.Idx → EReal) (ix3 b q e)
      = hOut (Sum.elim (fun p => Scalar.select (IntOp.cmpi .slt (BitVec.ofNat 32 p.val) (n (ix1 b))) (∑ x, qc (ix4 b q h x) * (qs (ix3 b q h) * Ideal.ofBits .f32 0x3E000000#32) * (kc (ix4 b p h x) * ks (ix3 b h x))) (Ideal.ofBits .f32 0xFF800000#32))
            (fun p => Scalar.select (IntOp.cmpi .sle (BitVec.ofNat 32 p.val) (BitVec.ofNat 32 q.val)) (∑ x, qc (ix4 b q h x) * (qs (ix3 b q h) * Ideal.ofBits .f32 0x3E000000#32) * (nc (ix4 b p h x) * ns (ix3 b h x))) (Ideal.ofBits .f32 0xFF800000#32)))
          (Sum.elim (fun p => vc (ix4 b p h d) * vs (ix3 b p h)) (fun p => uc (ix4 b p h d) * us (ix3 b p h))) := by
  rw [tail_split, hOut_two]
  refine (t151 _ _ rfl b q e).trans ?_
  rw [← hh, ← hd]
  refine (t148 _ _ rfl _ rfl _ rfl _ rfl b h q d).trans ?_
  have A1 := fun p => t123 W qc hqc kc hkc qs hqs ks hks n hn b h q p
  have A2 := fun p => t125 W qc hqc nc hnc qs hqs ns hns b h q p
  have A3 := fun p => t106 W vc hvc vs hvs b h p d
  have A4 := fun p => t98 W uc huc us hus b h p d
  have A5 := fun p => t133 (StableHlo.after (List.take 6 hostOps1_4) (StableHlo.after (hostOps1 ++ (hostOps1_1 ++ (hostOps1_2 ++ hostOps1_3))) W)) _ _ rfl rfl _ (keepA_v123 _) b h q p
  have A6 := fun p => t136 (StableHlo.after (List.take 6 hostOps1_4) (StableHlo.after (hostOps1 ++ (hostOps1_1 ++ (hostOps1_2 ++ hostOps1_3))) W)) _ _ rfl rfl _ (keepA_v125 _) b h q p
  have A7 := t127 (StableHlo.after (hostOps1 ++ (hostOps1_1 ++ (hostOps1_2 ++ hostOps1_3))) W) _ rfl b h q (fun t => t) (Finset.univ.fold max ⊥ fun p : Fin 16384 => Scalar.select (IntOp.cmpi .slt (BitVec.ofNat 32 p.val) (n (ix1 b))) (∑ x, qc (ix4 b q h x) * (qs (ix3 b q h) * Ideal.ofBits .f32 0x3E000000#32) * (kc (ix4 b p h x) * ks (ix3 b h x))) (Ideal.ofBits .f32 0xFF800000#32))
    (congrArg (fun z : Fin 16384 → EReal => Finset.univ.fold max ⊥ z) (funext fun p => (A1 p).symm))
  have A8 := t129 (StableHlo.after (hostOps1 ++ (hostOps1_1 ++ (hostOps1_2 ++ hostOps1_3))) W) _ rfl b h q (fun t => t) (Finset.univ.fold max ⊥ fun p : Fin 1024 => Scalar.select (IntOp.cmpi .sle (BitVec.ofNat 32 p.val) (BitVec.ofNat 32 q.val)) (∑ x, qc (ix4 b q h x) * (qs (ix3 b q h) * Ideal.ofBits .f32 0x3E000000#32) * (nc (ix4 b p h x) * ns (ix3 b h x))) (Ideal.ofBits .f32 0xFF800000#32))
    (congrArg (fun z : Fin 1024 → EReal => Finset.univ.fold max ⊥ z) (funext fun p => (A2 p).symm))
  have C1 := fun p => (A5 p).trans (congrArg Ideal.exp (congrArg₂ (fun a b : EReal => a - b) (A1 p) (congrArg₂ max A7 A8)))
  have C2 := fun p => (A6 p).trans (congrArg Ideal.exp (congrArg₂ (fun a b : EReal => a - b) (A2 p) (congrArg₂ max A7 A8)))
  have D1 := fun p => (congrFun ((keepB_v106 (StableHlo.after (List.take 6 hostOps1_4) (StableHlo.after (hostOps1 ++ (hostOps1_1 ++ (hostOps1_2 ++ hostOps1_3))) W))).trans (keepA_v106 _)) (ix4 b p h d)).trans (A3 p)
  have D2 := fun p => (congrFun ((keepB_v98 (StableHlo.after (List.take 6 hostOps1_4) (StableHlo.after (hostOps1 ++ (hostOps1_1 ++ (hostOps1_2 ++ hostOps1_3))) W))).trans (keepA_v98 _)) (ix4 b p h d)).trans (A4 p)
  exact congrArg₂ Ideal.div (congrArg₂ (fun a b : EReal => a + b) (Finset.sum_congr rfl fun p _ => congrArg₂ (fun a b : EReal => a * b) (C1 p) (D1 p)) (Finset.sum_congr rfl fun p _ => congrArg₂ (fun a b : EReal => a * b) (C2 p) (D2 p)))
    (congrArg₂ (fun a b : EReal => a + b) (Finset.sum_congr rfl fun p _ => C1 p) (Finset.sum_congr rfl fun p _ => C2 p))

/-- A code times its row's scale is the value. -/
theorem rdeq {N : ℕ} (hN : 0 < N) (f : Fin N → EReal) (hf : ∀ k, Small (f k)) (k : Fin N) :
    Quant.rcode (f k) (Finset.univ.fold max ⊥ fun k => max (f k) (-(f k))) * Quant.rscale (Finset.univ.fold max ⊥ fun k => max (f k) (-(f k))) = f k := by
  obtain ⟨t, ht, hs, hc⟩ := Quant.rquant hN f hf
  obtain ⟨r, hr, _⟩ := hf k
  rw [hs, hc k r hr, hr, ← EReal.coe_mul, mul_assoc, inv_mul_cancel₀ ht.ne', mul_one]

theorem sel_sle (j q : Fin 1024) (a b : EReal) : Scalar.select (IntOp.cmpi .sle (BitVec.ofNat 32 j.val) (BitVec.ofNat 32 q.val)) a b = if j.val ≤ q.val then a else b := by
  have hj := j.isLt
  have hq := q.isLt
  show Scalar.select (BitVec.ofBool (BitVec.sle (BitVec.ofNat 32 j.val) (BitVec.ofNat 32 q.val))) a b = _
  rw [BitVec.sle_eq_decide, toInt_small _ (by omega), toInt_small _ (by omega)]
  by_cases h : j.val ≤ q.val
  · rw [decide_eq_true (by exact_mod_cast h), if_pos h]; rfl
  · rw [decide_eq_false (by exact_mod_cast h), if_neg h]; rfl

variable (m : (ℓ : Loc nD τ sig) → Buf (Elt Ideal) ℓ)

theorem Wt_v84_0 (c : Dev nD) : (Pipeline.withArrays (cfgs 0).spec c (V0 m c) (fun w => (dats m 0 c).arrAt w (cfgs 0).N) (Proc.devRef .tc main_v84_0) : S8x1024x64x64.Idx → EReal)
    = (V m c (Pipeline.arrRef spec0 0) : S8x1024x64x64.Idx → EReal) :=
  (Pipeline.withArrays_arr (cfgs 0).spec (by decide) c (V0 m c) (fun w => (dats m 0 c).arrAt w (cfgs 0).N) 5).trans (cast5 m c)

theorem Wt_v84_1 (c : Dev nD) : (Pipeline.withArrays (cfgs 0).spec c (V0 m c) (fun w => (dats m 0 c).arrAt w (cfgs 0).N) (Proc.devRef .tc main_v84_1) : S8x1024x64x64.Idx → EReal)
    = (V m c (Pipeline.arrRef spec0 1) : S8x1024x64x64.Idx → EReal) :=
  (Pipeline.withArrays_arr (cfgs 0).spec (by decide) c (V0 m c) (fun w => (dats m 0 c).arrAt w (cfgs 0).N) 6).trans (cast6 m c)

theorem Wt_v84_2 (c : Dev nD) : (Pipeline.withArrays (cfgs 0).spec c (V0 m c) (fun w => (dats m 0 c).arrAt w (cfgs 0).N) (Proc.devRef .tc main_v84_2) : S8x1024x64x64.Idx → EReal)
    = (V m c (Pipeline.arrRef spec0 2) : S8x1024x64x64.Idx → EReal) :=
  (Pipeline.withArrays_arr (cfgs 0).spec (by decide) c (V0 m c) (fun w => (dats m 0 c).arrAt w (cfgs 0).N) 7).trans (cast7 m c)

theorem Wt_v84_3 (c : Dev nD) : (Pipeline.withArrays (cfgs 0).spec c (V0 m c) (fun w => (dats m 0 c).arrAt w (cfgs 0).N) (Proc.devRef .tc main_v84_3) : S8x16384x64x64.Idx → EReal)
    = (V m c (Pipeline.arrRef spec0 3) : S8x16384x64x64.Idx → EReal) :=
  (Pipeline.withArrays_arr (cfgs 0).spec (by decide) c (V0 m c) (fun w => (dats m 0 c).arrAt w (cfgs 0).N) 8).trans (cast8 m c)

theorem Wt_v84_4 (c : Dev nD) : (Pipeline.withArrays (cfgs 0).spec c (V0 m c) (fun w => (dats m 0 c).arrAt w (cfgs 0).N) (Proc.devRef .tc main_v84_4) : S8x16384x64x64.Idx → EReal)
    = (V m c (Pipeline.arrRef spec0 4) : S8x16384x64x64.Idx → EReal) :=
  (Pipeline.withArrays_arr (cfgs 0).spec (by decide) c (V0 m c) (fun w => (dats m 0 c).arrAt w (cfgs 0).N) 9).trans (cast9 m c)

theorem Wt_v27 (c : Dev nD) : (Pipeline.withArrays (cfgs 0).spec c (V0 m c) (fun w => (dats m 0 c).arrAt w (cfgs 0).N) (Proc.devRef .tc main_v27) : S8x1024x64.Idx → EReal)
    = (V0 m c (Proc.devRef .tc main_v27) : S8x1024x64.Idx → EReal) :=
  Pipeline.withArrays_of_ne _ c (V0 m c) _ main_v27 (by exact (by decide : ∀ w, Pipeline.arrRef spec0 w ≠ main_v27))

theorem Wt_v55 (c : Dev nD) : (Pipeline.withArrays (cfgs 0).spec c (V0 m c) (fun w => (dats m 0 c).arrAt w (cfgs 0).N) (Proc.devRef .tc main_v55) : S8x64x64.Idx → EReal)
    = (V0 m c (Proc.devRef .tc main_v55) : S8x64x64.Idx → EReal) :=
  Pipeline.withArrays_of_ne _ c (V0 m c) _ main_v55 (by exact (by decide : ∀ w, Pipeline.arrRef spec0 w ≠ main_v55))

theorem Wt_v83 (c : Dev nD) : (Pipeline.withArrays (cfgs 0).spec c (V0 m c) (fun w => (dats m 0 c).arrAt w (cfgs 0).N) (Proc.devRef .tc main_v83) : S8x1024x64.Idx → EReal)
    = (V0 m c (Proc.devRef .tc main_v83) : S8x1024x64.Idx → EReal) :=
  Pipeline.withArrays_of_ne _ c (V0 m c) _ main_v83 (by exact (by decide : ∀ w, Pipeline.arrRef spec0 w ≠ main_v83))

theorem Wt_arg5 (c : Dev nD) : (Pipeline.withArrays (cfgs 0).spec c (V0 m c) (fun w => (dats m 0 c).arrAt w (cfgs 0).N) (Proc.devRef .tc main_arg5) : S8x64x64.Idx → EReal)
    = (V0 m c (Proc.devRef .tc main_arg5) : S8x64x64.Idx → EReal) :=
  Pipeline.withArrays_of_ne _ c (V0 m c) _ main_arg5 (by exact (by decide : ∀ w, Pipeline.arrRef spec0 w ≠ main_arg5))

theorem Wt_arg6 (c : Dev nD) : (Pipeline.withArrays (cfgs 0).spec c (V0 m c) (fun w => (dats m 0 c).arrAt w (cfgs 0).N) (Proc.devRef .tc main_arg6) : S8x16384x64.Idx → EReal)
    = (V0 m c (Proc.devRef .tc main_arg6) : S8x16384x64.Idx → EReal) :=
  Pipeline.withArrays_of_ne _ c (V0 m c) _ main_arg6 (by exact (by decide : ∀ w, Pipeline.arrRef spec0 w ≠ main_arg6))

theorem Wt_arg7 (c : Dev nD) : (Pipeline.withArrays (cfgs 0).spec c (V0 m c) (fun w => (dats m 0 c).arrAt w (cfgs 0).N) (Proc.devRef .tc main_arg7) : S8.Idx → BitVec 32)
    = (V0 m c (Proc.devRef .tc main_arg7) : S8.Idx → BitVec 32) :=
  Pipeline.withArrays_of_ne _ c (V0 m c) _ main_arg7 (by exact (by decide : ∀ w, Pipeline.arrRef spec0 w ≠ main_arg7))

/-- The reference's result at batch entry `b`, query `q` and column `e` is the formula's value at head `e / 64`. -/
theorem value (c : Dev nD) (x0 : S8x1024x64x64.Idx → EReal) (hx0 : m ((c : Thread nD τ).loc main_arg0) = x0) (x1 : S8x1024x64x64.Idx → EReal) (hx1 : m ((c : Thread nD τ).loc main_arg1) = x1) (x2 : S8x1024x64x64.Idx → EReal) (hx2 : m ((c : Thread nD τ).loc main_arg2) = x2) (x3 : S8x16384x64x64.Idx → EReal) (hx3 : m ((c : Thread nD τ).loc main_arg3) = x3) (x4 : S8x16384x64x64.Idx → EReal) (hx4 : m ((c : Thread nD τ).loc main_arg4) = x4) (x5 : S8x64x64.Idx → EReal) (hx5 : m ((c : Thread nD τ).loc main_arg5) = x5) (x6 : S8x16384x64.Idx → EReal) (hx6 : m ((c : Thread nD τ).loc main_arg6) = x6) (x7 : S8.Idx → BitVec 32) (hx7 : m ((c : Thread nD τ).loc main_arg7) = x7)
    (s0 : ∀ i, Small (x0 i)) (s1 : ∀ i, Small (x1 i)) (s2 : ∀ i, Small (x2 i))
    (b : Fin 8) (q : Fin 1024) (e : Fin 4096) (h d : Fin 64) (hh : h = ⟨e.val / 64, by omega⟩) (hd : d = ⟨e.val % 64, by omega⟩) :
    (Pipeline.afterTail₀ cfgs (dats m) 0 (V0 m) [hostOps1, hostOps1_1, hostOps1_2, hostOps1_3, hostOps1_4] c main_v151 : S8x1024x4096.Idx → EReal) (ix3 b q e)
      = Formula.outF (fun b j h d => x0 (ix4 b j h d)) (fun b j h d => x1 (ix4 b j h d)) (fun b j h d => x2 (ix4 b j h d)) (fun b p h d => x3 (ix4 b p h d)) (fun b p h d => x4 (ix4 b p h d))
          (fun b h d => x5 (ix3 b h d)) (fun b p h => x6 (ix3 b p h)) (fun b => x7 (ix1 b)) b q h d := by
  obtain ⟨qc, hqc⟩ : ∃ z : S8x1024x64x64.Idx → EReal, V m c (Pipeline.arrRef spec0 0) = z := ⟨_, rfl⟩
  obtain ⟨nc, hnc⟩ : ∃ z : S8x1024x64x64.Idx → EReal, V m c (Pipeline.arrRef spec0 1) = z := ⟨_, rfl⟩
  obtain ⟨uc, huc⟩ : ∃ z : S8x1024x64x64.Idx → EReal, V m c (Pipeline.arrRef spec0 2) = z := ⟨_, rfl⟩
  obtain ⟨qs, hqs⟩ : ∃ z : S8x1024x64.Idx → EReal, V0 m c (Proc.devRef .tc main_v27) = z := ⟨_, rfl⟩
  obtain ⟨ns, hns⟩ : ∃ z : S8x64x64.Idx → EReal, V0 m c (Proc.devRef .tc main_v55) = z := ⟨_, rfl⟩
  obtain ⟨us, hus⟩ : ∃ z : S8x1024x64.Idx → EReal, V0 m c (Proc.devRef .tc main_v83) = z := ⟨_, rfl⟩
  unfold Pipeline.afterTail₀
  refine (tail_value _ qc ((Wt_v84_0 m c).trans hqc) qs ((Wt_v27 m c).trans hqs) nc ((Wt_v84_1 m c).trans hnc) ns ((Wt_v55 m c).trans hns) uc ((Wt_v84_2 m c).trans huc) us ((Wt_v83 m c).trans hus)
    x3 ((Wt_v84_3 m c).trans ((V_main_arg3 m c).trans hx3)) x5 ((Wt_arg5 m c).trans ((V_main_arg5 m c).trans hx5))
    x4 ((Wt_v84_4 m c).trans ((V_main_arg4 m c).trans hx4)) x6 ((Wt_arg6 m c).trans ((V_main_arg6 m c).trans hx6)) x7 ((Wt_arg7 m c).trans ((V_main_arg7 m c).trans hx7)) b q e h d hh hd).trans ?_
  unfold Formula.outF
  have Q : ∀ x : Fin 64, qc (ix4 b q h x) * (qs (ix3 b q h) * Ideal.ofBits .f32 0x3E000000#32) = x0 (ix4 b q h x) * Ideal.ofBits .f32 0x3E000000#32 := fun x => by
    have h1 := (congrFun hqc (ix4 b q h x)).symm.trans (q_codes m c x0 hx0 b q h x)
    have h2 := (congrFun hqs (ix3 b q h)).symm.trans (q_scales m c x0 hx0 b q h)
    rw [h1, h2, ← mul_assoc, rdeq (by decide) (fun k => x0 (ix4 b q h k)) (fun k => s0 _) x]
  have K : ∀ (p : Fin 1024) (x : Fin 64), nc (ix4 b p h x) * ns (ix3 b h x) = x1 (ix4 b p h x) := fun p x => by
    have h1 := (congrFun hnc (ix4 b p h x)).symm.trans (k_codes m c x1 hx1 b p h x)
    have h2 := (congrFun hns (ix3 b h x)).symm.trans (k_scales m c x1 hx1 b h x)
    rw [h1, h2]
    exact rdeq (by decide) (fun k => x1 (ix4 b k h x)) (fun k => s1 _) p
  have U : ∀ p : Fin 1024, uc (ix4 b p h d) * us (ix3 b p h) = x2 (ix4 b p h d) := fun p => by
    have h1 := (congrFun huc (ix4 b p h d)).symm.trans (v_codes m c x2 hx2 b p h d)
    have h2 := (congrFun hus (ix3 b p h)).symm.trans (v_scales m c x2 hx2 b p h)
    rw [h1, h2]
    exact rdeq (by decide) (fun k => x2 (ix4 b p h k)) (fun k => s2 _) d
  refine congrArg₂ hOut ?_ ?_
  · funext k
    cases k with
    | inl p =>
      show Scalar.select _ _ _ = Scalar.select _ _ _
      rw [Quant.neg_inf]
      refine congrArg (fun z => Scalar.select _ z _) (Finset.sum_congr rfl fun x _ => ?_)
      rw [Q x]
      exact mul_comm _ _
    | inr j =>
      show Scalar.select _ _ _ = if j.val ≤ q.val then _ else ⊥
      rw [Quant.neg_inf, sel_sle]
      refine congrArg (fun z => if j.val ≤ q.val then z else ⊥) (Finset.sum_congr rfl fun x _ => ?_)
      rw [Q x, K j x]
      exact mul_comm _ _
  · funext k
    cases k with
    | inl p => rfl
    | inr j => exact U j

end Cert.ReferenceIdeal.Gen
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_fits
public import proofs.«01_k».proof.Proof.Gen.Pre_needs
public import proofs.«01_k».proof.Proof.Pre
public import proofs.«01_k».proof.Proof.Needs
public import proofs.«01_k».proof.Proof.Kernel.Frame
public import proofs.«01_k».proof.Proof.Kernel.Hyps
public import proofs.«01_k».proof.Proof.KernelIdeal.Frame
public import proofs.«01_k».proof.Proof.KernelIdeal.Hyps
public import proofs.«01_k».proof.Proof.KernelIdeal.Out
public import proofs.«01_k».proof.Proof.ReferenceIdeal.Value
public import Idealize.ShloMosaic.Adequacy
public import Idealize.ShloMosaic.Init

@[expose] public section

set_option maxHeartbeats 1000000

noncomputable section

/-! The claims about the kernel: both readings of it and of the reference terminate with their arguments unchanged, the
idealized program differs from the printed one by the named mask constant alone, and over the extended reals the kernel's
result array is the reference's. -/

namespace Cert.Proof

open Idealize.ShloMosaic Idealize.SL.Sem

/-- The idealized kernel's run: its result array is the formula's, its arguments are unchanged. -/
theorem kernel_run (m : (ℓ : Loc Cert.KernelIdeal.nD Cert.KernelIdeal.τ Cert.KernelIdeal.sig) → Buf (Elt Ideal) ℓ) (g : Dev Cert.KernelIdeal.nD → PrngReg)
    (hO : Cert.KernelIdeal.Gen.Ok m) (hH : Cert.KernelIdeal.Gen.Hyps m hO)
    (hlen : ∀ i : Cert.KernelIdeal.S8.Idx, BitVec.toInt ((m (((0 : Dev Cert.KernelIdeal.nD).tc : Thread Cert.KernelIdeal.nD Cert.KernelIdeal.τ).loc Cert.KernelIdeal.main_arg7) : Cert.KernelIdeal.S8.Idx → BitVec 32) i) ≤ 16384)
    (s0 : ∀ (c : Dev Cert.KernelIdeal.nD) (i : Cert.KernelIdeal.S8x1024x64x64.Idx), Cert.KernelIdeal.Gen.Small (m ((c.tc : Thread Cert.KernelIdeal.nD Cert.KernelIdeal.τ).loc Cert.KernelIdeal.main_arg0) i))
    (s1 : ∀ (c : Dev Cert.KernelIdeal.nD) (i : Cert.KernelIdeal.S8x1024x64x64.Idx), Cert.KernelIdeal.Gen.Small (m ((c.tc : Thread Cert.KernelIdeal.nD Cert.KernelIdeal.τ).loc Cert.KernelIdeal.main_arg1) i))
    (s2 : ∀ (c : Dev Cert.KernelIdeal.nD) (i : Cert.KernelIdeal.S8x1024x64x64.Idx), Cert.KernelIdeal.Gen.Small (m ((c.tc : Thread Cert.KernelIdeal.nD Cert.KernelIdeal.τ).loc Cert.KernelIdeal.main_arg2) i)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v6_0) = Cert.KernelIdeal.Gen.outK m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) := by
  have ht := Cert.KernelIdeal.Gen.V_main_arg7 m 0
  have hk := θ_run_and (Cert.KernelIdeal.Gen.unchanged m g hO hH) (Cert.KernelIdeal.Gen.run_main m g hO hH)
  refine (θ_run _ _ _).mono (fun r h c => ⟨?_, h.1 c⟩) hk
  have hc : c = 0 := Subsingleton.elim (α := Fin 1) c 0
  subst hc
  have h7 := (h.2 0).1 7
  refine ((Pipeline.Dat.toRForget_arrAt_iff _ (by rfl) _ _).1 h7).trans ?_
  exact Cert.KernelIdeal.Gen.final m hO hH 0 (fun i => (congrArg BitVec.toInt (congrFun ht i)).trans_le (hlen i)) ht (s0 0) (s1 0) (s2 0)

/-- The reference's run: its result is the formula's value of the same arguments. -/
theorem reference_run (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (s0 : ∀ i : Cert.KernelIdeal.S8x1024x64x64.Idx, Cert.KernelIdeal.Gen.Small (m ((c.tc : Thread Cert.KernelIdeal.nD Cert.KernelIdeal.τ).loc Cert.KernelIdeal.main_arg0) i))
    (s1 : ∀ i : Cert.KernelIdeal.S8x1024x64x64.Idx, Cert.KernelIdeal.Gen.Small (m ((c.tc : Thread Cert.KernelIdeal.nD Cert.KernelIdeal.τ).loc Cert.KernelIdeal.main_arg1) i))
    (s2 : ∀ i : Cert.KernelIdeal.S8x1024x64x64.Idx, Cert.KernelIdeal.Gen.Small (m ((c.tc : Thread Cert.KernelIdeal.nD Cert.KernelIdeal.τ).loc Cert.KernelIdeal.main_arg2) i))
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    (Pipeline.afterTail₀ Cert.ReferenceIdeal.cfgs (Cert.ReferenceIdeal.Gen.dats m') 0 (Cert.ReferenceIdeal.Gen.V0 m')
        [Cert.ReferenceIdeal.Gen.hostOps1, Cert.ReferenceIdeal.Gen.hostOps1_1, Cert.ReferenceIdeal.Gen.hostOps1_2, Cert.ReferenceIdeal.Gen.hostOps1_3, Cert.ReferenceIdeal.Gen.hostOps1_4] c Cert.ReferenceIdeal.main_v151
      : Cert.KernelIdeal.S8x1024x4096.Idx → EReal) = Cert.KernelIdeal.Gen.outK m c := by
  obtain ⟨e0, e1, e2, e3, e4, e5, e6, e7⟩ := e
  funext y
  obtain ⟨b, q, x, rfl⟩ : ∃ (b : Fin 8) (q : Fin 1024) (x : Fin 4096), y = ix3 b q x := ⟨y 0, y 1, y 2, by
    funext a
    match a with
    | ⟨0, _⟩ => rfl
    | ⟨1, _⟩ => rfl
    | ⟨2, _⟩ => rfl⟩
  refine (Cert.ReferenceIdeal.Gen.value m' c _ e0 _ e1 _ e2 _ e3 _ e4 _ e5 _ e6 _ e7 s0 s1 s2 b q x _ _ rfl rfl).trans ?_
  exact (Cert.KernelIdeal.Gen.outK_at m c b q x _ _ rfl rfl).symm

/-- Every claim of the certificate. -/
theorem claim : Cert.Claim :=
  ⟨Cert.Kernel.Gen.facts, Cert.KernelIdeal.Gen.facts, Cert.ReferenceIdeal.Gen.facts, Cert.Pre_fits.Gen.facts, Cert.Pre_needs.Gen.facts,
    fun m g h => Cert.Kernel.Gen.frame m g (Cert.Kernel.Gen.ok_all m)
      (Cert.Kernel.Gen.hyps_of m (fun i => Cert.Pre.fits_len (h 0) i)),
    fun m g h => Cert.KernelIdeal.Gen.frame m g (Cert.KernelIdeal.Gen.ok_all m)
      (Cert.KernelIdeal.Gen.hyps_of m (fun i => Cert.Pre.fits_len (h 0) i)),
    fun m g h => Cert.KernelIdeal.Gen.frame m g (Cert.KernelIdeal.Gen.ok_all m)
      (Cert.KernelIdeal.Gen.hyps_of m (fun i => Cert.Pre.needs_len (h 0) i)),
    fun m g _ => Cert.ReferenceIdeal.Gen.frame m g,
    fun m g _ => Cert.ReferenceIdeal.Gen.frame m g,
    IdealRules.named_const.statement Cert.KernelIdeal.κ "mask" .f32 0xF149F2CA#32 ⊥ rfl,
    fun m g m' g' h e => by
      refine ⟨fun c => Cert.KernelIdeal.Gen.outK m c, ?_, ?_⟩
      · exact kernel_run m g (Cert.KernelIdeal.Gen.ok_all m) (Cert.KernelIdeal.Gen.hyps_of m (fun i => Cert.Pre.needs_len (h 0) i)) (fun i => Cert.Pre.needs_len (h 0) i)
          (fun c i => (Cert.Pre.needs_fin (h c) i).1) (fun c i => (Cert.Pre.needs_fin (h c) i).2.1) (fun c i => (Cert.Pre.needs_fin (h c) i).2.2)
      · have hr := θ_run_and (Cert.ReferenceIdeal.Gen.unchanged m' g') (Cert.ReferenceIdeal.Gen.run_main m' g')
        refine (θ_run _ _ _).mono (fun r hh c => ⟨?_, hh.1 c⟩) hr
        refine ((hh.2 c).2 Cert.ReferenceIdeal.main_v151 (Pipeline.mem_restRefs_of Cert.ReferenceIdeal.main_v151 (by decide) (by decide))).trans ?_
        exact reference_run m m' c (fun i => (Cert.Pre.needs_fin (h c) i).1) (fun i => (Cert.Pre.needs_fin (h c) i).2.1) (fun i => (Cert.Pre.needs_fin (h c) i).2.2) (e c)⟩

end Cert.Proof

end
